-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnRefIdeal (m : (ℓ : Loc Cert.ProjLnRefIdeal.nD Cert.ProjLnRefIdeal.τ Cert.ProjLnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_RwProj (m : (ℓ : Loc Cert.RwProj.nD Cert.RwProj.τ Cert.RwProj.sig) → Buf (Elt Bits) ℓ) : Prop :=
  True

def Pre_RwProjIdeal (m : (ℓ : Loc Cert.RwProjIdeal.nD Cert.RwProjIdeal.τ Cert.RwProjIdeal.sig) → Buf (Elt Ideal) ℓ) : Prop :=
  True

def Pre_RwProjRefIdeal (m : (ℓ : Loc Cert.RwProjRefIdeal.nD Cert.RwProjRefIdeal.τ Cert.RwProjRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_BiasTiles (m : (ℓ : Loc Cert.BiasTiles.nD Cert.BiasTiles.τ Cert.BiasTiles.sig) → Buf (Elt Bits) ℓ) : Prop :=
  True

def Pre_BiasTilesIdeal (m : (ℓ : Loc Cert.BiasTilesIdeal.nD Cert.BiasTilesIdeal.τ Cert.BiasTilesIdeal.sig) → Buf (Elt Ideal) ℓ) : Prop :=
  True

def Pre_BiasTilesIdeal_finite_last [hPre_finite_last : Cert.Pre_finite_last.Facts] (m : (ℓ : Loc Cert.BiasTilesIdeal.nD Cert.BiasTilesIdeal.τ Cert.BiasTilesIdeal.sig) → Buf (Elt Ideal) ℓ) : Prop :=
  ∀ c : Dev Cert.BiasTilesIdeal.nD,
    (Cert.Pre_finite_last.fn (F := Ideal) (m ((c.tc : Thread Cert.BiasTilesIdeal.nD Cert.BiasTilesIdeal.τ).loc Cert.BiasTilesIdeal.main_arg0))) = (fun _ => 1#1)

def Pre_BiasTilesRefIdeal (m : (ℓ : Loc Cert.BiasTilesRefIdeal.nD Cert.BiasTilesRefIdeal.τ Cert.BiasTilesRefIdeal.sig) → Buf (Elt Ideal) ℓ) : Prop :=
  True

def Pre_BiasTilesRefIdeal_finite_last [hPre_finite_last : Cert.Pre_finite_last.Facts] (m : (ℓ : Loc Cert.BiasTilesRefIdeal.nD Cert.BiasTilesRefIdeal.τ Cert.BiasTilesRefIdeal.sig) → Buf (Elt Ideal) ℓ) : Prop :=
  ∀ c : Dev Cert.BiasTilesRefIdeal.nD,
    (Cert.Pre_finite_last.fn (F := Ideal) (m ((c.tc : Thread Cert.BiasTilesRefIdeal.nD Cert.BiasTilesRefIdeal.τ).loc Cert.BiasTilesRefIdeal.main_arg0))) = (fun _ => 1#1)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ r.2.sem = fun _ => 0)

def quiescent_ProjLnRefIdeal [hProjLnRefIdeal : Cert.ProjLnRefIdeal.Facts] : Prop :=
  ∀ (m : (ℓ : Loc Cert.ProjLnRefIdeal.nD Cert.ProjLnRefIdeal.τ Cert.ProjLnRefIdeal.sig) → Buf (Elt Ideal) ℓ) (g : Dev Cert.ProjLnRefIdeal.nD → PrngReg), Pre_ProjLnRefIdeal m →
    θ_run (Cert.ProjLnRefIdeal.defs (F := Ideal)) (onTc (τ := Cert.ProjLnRefIdeal.τ) (Cert.ProjLnRefIdeal.main (F := Ideal))) ⟨m, fun _ => 0, g⟩ (fun r => (∀ c : Dev Cert.ProjLnRefIdeal.nD,
      r.2.mem ((c.tc : Thread Cert.ProjLnRefIdeal.nD Cert.ProjLnRefIdeal.τ).loc Cert.ProjLnRefIdeal.main_arg0) = m ((c.tc : Thread Cert.ProjLnRefIdeal.nD Cert.ProjLnRefIdeal.τ).loc Cert.ProjLnRefIdeal.main_arg0)
      ∧ r.2.mem ((c.tc : Thread Cert.ProjLnRefIdeal.nD Cert.ProjLnRefIdeal.τ).loc Cert.ProjLnRefIdeal.main_arg1) = m ((c.tc : Thread Cert.ProjLnRefIdeal.nD Cert.ProjLnRefIdeal.τ).loc Cert.ProjLnRefIdeal.main_arg1)
      ∧ r.2.mem ((c.tc : Thread Cert.ProjLnRefIdeal.nD Cert.ProjLnRefIdeal.τ).loc Cert.ProjLnRefIdeal.main_arg2) = m ((c.tc : Thread Cert.ProjLnRefIdeal.nD Cert.ProjLnRefIdeal.τ).loc Cert.ProjLnRefIdeal.main_arg2)
      ∧ r.2.mem ((c.tc : Thread Cert.ProjLnRefIdeal.nD Cert.ProjLnRefIdeal.τ).loc Cert.ProjLnRefIdeal.main_arg3) = m ((c.tc : Thread Cert.ProjLnRefIdeal.nD Cert.ProjLnRefIdeal.τ).loc Cert.ProjLnRefIdeal.main_arg3)
      ∧ r.2.mem ((c.tc : Thread Cert.ProjLnRefIdeal.nD Cert.ProjLnRefIdeal.τ).loc Cert.ProjLnRefIdeal.main_arg4) = m ((c.tc : Thread Cert.ProjLnRefIdeal.nD Cert.ProjLnRefIdeal.τ).loc Cert.ProjLnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_RwProj [hRwProj : Cert.RwProj.Facts] : Prop :=
  ∀ (m : (ℓ : Loc Cert.RwProj.nD Cert.RwProj.τ Cert.RwProj.sig) → Buf (Elt Bits) ℓ) (g : Dev Cert.RwProj.nD → PrngReg), Pre_RwProj m →
    θ_run (Cert.RwProj.defs (F := Bits)) (onTc (τ := Cert.RwProj.τ) (Cert.RwProj.main (F := Bits))) ⟨m, fun _ => 0, g⟩ (fun r => (∀ c : Dev Cert.RwProj.nD,
      r.2.mem ((c.tc : Thread Cert.RwProj.nD Cert.RwProj.τ).loc Cert.RwProj.main_arg0) = m ((c.tc : Thread Cert.RwProj.nD Cert.RwProj.τ).loc Cert.RwProj.main_arg0)
      ∧ r.2.mem ((c.tc : Thread Cert.RwProj.nD Cert.RwProj.τ).loc Cert.RwProj.main_arg1) = m ((c.tc : Thread Cert.RwProj.nD Cert.RwProj.τ).loc Cert.RwProj.main_arg1)
      ∧ r.2.mem ((c.tc : Thread Cert.RwProj.nD Cert.RwProj.τ).loc Cert.RwProj.main_arg2) = m ((c.tc : Thread Cert.RwProj.nD Cert.RwProj.τ).loc Cert.RwProj.main_arg2)
      ∧ r.2.mem ((c.tc : Thread Cert.RwProj.nD Cert.RwProj.τ).loc Cert.RwProj.main_arg3) = m ((c.tc : Thread Cert.RwProj.nD Cert.RwProj.τ).loc Cert.RwProj.main_arg3)
      ∧ r.2.mem ((c.tc : Thread Cert.RwProj.nD Cert.RwProj.τ).loc Cert.RwProj.main_arg4) = m ((c.tc : Thread Cert.RwProj.nD Cert.RwProj.τ).loc Cert.RwProj.main_arg4)
      ∧ r.2.mem ((c.tc : Thread Cert.RwProj.nD Cert.RwProj.τ).loc Cert.RwProj.main_arg5) = m ((c.tc : Thread Cert.RwProj.nD Cert.RwProj.τ).loc Cert.RwProj.main_arg5)
      ∧ r.2.mem ((c.tc : Thread Cert.RwProj.nD Cert.RwProj.τ).loc Cert.RwProj.main_arg6) = m ((c.tc : Thread Cert.RwProj.nD Cert.RwProj.τ).loc Cert.RwProj.main_arg6)
      ∧ r.2.mem ((c.tc : Thread Cert.RwProj.nD Cert.RwProj.τ).loc Cert.RwProj.main_arg7) = m ((c.tc : Thread Cert.RwProj.nD Cert.RwProj.τ).loc Cert.RwProj.main_arg7)
      ∧ r.2.mem ((c.tc : Thread Cert.RwProj.nD Cert.RwProj.τ).loc Cert.RwProj.main_arg8) = m ((c.tc : Thread Cert.RwProj.nD Cert.RwProj.τ).loc Cert.RwProj.main_arg8)
      ∧ r.2.mem ((c.tc : Thread Cert.RwProj.nD Cert.RwProj.τ).loc Cert.RwProj.main_arg9) = m ((c.tc : Thread Cert.RwProj.nD Cert.RwProj.τ).loc Cert.RwProj.main_arg9)
      ∧ r.2.mem ((c.tc : Thread Cert.RwProj.nD Cert.RwProj.τ).loc Cert.RwProj.main_arg10) = m ((c.tc : Thread Cert.RwProj.nD Cert.RwProj.τ).loc Cert.RwProj.main_arg10))
      ∧ r.2.sem = fun _ => 0)

def quiescent_RwProjIdeal [hRwProjIdeal : Cert.RwProjIdeal.Facts] : Prop :=
  ∀ (m : (ℓ : Loc Cert.RwProjIdeal.nD Cert.RwProjIdeal.τ Cert.RwProjIdeal.sig) → Buf (Elt Ideal) ℓ) (g : Dev Cert.RwProjIdeal.nD → PrngReg), Pre_RwProjIdeal m →
    θ_run (Cert.RwProjIdeal.defs (F := Ideal)) (onTc (τ := Cert.RwProjIdeal.τ) (Cert.RwProjIdeal.main (F := Ideal))) ⟨m, fun _ => 0, g⟩ (fun r => (∀ c : Dev Cert.RwProjIdeal.nD,
      r.2.mem ((c.tc : Thread Cert.RwProjIdeal.nD Cert.RwProjIdeal.τ).loc Cert.RwProjIdeal.main_arg0) = m ((c.tc : Thread Cert.RwProjIdeal.nD Cert.RwProjIdeal.τ).loc Cert.RwProjIdeal.main_arg0)
      ∧ r.2.mem ((c.tc : Thread Cert.RwProjIdeal.nD Cert.RwProjIdeal.τ).loc Cert.RwProjIdeal.main_arg1) = m ((c.tc : Thread Cert.RwProjIdeal.nD Cert.RwProjIdeal.τ).loc Cert.RwProjIdeal.main_arg1)
      ∧ r.2.mem ((c.tc : Thread Cert.RwProjIdeal.nD Cert.RwProjIdeal.τ).loc Cert.RwProjIdeal.main_arg2) = m ((c.tc : Thread Cert.RwProjIdeal.nD Cert.RwProjIdeal.τ).loc Cert.RwProjIdeal.main_arg2)
      ∧ r.2.mem ((c.tc : Thread Cert.RwProjIdeal.nD Cert.RwProjIdeal.τ).loc Cert.RwProjIdeal.main_arg3) = m ((c.tc : Thread Cert.RwProjIdeal.nD Cert.RwProjIdeal.τ).loc Cert.RwProjIdeal.main_arg3)
      ∧ r.2.mem ((c.tc : Thread Cert.RwProjIdeal.nD Cert.RwProjIdeal.τ).loc Cert.RwProjIdeal.main_arg4) = m ((c.tc : Thread Cert.RwProjIdeal.nD Cert.RwProjIdeal.τ).loc Cert.RwProjIdeal.main_arg4)
      ∧ r.2.mem ((c.tc : Thread Cert.RwProjIdeal.nD Cert.RwProjIdeal.τ).loc Cert.RwProjIdeal.main_arg5) = m ((c.tc : Thread Cert.RwProjIdeal.nD Cert.RwProjIdeal.τ).loc Cert.RwProjIdeal.main_arg5)
      ∧ r.2.mem ((c.tc : Thread Cert.RwProjIdeal.nD Cert.RwProjIdeal.τ).loc Cert.RwProjIdeal.main_arg6) = m ((c.tc : Thread Cert.RwProjIdeal.nD Cert.RwProjIdeal.τ).loc Cert.RwProjIdeal.main_arg6)
      ∧ r.2.mem ((c.tc : Thread Cert.RwProjIdeal.nD Cert.RwProjIdeal.τ).loc Cert.RwProjIdeal.main_arg7) = m ((c.tc : Thread Cert.RwProjIdeal.nD Cert.RwProjIdeal.τ).loc Cert.RwProjIdeal.main_arg7)
      ∧ r.2.mem ((c.tc : Thread Cert.RwProjIdeal.nD Cert.RwProjIdeal.τ).loc Cert.RwProjIdeal.main_arg8) = m ((c.tc : Thread Cert.RwProjIdeal.nD Cert.RwProjIdeal.τ).loc Cert.RwProjIdeal.main_arg8)
      ∧ r.2.mem ((c.tc : Thread Cert.RwProjIdeal.nD Cert.RwProjIdeal.τ).loc Cert.RwProjIdeal.main_arg9) = m ((c.tc : Thread Cert.RwProjIdeal.nD Cert.RwProjIdeal.τ).loc Cert.RwProjIdeal.main_arg9)
      ∧ r.2.mem ((c.tc : Thread Cert.RwProjIdeal.nD Cert.RwProjIdeal.τ).loc Cert.RwProjIdeal.main_arg10) = m ((c.tc : Thread Cert.RwProjIdeal.nD Cert.RwProjIdeal.τ).loc Cert.RwProjIdeal.main_arg10))
      ∧ r.2.sem = fun _ => 0)

def quiescent_RwProjRefIdeal [hRwProjRefIdeal : Cert.RwProjRefIdeal.Facts] : Prop :=
  ∀ (m : (ℓ : Loc Cert.RwProjRefIdeal.nD Cert.RwProjRefIdeal.τ Cert.RwProjRefIdeal.sig) → Buf (Elt Ideal) ℓ) (g : Dev Cert.RwProjRefIdeal.nD → PrngReg), Pre_RwProjRefIdeal m →
    θ_run (Cert.RwProjRefIdeal.defs (F := Ideal)) (onTc (τ := Cert.RwProjRefIdeal.τ) (Cert.RwProjRefIdeal.main (F := Ideal))) ⟨m, fun _ => 0, g⟩ (fun r => (∀ c : Dev Cert.RwProjRefIdeal.nD,
      r.2.mem ((c.tc : Thread Cert.RwProjRefIdeal.nD Cert.RwProjRefIdeal.τ).loc Cert.RwProjRefIdeal.main_arg0) = m ((c.tc : Thread Cert.RwProjRefIdeal.nD Cert.RwProjRefIdeal.τ).loc Cert.RwProjRefIdeal.main_arg0)
      ∧ r.2.mem ((c.tc : Thread Cert.RwProjRefIdeal.nD Cert.RwProjRefIdeal.τ).loc Cert.RwProjRefIdeal.main_arg1) = m ((c.tc : Thread Cert.RwProjRefIdeal.nD Cert.RwProjRefIdeal.τ).loc Cert.RwProjRefIdeal.main_arg1)
      ∧ r.2.mem ((c.tc : Thread Cert.RwProjRefIdeal.nD Cert.RwProjRefIdeal.τ).loc Cert.RwProjRefIdeal.main_arg2) = m ((c.tc : Thread Cert.RwProjRefIdeal.nD Cert.RwProjRefIdeal.τ).loc Cert.RwProjRefIdeal.main_arg2)
      ∧ r.2.mem ((c.tc : Thread Cert.RwProjRefIdeal.nD Cert.RwProjRefIdeal.τ).loc Cert.RwProjRefIdeal.main_arg3) = m ((c.tc : Thread Cert.RwProjRefIdeal.nD Cert.RwProjRefIdeal.τ).loc Cert.RwProjRefIdeal.main_arg3)
      ∧ r.2.mem ((c.tc : Thread Cert.RwProjRefIdeal.nD Cert.RwProjRefIdeal.τ).loc Cert.RwProjRefIdeal.main_arg4) = m ((c.tc : Thread Cert.RwProjRefIdeal.nD Cert.RwProjRefIdeal.τ).loc Cert.RwProjRefIdeal.main_arg4)
      ∧ r.2.mem ((c.tc : Thread Cert.RwProjRefIdeal.nD Cert.RwProjRefIdeal.τ).loc Cert.RwProjRefIdeal.main_arg5) = m ((c.tc : Thread Cert.RwProjRefIdeal.nD Cert.RwProjRefIdeal.τ).loc Cert.RwProjRefIdeal.main_arg5)
      ∧ r.2.mem ((c.tc : Thread Cert.RwProjRefIdeal.nD Cert.RwProjRefIdeal.τ).loc Cert.RwProjRefIdeal.main_arg6) = m ((c.tc : Thread Cert.RwProjRefIdeal.nD Cert.RwProjRefIdeal.τ).loc Cert.RwProjRefIdeal.main_arg6)
      ∧ r.2.mem ((c.tc : Thread Cert.RwProjRefIdeal.nD Cert.RwProjRefIdeal.τ).loc Cert.RwProjRefIdeal.main_arg7) = m ((c.tc : Thread Cert.RwProjRefIdeal.nD Cert.RwProjRefIdeal.τ).loc Cert.RwProjRefIdeal.main_arg7)
      ∧ r.2.mem ((c.tc : Thread Cert.RwProjRefIdeal.nD Cert.RwProjRefIdeal.τ).loc Cert.RwProjRefIdeal.main_arg8) = m ((c.tc : Thread Cert.RwProjRefIdeal.nD Cert.RwProjRefIdeal.τ).loc Cert.RwProjRefIdeal.main_arg8)
      ∧ r.2.mem ((c.tc : Thread Cert.RwProjRefIdeal.nD Cert.RwProjRefIdeal.τ).loc Cert.RwProjRefIdeal.main_arg9) = m ((c.tc : Thread Cert.RwProjRefIdeal.nD Cert.RwProjRefIdeal.τ).loc Cert.RwProjRefIdeal.main_arg9)
      ∧ r.2.mem ((c.tc : Thread Cert.RwProjRefIdeal.nD Cert.RwProjRefIdeal.τ).loc Cert.RwProjRefIdeal.main_arg10) = m ((c.tc : Thread Cert.RwProjRefIdeal.nD Cert.RwProjRefIdeal.τ).loc Cert.RwProjRefIdeal.main_arg10))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1))
      ∧ r.2.sem = fun _ => 0)

def quiescent_BiasTiles [hBiasTiles : Cert.BiasTiles.Facts] : Prop :=
  ∀ (m : (ℓ : Loc Cert.BiasTiles.nD Cert.BiasTiles.τ Cert.BiasTiles.sig) → Buf (Elt Bits) ℓ) (g : Dev Cert.BiasTiles.nD → PrngReg), Pre_BiasTiles m →
    θ_run (Cert.BiasTiles.defs (F := Bits)) (onTc (τ := Cert.BiasTiles.τ) (Cert.BiasTiles.main (F := Bits))) ⟨m, fun _ => 0, g⟩ (fun r => (∀ c : Dev Cert.BiasTiles.nD,
      r.2.mem ((c.tc : Thread Cert.BiasTiles.nD Cert.BiasTiles.τ).loc Cert.BiasTiles.main_arg0) = m ((c.tc : Thread Cert.BiasTiles.nD Cert.BiasTiles.τ).loc Cert.BiasTiles.main_arg0))
      ∧ r.2.sem = fun _ => 0)

def quiescent_BiasTilesIdeal [hBiasTilesIdeal : Cert.BiasTilesIdeal.Facts] : Prop :=
  ∀ (m : (ℓ : Loc Cert.BiasTilesIdeal.nD Cert.BiasTilesIdeal.τ Cert.BiasTilesIdeal.sig) → Buf (Elt Ideal) ℓ) (g : Dev Cert.BiasTilesIdeal.nD → PrngReg), Pre_BiasTilesIdeal m →
    θ_run (Cert.BiasTilesIdeal.defs (F := Ideal)) (onTc (τ := Cert.BiasTilesIdeal.τ) (Cert.BiasTilesIdeal.main (F := Ideal))) ⟨m, fun _ => 0, g⟩ (fun r => (∀ c : Dev Cert.BiasTilesIdeal.nD,
      r.2.mem ((c.tc : Thread Cert.BiasTilesIdeal.nD Cert.BiasTilesIdeal.τ).loc Cert.BiasTilesIdeal.main_arg0) = m ((c.tc : Thread Cert.BiasTilesIdeal.nD Cert.BiasTilesIdeal.τ).loc Cert.BiasTilesIdeal.main_arg0))
      ∧ r.2.sem = fun _ => 0)

def quiescent_BiasTilesIdeal_pre_finite_last [hBiasTilesIdeal : Cert.BiasTilesIdeal.Facts] [hPre_finite_last : Cert.Pre_finite_last.Facts] : Prop :=
  ∀ (m : (ℓ : Loc Cert.BiasTilesIdeal.nD Cert.BiasTilesIdeal.τ Cert.BiasTilesIdeal.sig) → Buf (Elt Ideal) ℓ) (g : Dev Cert.BiasTilesIdeal.nD → PrngReg), Pre_BiasTilesIdeal_finite_last m →
    θ_run (Cert.BiasTilesIdeal.defs (F := Ideal)) (onTc (τ := Cert.BiasTilesIdeal.τ) (Cert.BiasTilesIdeal.main (F := Ideal))) ⟨m, fun _ => 0, g⟩ (fun r => (∀ c : Dev Cert.BiasTilesIdeal.nD,
      r.2.mem ((c.tc : Thread Cert.BiasTilesIdeal.nD Cert.BiasTilesIdeal.τ).loc Cert.BiasTilesIdeal.main_arg0) = m ((c.tc : Thread Cert.BiasTilesIdeal.nD Cert.BiasTilesIdeal.τ).loc Cert.BiasTilesIdeal.main_arg0))
      ∧ r.2.sem = fun _ => 0)

def quiescent_BiasTilesRefIdeal [hBiasTilesRefIdeal : Cert.BiasTilesRefIdeal.Facts] : Prop :=
  ∀ (m : (ℓ : Loc Cert.BiasTilesRefIdeal.nD Cert.BiasTilesRefIdeal.τ Cert.BiasTilesRefIdeal.sig) → Buf (Elt Ideal) ℓ) (g : Dev Cert.BiasTilesRefIdeal.nD → PrngReg), Pre_BiasTilesRefIdeal m →
    θ_run (Cert.BiasTilesRefIdeal.defs (F := Ideal)) (onTc (τ := Cert.BiasTilesRefIdeal.τ) (Cert.BiasTilesRefIdeal.main (F := Ideal))) ⟨m, fun _ => 0, g⟩ (fun r => (∀ c : Dev Cert.BiasTilesRefIdeal.nD,
      r.2.mem ((c.tc : Thread Cert.BiasTilesRefIdeal.nD Cert.BiasTilesRefIdeal.τ).loc Cert.BiasTilesRefIdeal.main_arg0) = m ((c.tc : Thread Cert.BiasTilesRefIdeal.nD Cert.BiasTilesRefIdeal.τ).loc Cert.BiasTilesRefIdeal.main_arg0))
      ∧ r.2.sem = fun _ => 0)

def quiescent_BiasTilesRefIdeal_pre_finite_last [hBiasTilesRefIdeal : Cert.BiasTilesRefIdeal.Facts] [hPre_finite_last : Cert.Pre_finite_last.Facts] : Prop :=
  ∀ (m : (ℓ : Loc Cert.BiasTilesRefIdeal.nD Cert.BiasTilesRefIdeal.τ Cert.BiasTilesRefIdeal.sig) → Buf (Elt Ideal) ℓ) (g : Dev Cert.BiasTilesRefIdeal.nD → PrngReg), Pre_BiasTilesRefIdeal_finite_last m →
    θ_run (Cert.BiasTilesRefIdeal.defs (F := Ideal)) (onTc (τ := Cert.BiasTilesRefIdeal.τ) (Cert.BiasTilesRefIdeal.main (F := Ideal))) ⟨m, fun _ => 0, g⟩ (fun r => (∀ c : Dev Cert.BiasTilesRefIdeal.nD,
      r.2.mem ((c.tc : Thread Cert.BiasTilesRefIdeal.nD Cert.BiasTilesRefIdeal.τ).loc Cert.BiasTilesRefIdeal.main_arg0) = m ((c.tc : Thread Cert.BiasTilesRefIdeal.nD Cert.BiasTilesRefIdeal.τ).loc Cert.BiasTilesRefIdeal.main_arg0))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v4)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v4) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v70) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v55) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_ProjLn_ProjLnIdeal : Prop :=
  True

def algebraic_ProjLnIdeal_ProjLnRefIdeal [hProjLnIdeal : Cert.ProjLnIdeal.Facts] [hProjLnRefIdeal : Cert.ProjLnRefIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnRefIdeal.nD Cert.ProjLnRefIdeal.τ Cert.ProjLnRefIdeal.sig) → Buf (Elt Ideal) ℓ) (g' : Dev Cert.ProjLnRefIdeal.nD → PrngReg), Pre_ProjLnIdeal m →
    (∀ c : Dev Cert.ProjLnIdeal.nD,
      m' ((c.tc : Thread Cert.ProjLnRefIdeal.nD Cert.ProjLnRefIdeal.τ).loc Cert.ProjLnRefIdeal.main_arg0) = m ((c.tc : Thread Cert.ProjLnIdeal.nD Cert.ProjLnIdeal.τ).loc Cert.ProjLnIdeal.main_arg0)
      ∧ m' ((c.tc : Thread Cert.ProjLnRefIdeal.nD Cert.ProjLnRefIdeal.τ).loc Cert.ProjLnRefIdeal.main_arg1) = m ((c.tc : Thread Cert.ProjLnIdeal.nD Cert.ProjLnIdeal.τ).loc Cert.ProjLnIdeal.main_arg1)
      ∧ m' ((c.tc : Thread Cert.ProjLnRefIdeal.nD Cert.ProjLnRefIdeal.τ).loc Cert.ProjLnRefIdeal.main_arg2) = m ((c.tc : Thread Cert.ProjLnIdeal.nD Cert.ProjLnIdeal.τ).loc Cert.ProjLnIdeal.main_arg2)
      ∧ m' ((c.tc : Thread Cert.ProjLnRefIdeal.nD Cert.ProjLnRefIdeal.τ).loc Cert.ProjLnRefIdeal.main_arg3) = m ((c.tc : Thread Cert.ProjLnIdeal.nD Cert.ProjLnIdeal.τ).loc Cert.ProjLnIdeal.main_arg3)
      ∧ m' ((c.tc : Thread Cert.ProjLnRefIdeal.nD Cert.ProjLnRefIdeal.τ).loc Cert.ProjLnRefIdeal.main_arg4) = m ((c.tc : Thread Cert.ProjLnIdeal.nD Cert.ProjLnIdeal.τ).loc Cert.ProjLnIdeal.main_arg4)) →
    ∃ (v0 : (c : Dev Cert.ProjLnIdeal.nD) → Buf (Elt Ideal) ((c.tc : Thread Cert.ProjLnIdeal.nD Cert.ProjLnIdeal.τ).loc Cert.ProjLnIdeal.main_v3)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v3) = v0 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ θ_run (Cert.ProjLnRefIdeal.defs (F := Ideal)) (onTc (τ := Cert.ProjLnRefIdeal.τ) (Cert.ProjLnRefIdeal.main (F := Ideal))) ⟨m', fun _ => 0, g'⟩ (fun r => ∀ c : Dev Cert.ProjLnRefIdeal.nD,
          r.2.mem ((c.tc : Thread Cert.ProjLnRefIdeal.nD Cert.ProjLnRefIdeal.τ).loc Cert.ProjLnRefIdeal.main_v28) = v0 c
          ∧ r.2.mem ((c.tc : Thread Cert.ProjLnRefIdeal.nD Cert.ProjLnRefIdeal.τ).loc Cert.ProjLnRefIdeal.main_arg0) = m' ((c.tc : Thread Cert.ProjLnRefIdeal.nD Cert.ProjLnRefIdeal.τ).loc Cert.ProjLnRefIdeal.main_arg0)
          ∧ r.2.mem ((c.tc : Thread Cert.ProjLnRefIdeal.nD Cert.ProjLnRefIdeal.τ).loc Cert.ProjLnRefIdeal.main_arg1) = m' ((c.tc : Thread Cert.ProjLnRefIdeal.nD Cert.ProjLnRefIdeal.τ).loc Cert.ProjLnRefIdeal.main_arg1)
          ∧ r.2.mem ((c.tc : Thread Cert.ProjLnRefIdeal.nD Cert.ProjLnRefIdeal.τ).loc Cert.ProjLnRefIdeal.main_arg2) = m' ((c.tc : Thread Cert.ProjLnRefIdeal.nD Cert.ProjLnRefIdeal.τ).loc Cert.ProjLnRefIdeal.main_arg2)
          ∧ r.2.mem ((c.tc : Thread Cert.ProjLnRefIdeal.nD Cert.ProjLnRefIdeal.τ).loc Cert.ProjLnRefIdeal.main_arg3) = m' ((c.tc : Thread Cert.ProjLnRefIdeal.nD Cert.ProjLnRefIdeal.τ).loc Cert.ProjLnRefIdeal.main_arg3)
          ∧ r.2.mem ((c.tc : Thread Cert.ProjLnRefIdeal.nD Cert.ProjLnRefIdeal.τ).loc Cert.ProjLnRefIdeal.main_arg4) = m' ((c.tc : Thread Cert.ProjLnRefIdeal.nD Cert.ProjLnRefIdeal.τ).loc Cert.ProjLnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v7) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_RwProj_RwProjIdeal : Prop :=
  True

def algebraic_RwProjIdeal_RwProjRefIdeal [hRwProjIdeal : Cert.RwProjIdeal.Facts] [hRwProjRefIdeal : Cert.RwProjRefIdeal.Facts] : Prop :=
  ∀ (m : (ℓ : Loc Cert.RwProjIdeal.nD Cert.RwProjIdeal.τ Cert.RwProjIdeal.sig) → Buf (Elt Ideal) ℓ) (g : Dev Cert.RwProjIdeal.nD → PrngReg)
    (m' : (ℓ : Loc Cert.RwProjRefIdeal.nD Cert.RwProjRefIdeal.τ Cert.RwProjRefIdeal.sig) → Buf (Elt Ideal) ℓ) (g' : Dev Cert.RwProjRefIdeal.nD → PrngReg), Pre_RwProjIdeal m →
    (∀ c : Dev Cert.RwProjIdeal.nD,
      m' ((c.tc : Thread Cert.RwProjRefIdeal.nD Cert.RwProjRefIdeal.τ).loc Cert.RwProjRefIdeal.main_arg0) = m ((c.tc : Thread Cert.RwProjIdeal.nD Cert.RwProjIdeal.τ).loc Cert.RwProjIdeal.main_arg0)
      ∧ m' ((c.tc : Thread Cert.RwProjRefIdeal.nD Cert.RwProjRefIdeal.τ).loc Cert.RwProjRefIdeal.main_arg1) = m ((c.tc : Thread Cert.RwProjIdeal.nD Cert.RwProjIdeal.τ).loc Cert.RwProjIdeal.main_arg1)
      ∧ m' ((c.tc : Thread Cert.RwProjRefIdeal.nD Cert.RwProjRefIdeal.τ).loc Cert.RwProjRefIdeal.main_arg2) = m ((c.tc : Thread Cert.RwProjIdeal.nD Cert.RwProjIdeal.τ).loc Cert.RwProjIdeal.main_arg2)
      ∧ m' ((c.tc : Thread Cert.RwProjRefIdeal.nD Cert.RwProjRefIdeal.τ).loc Cert.RwProjRefIdeal.main_arg3) = m ((c.tc : Thread Cert.RwProjIdeal.nD Cert.RwProjIdeal.τ).loc Cert.RwProjIdeal.main_arg3)
      ∧ m' ((c.tc : Thread Cert.RwProjRefIdeal.nD Cert.RwProjRefIdeal.τ).loc Cert.RwProjRefIdeal.main_arg4) = m ((c.tc : Thread Cert.RwProjIdeal.nD Cert.RwProjIdeal.τ).loc Cert.RwProjIdeal.main_arg4)
      ∧ m' ((c.tc : Thread Cert.RwProjRefIdeal.nD Cert.RwProjRefIdeal.τ).loc Cert.RwProjRefIdeal.main_arg5) = m ((c.tc : Thread Cert.RwProjIdeal.nD Cert.RwProjIdeal.τ).loc Cert.RwProjIdeal.main_arg5)
      ∧ m' ((c.tc : Thread Cert.RwProjRefIdeal.nD Cert.RwProjRefIdeal.τ).loc Cert.RwProjRefIdeal.main_arg6) = m ((c.tc : Thread Cert.RwProjIdeal.nD Cert.RwProjIdeal.τ).loc Cert.RwProjIdeal.main_arg6)
      ∧ m' ((c.tc : Thread Cert.RwProjRefIdeal.nD Cert.RwProjRefIdeal.τ).loc Cert.RwProjRefIdeal.main_arg7) = m ((c.tc : Thread Cert.RwProjIdeal.nD Cert.RwProjIdeal.τ).loc Cert.RwProjIdeal.main_arg7)
      ∧ m' ((c.tc : Thread Cert.RwProjRefIdeal.nD Cert.RwProjRefIdeal.τ).loc Cert.RwProjRefIdeal.main_arg8) = m ((c.tc : Thread Cert.RwProjIdeal.nD Cert.RwProjIdeal.τ).loc Cert.RwProjIdeal.main_arg8)
      ∧ m' ((c.tc : Thread Cert.RwProjRefIdeal.nD Cert.RwProjRefIdeal.τ).loc Cert.RwProjRefIdeal.main_arg9) = m ((c.tc : Thread Cert.RwProjIdeal.nD Cert.RwProjIdeal.τ).loc Cert.RwProjIdeal.main_arg9)
      ∧ m' ((c.tc : Thread Cert.RwProjRefIdeal.nD Cert.RwProjRefIdeal.τ).loc Cert.RwProjRefIdeal.main_arg10) = m ((c.tc : Thread Cert.RwProjIdeal.nD Cert.RwProjIdeal.τ).loc Cert.RwProjIdeal.main_arg10)) →
    ∃ (v0 : (c : Dev Cert.RwProjIdeal.nD) → Buf (Elt Ideal) ((c.tc : Thread Cert.RwProjIdeal.nD Cert.RwProjIdeal.τ).loc Cert.RwProjIdeal.main_v9_0)) (v1 : (c : Dev Cert.RwProjIdeal.nD) → Buf (Elt Ideal) ((c.tc : Thread Cert.RwProjIdeal.nD Cert.RwProjIdeal.τ).loc Cert.RwProjIdeal.main_v9_1)) (v2 : (c : Dev Cert.RwProjIdeal.nD) → Buf (Elt Ideal) ((c.tc : Thread Cert.RwProjIdeal.nD Cert.RwProjIdeal.τ).loc Cert.RwProjIdeal.main_v9_2)) (v3 : (c : Dev Cert.RwProjIdeal.nD) → Buf (Elt Ideal) ((c.tc : Thread Cert.RwProjIdeal.nD Cert.RwProjIdeal.τ).loc Cert.RwProjIdeal.main_v9_3)) (v4 : (c : Dev Cert.RwProjIdeal.nD) → Buf (Elt Ideal) ((c.tc : Thread Cert.RwProjIdeal.nD Cert.RwProjIdeal.τ).loc Cert.RwProjIdeal.main_v9_4)) (v5 : (c : Dev Cert.RwProjIdeal.nD) → Buf (Elt Ideal) ((c.tc : Thread Cert.RwProjIdeal.nD Cert.RwProjIdeal.τ).loc Cert.RwProjIdeal.main_v9_5)),
      θ_run (Cert.RwProjIdeal.defs (F := Ideal)) (onTc (τ := Cert.RwProjIdeal.τ) (Cert.RwProjIdeal.main (F := Ideal))) ⟨m, fun _ => 0, g⟩ (fun r => ∀ c : Dev Cert.RwProjIdeal.nD,
          r.2.mem ((c.tc : Thread Cert.RwProjIdeal.nD Cert.RwProjIdeal.τ).loc Cert.RwProjIdeal.main_v9_0) = v0 c
          ∧ r.2.mem ((c.tc : Thread Cert.RwProjIdeal.nD Cert.RwProjIdeal.τ).loc Cert.RwProjIdeal.main_v9_1) = v1 c
          ∧ r.2.mem ((c.tc : Thread Cert.RwProjIdeal.nD Cert.RwProjIdeal.τ).loc Cert.RwProjIdeal.main_v9_2) = v2 c
          ∧ r.2.mem ((c.tc : Thread Cert.RwProjIdeal.nD Cert.RwProjIdeal.τ).loc Cert.RwProjIdeal.main_v9_3) = v3 c
          ∧ r.2.mem ((c.tc : Thread Cert.RwProjIdeal.nD Cert.RwProjIdeal.τ).loc Cert.RwProjIdeal.main_v9_4) = v4 c
          ∧ r.2.mem ((c.tc : Thread Cert.RwProjIdeal.nD Cert.RwProjIdeal.τ).loc Cert.RwProjIdeal.main_v9_5) = v5 c
          ∧ r.2.mem ((c.tc : Thread Cert.RwProjIdeal.nD Cert.RwProjIdeal.τ).loc Cert.RwProjIdeal.main_arg0) = m ((c.tc : Thread Cert.RwProjIdeal.nD Cert.RwProjIdeal.τ).loc Cert.RwProjIdeal.main_arg0)
          ∧ r.2.mem ((c.tc : Thread Cert.RwProjIdeal.nD Cert.RwProjIdeal.τ).loc Cert.RwProjIdeal.main_arg1) = m ((c.tc : Thread Cert.RwProjIdeal.nD Cert.RwProjIdeal.τ).loc Cert.RwProjIdeal.main_arg1)
          ∧ r.2.mem ((c.tc : Thread Cert.RwProjIdeal.nD Cert.RwProjIdeal.τ).loc Cert.RwProjIdeal.main_arg2) = m ((c.tc : Thread Cert.RwProjIdeal.nD Cert.RwProjIdeal.τ).loc Cert.RwProjIdeal.main_arg2)
          ∧ r.2.mem ((c.tc : Thread Cert.RwProjIdeal.nD Cert.RwProjIdeal.τ).loc Cert.RwProjIdeal.main_arg3) = m ((c.tc : Thread Cert.RwProjIdeal.nD Cert.RwProjIdeal.τ).loc Cert.RwProjIdeal.main_arg3)
          ∧ r.2.mem ((c.tc : Thread Cert.RwProjIdeal.nD Cert.RwProjIdeal.τ).loc Cert.RwProjIdeal.main_arg4) = m ((c.tc : Thread Cert.RwProjIdeal.nD Cert.RwProjIdeal.τ).loc Cert.RwProjIdeal.main_arg4)
          ∧ r.2.mem ((c.tc : Thread Cert.RwProjIdeal.nD Cert.RwProjIdeal.τ).loc Cert.RwProjIdeal.main_arg5) = m ((c.tc : Thread Cert.RwProjIdeal.nD Cert.RwProjIdeal.τ).loc Cert.RwProjIdeal.main_arg5)
          ∧ r.2.mem ((c.tc : Thread Cert.RwProjIdeal.nD Cert.RwProjIdeal.τ).loc Cert.RwProjIdeal.main_arg6) = m ((c.tc : Thread Cert.RwProjIdeal.nD Cert.RwProjIdeal.τ).loc Cert.RwProjIdeal.main_arg6)
          ∧ r.2.mem ((c.tc : Thread Cert.RwProjIdeal.nD Cert.RwProjIdeal.τ).loc Cert.RwProjIdeal.main_arg7) = m ((c.tc : Thread Cert.RwProjIdeal.nD Cert.RwProjIdeal.τ).loc Cert.RwProjIdeal.main_arg7)
          ∧ r.2.mem ((c.tc : Thread Cert.RwProjIdeal.nD Cert.RwProjIdeal.τ).loc Cert.RwProjIdeal.main_arg8) = m ((c.tc : Thread Cert.RwProjIdeal.nD Cert.RwProjIdeal.τ).loc Cert.RwProjIdeal.main_arg8)
          ∧ r.2.mem ((c.tc : Thread Cert.RwProjIdeal.nD Cert.RwProjIdeal.τ).loc Cert.RwProjIdeal.main_arg9) = m ((c.tc : Thread Cert.RwProjIdeal.nD Cert.RwProjIdeal.τ).loc Cert.RwProjIdeal.main_arg9)
          ∧ r.2.mem ((c.tc : Thread Cert.RwProjIdeal.nD Cert.RwProjIdeal.τ).loc Cert.RwProjIdeal.main_arg10) = m ((c.tc : Thread Cert.RwProjIdeal.nD Cert.RwProjIdeal.τ).loc Cert.RwProjIdeal.main_arg10))
      ∧ θ_run (Cert.RwProjRefIdeal.defs (F := Ideal)) (onTc (τ := Cert.RwProjRefIdeal.τ) (Cert.RwProjRefIdeal.main (F := Ideal))) ⟨m', fun _ => 0, g'⟩ (fun r => ∀ c : Dev Cert.RwProjRefIdeal.nD,
          r.2.mem ((c.tc : Thread Cert.RwProjRefIdeal.nD Cert.RwProjRefIdeal.τ).loc Cert.RwProjRefIdeal.main_v58) = v0 c
          ∧ r.2.mem ((c.tc : Thread Cert.RwProjRefIdeal.nD Cert.RwProjRefIdeal.τ).loc Cert.RwProjRefIdeal.main_v60) = v1 c
          ∧ r.2.mem ((c.tc : Thread Cert.RwProjRefIdeal.nD Cert.RwProjRefIdeal.τ).loc Cert.RwProjRefIdeal.main_v62) = v2 c
          ∧ r.2.mem ((c.tc : Thread Cert.RwProjRefIdeal.nD Cert.RwProjRefIdeal.τ).loc Cert.RwProjRefIdeal.main_v65) = v3 c
          ∧ r.2.mem ((c.tc : Thread Cert.RwProjRefIdeal.nD Cert.RwProjRefIdeal.τ).loc Cert.RwProjRefIdeal.main_v66) = v4 c
          ∧ r.2.mem ((c.tc : Thread Cert.RwProjRefIdeal.nD Cert.RwProjRefIdeal.τ).loc Cert.RwProjRefIdeal.main_v68) = v5 c
          ∧ r.2.mem ((c.tc : Thread Cert.RwProjRefIdeal.nD Cert.RwProjRefIdeal.τ).loc Cert.RwProjRefIdeal.main_arg0) = m' ((c.tc : Thread Cert.RwProjRefIdeal.nD Cert.RwProjRefIdeal.τ).loc Cert.RwProjRefIdeal.main_arg0)
          ∧ r.2.mem ((c.tc : Thread Cert.RwProjRefIdeal.nD Cert.RwProjRefIdeal.τ).loc Cert.RwProjRefIdeal.main_arg1) = m' ((c.tc : Thread Cert.RwProjRefIdeal.nD Cert.RwProjRefIdeal.τ).loc Cert.RwProjRefIdeal.main_arg1)
          ∧ r.2.mem ((c.tc : Thread Cert.RwProjRefIdeal.nD Cert.RwProjRefIdeal.τ).loc Cert.RwProjRefIdeal.main_arg2) = m' ((c.tc : Thread Cert.RwProjRefIdeal.nD Cert.RwProjRefIdeal.τ).loc Cert.RwProjRefIdeal.main_arg2)
          ∧ r.2.mem ((c.tc : Thread Cert.RwProjRefIdeal.nD Cert.RwProjRefIdeal.τ).loc Cert.RwProjRefIdeal.main_arg3) = m' ((c.tc : Thread Cert.RwProjRefIdeal.nD Cert.RwProjRefIdeal.τ).loc Cert.RwProjRefIdeal.main_arg3)
          ∧ r.2.mem ((c.tc : Thread Cert.RwProjRefIdeal.nD Cert.RwProjRefIdeal.τ).loc Cert.RwProjRefIdeal.main_arg4) = m' ((c.tc : Thread Cert.RwProjRefIdeal.nD Cert.RwProjRefIdeal.τ).loc Cert.RwProjRefIdeal.main_arg4)
          ∧ r.2.mem ((c.tc : Thread Cert.RwProjRefIdeal.nD Cert.RwProjRefIdeal.τ).loc Cert.RwProjRefIdeal.main_arg5) = m' ((c.tc : Thread Cert.RwProjRefIdeal.nD Cert.RwProjRefIdeal.τ).loc Cert.RwProjRefIdeal.main_arg5)
          ∧ r.2.mem ((c.tc : Thread Cert.RwProjRefIdeal.nD Cert.RwProjRefIdeal.τ).loc Cert.RwProjRefIdeal.main_arg6) = m' ((c.tc : Thread Cert.RwProjRefIdeal.nD Cert.RwProjRefIdeal.τ).loc Cert.RwProjRefIdeal.main_arg6)
          ∧ r.2.mem ((c.tc : Thread Cert.RwProjRefIdeal.nD Cert.RwProjRefIdeal.τ).loc Cert.RwProjRefIdeal.main_arg7) = m' ((c.tc : Thread Cert.RwProjRefIdeal.nD Cert.RwProjRefIdeal.τ).loc Cert.RwProjRefIdeal.main_arg7)
          ∧ r.2.mem ((c.tc : Thread Cert.RwProjRefIdeal.nD Cert.RwProjRefIdeal.τ).loc Cert.RwProjRefIdeal.main_arg8) = m' ((c.tc : Thread Cert.RwProjRefIdeal.nD Cert.RwProjRefIdeal.τ).loc Cert.RwProjRefIdeal.main_arg8)
          ∧ r.2.mem ((c.tc : Thread Cert.RwProjRefIdeal.nD Cert.RwProjRefIdeal.τ).loc Cert.RwProjRefIdeal.main_arg9) = m' ((c.tc : Thread Cert.RwProjRefIdeal.nD Cert.RwProjRefIdeal.τ).loc Cert.RwProjRefIdeal.main_arg9)
          ∧ r.2.mem ((c.tc : Thread Cert.RwProjRefIdeal.nD Cert.RwProjRefIdeal.τ).loc Cert.RwProjRefIdeal.main_arg10) = m' ((c.tc : Thread Cert.RwProjRefIdeal.nD Cert.RwProjRefIdeal.τ).loc Cert.RwProjRefIdeal.main_arg10))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)) →
    ∃ (v0 : (c : Dev Cert.GateProjIdeal.nD) → Buf (Elt Ideal) ((c.tc : Thread Cert.GateProjIdeal.nD Cert.GateProjIdeal.τ).loc Cert.GateProjIdeal.main_v2)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v2) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v2) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1))

def preserves_BiasTiles_BiasTilesIdeal : Prop :=
  IdealRules.named_const.Statement Cert.BiasTilesIdeal.κ "mask" .f32 0xF149F2CA#32 ⊥

def algebraic_BiasTilesIdeal_BiasTilesRefIdeal_pre_finite_last [hBiasTilesIdeal : Cert.BiasTilesIdeal.Facts] [hBiasTilesRefIdeal : Cert.BiasTilesRefIdeal.Facts] [hPre_finite_last : Cert.Pre_finite_last.Facts] : Prop :=
  ∀ (m : (ℓ : Loc Cert.BiasTilesIdeal.nD Cert.BiasTilesIdeal.τ Cert.BiasTilesIdeal.sig) → Buf (Elt Ideal) ℓ) (g : Dev Cert.BiasTilesIdeal.nD → PrngReg)
    (m' : (ℓ : Loc Cert.BiasTilesRefIdeal.nD Cert.BiasTilesRefIdeal.τ Cert.BiasTilesRefIdeal.sig) → Buf (Elt Ideal) ℓ) (g' : Dev Cert.BiasTilesRefIdeal.nD → PrngReg), Pre_BiasTilesIdeal_finite_last m →
    (∀ c : Dev Cert.BiasTilesIdeal.nD,
      m' ((c.tc : Thread Cert.BiasTilesRefIdeal.nD Cert.BiasTilesRefIdeal.τ).loc Cert.BiasTilesRefIdeal.main_arg0) = m ((c.tc : Thread Cert.BiasTilesIdeal.nD Cert.BiasTilesIdeal.τ).loc Cert.BiasTilesIdeal.main_arg0)) →
    ∃ (v0 : (c : Dev Cert.BiasTilesIdeal.nD) → Buf (Elt Ideal) ((c.tc : Thread Cert.BiasTilesIdeal.nD Cert.BiasTilesIdeal.τ).loc Cert.BiasTilesIdeal.main_v22)),
      θ_run (Cert.BiasTilesIdeal.defs (F := Ideal)) (onTc (τ := Cert.BiasTilesIdeal.τ) (Cert.BiasTilesIdeal.main (F := Ideal))) ⟨m, fun _ => 0, g⟩ (fun r => ∀ c : Dev Cert.BiasTilesIdeal.nD,
          r.2.mem ((c.tc : Thread Cert.BiasTilesIdeal.nD Cert.BiasTilesIdeal.τ).loc Cert.BiasTilesIdeal.main_v22) = v0 c
          ∧ r.2.mem ((c.tc : Thread Cert.BiasTilesIdeal.nD Cert.BiasTilesIdeal.τ).loc Cert.BiasTilesIdeal.main_arg0) = m ((c.tc : Thread Cert.BiasTilesIdeal.nD Cert.BiasTilesIdeal.τ).loc Cert.BiasTilesIdeal.main_arg0))
      ∧ θ_run (Cert.BiasTilesRefIdeal.defs (F := Ideal)) (onTc (τ := Cert.BiasTilesRefIdeal.τ) (Cert.BiasTilesRefIdeal.main (F := Ideal))) ⟨m', fun _ => 0, g'⟩ (fun r => ∀ c : Dev Cert.BiasTilesRefIdeal.nD,
          r.2.mem ((c.tc : Thread Cert.BiasTilesRefIdeal.nD Cert.BiasTilesRefIdeal.τ).loc Cert.BiasTilesRefIdeal.main_v50) = v0 c
          ∧ r.2.mem ((c.tc : Thread Cert.BiasTilesRefIdeal.nD Cert.BiasTilesRefIdeal.τ).loc Cert.BiasTilesRefIdeal.main_arg0) = m' ((c.tc : Thread Cert.BiasTilesRefIdeal.nD Cert.BiasTilesRefIdeal.τ).loc Cert.BiasTilesRefIdeal.main_arg0))

def Claim : Prop :=
  ∃ (hGla : Cert.Gla.Facts) (hGlaIdeal : Cert.GlaIdeal.Facts) (hGlaRefIdeal : Cert.GlaRefIdeal.Facts) (hMlp : Cert.Mlp.Facts) (hMlpIdeal : Cert.MlpIdeal.Facts) (hMlpRefIdeal : Cert.MlpRefIdeal.Facts) (hProjLn : Cert.ProjLn.Facts) (hProjLnIdeal : Cert.ProjLnIdeal.Facts) (hProjLnRefIdeal : Cert.ProjLnRefIdeal.Facts) (hProj : Cert.Proj.Facts) (hProjIdeal : Cert.ProjIdeal.Facts) (hProjRefIdeal : Cert.ProjRefIdeal.Facts) (hQkv : Cert.Qkv.Facts) (hQkvIdeal : Cert.QkvIdeal.Facts) (hQkvRefIdeal : Cert.QkvRefIdeal.Facts) (hRwProj : Cert.RwProj.Facts) (hRwProjIdeal : Cert.RwProjIdeal.Facts) (hRwProjRefIdeal : Cert.RwProjRefIdeal.Facts) (hGateProj : Cert.GateProj.Facts) (hGateProjIdeal : Cert.GateProjIdeal.Facts) (hGateProjRefIdeal : Cert.GateProjRefIdeal.Facts) (hBiasTiles : Cert.BiasTiles.Facts) (hBiasTilesIdeal : Cert.BiasTilesIdeal.Facts) (hBiasTilesRefIdeal : Cert.BiasTilesRefIdeal.Facts) (hPre_finite_last : Cert.Pre_finite_last.Facts),
    quiescent_Gla (hGla := hGla)
    ∧ quiescent_GlaIdeal (hGlaIdeal := hGlaIdeal)
    ∧ quiescent_GlaRefIdeal (hGlaRefIdeal := hGlaRefIdeal)
    ∧ quiescent_Mlp (hMlp := hMlp)
    ∧ quiescent_MlpIdeal (hMlpIdeal := hMlpIdeal)
    ∧ quiescent_MlpRefIdeal (hMlpRefIdeal := hMlpRefIdeal)
    ∧ quiescent_ProjLn (hProjLn := hProjLn)
    ∧ quiescent_ProjLnIdeal (hProjLnIdeal := hProjLnIdeal)
    ∧ quiescent_ProjLnRefIdeal (hProjLnRefIdeal := hProjLnRefIdeal)
    ∧ quiescent_Proj (hProj := hProj)
    ∧ quiescent_ProjIdeal (hProjIdeal := hProjIdeal)
    ∧ quiescent_ProjRefIdeal (hProjRefIdeal := hProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_RwProj (hRwProj := hRwProj)
    ∧ quiescent_RwProjIdeal (hRwProjIdeal := hRwProjIdeal)
    ∧ quiescent_RwProjRefIdeal (hRwProjRefIdeal := hRwProjRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_BiasTiles (hBiasTiles := hBiasTiles)
    ∧ quiescent_BiasTilesIdeal (hBiasTilesIdeal := hBiasTilesIdeal)
    ∧ quiescent_BiasTilesIdeal_pre_finite_last (hBiasTilesIdeal := hBiasTilesIdeal) (hPre_finite_last := hPre_finite_last)
    ∧ quiescent_BiasTilesRefIdeal (hBiasTilesRefIdeal := hBiasTilesRefIdeal)
    ∧ quiescent_BiasTilesRefIdeal_pre_finite_last (hBiasTilesRefIdeal := hBiasTilesRefIdeal) (hPre_finite_last := hPre_finite_last)
    ∧ preserves_Gla_GlaIdeal
    ∧ algebraic_GlaIdeal_GlaRefIdeal (hGlaIdeal := hGlaIdeal) (hGlaRefIdeal := hGlaRefIdeal)
    ∧ preserves_Mlp_MlpIdeal
    ∧ algebraic_MlpIdeal_MlpRefIdeal (hMlpIdeal := hMlpIdeal) (hMlpRefIdeal := hMlpRefIdeal)
    ∧ preserves_ProjLn_ProjLnIdeal
    ∧ algebraic_ProjLnIdeal_ProjLnRefIdeal (hProjLnIdeal := hProjLnIdeal) (hProjLnRefIdeal := hProjLnRefIdeal)
    ∧ preserves_Proj_ProjIdeal
    ∧ algebraic_ProjIdeal_ProjRefIdeal (hProjIdeal := hProjIdeal) (hProjRefIdeal := hProjRefIdeal)
    ∧ preserves_Qkv_QkvIdeal
    ∧ algebraic_QkvIdeal_QkvRefIdeal (hQkvIdeal := hQkvIdeal) (hQkvRefIdeal := hQkvRefIdeal)
    ∧ preserves_RwProj_RwProjIdeal
    ∧ algebraic_RwProjIdeal_RwProjRefIdeal (hRwProjIdeal := hRwProjIdeal) (hRwProjRefIdeal := hRwProjRefIdeal)
    ∧ preserves_GateProj_GateProjIdeal
    ∧ algebraic_GateProjIdeal_GateProjRefIdeal (hGateProjIdeal := hGateProjIdeal) (hGateProjRefIdeal := hGateProjRefIdeal)
    ∧ preserves_BiasTiles_BiasTilesIdeal
    ∧ algebraic_BiasTilesIdeal_BiasTilesRefIdeal_pre_finite_last (hBiasTilesIdeal := hBiasTilesIdeal) (hBiasTilesRefIdeal := hBiasTilesRefIdeal) (hPre_finite_last := hPre_finite_last)
-- ==== Pre_finite_last.lean ====
abbrev S32x8 : Shape := ⟨2, ![32, 8]⟩
abbrev S1x8 : Shape := ⟨2, ![1, 8]⟩
abbrev S8 : Shape := ⟨1, ![8]⟩
abbrev S_ : Shape := ⟨0, ![]⟩

class Facts : Prop where
  slices_S32x8_S1x8_31_0 : S32x8.Slices ![31, 0] S1x8
  shapeCasts_S1x8_S8 : S1x8.ShapeCasts S8
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S32x8 .f32) : IVec S_ 1 :=
  let main_v0 : FVec F S1x8 .f32 := (extractStridedSlice S1x8 ![31, 0] · slices_S32x8_S1x8_31_0) main_arg0
  let main_v1 : FVec F S8 .f32 := shapeCast S8 main_v0 shapeCasts_S1x8_S8
  let main_v2 : FVec F S8 .f32 := Host.absf main_v1
  let main_cst : FVec F S_ .f32 := constant S_ .f32 0x7F800000#32
  let main_v3 : FVec F S8 .f32 := broadcastInDim S8 ![] bcast_S_S8 main_cst
  let main_v4 : IVec S8 1 := cmpf .olt main_v2 main_v3
  let main_c : IVec S_ 1 := constantI S_ 1 1#1
  let main_v5 : IVec S_ 1 := (fun x v => Host.reduce IntOp.andi x v reducesTo_S8_S_d0 h_S_) main_v4 main_c
  main_v5
-- ==== Gla.lean ====
abbrev S4x4096x3072 : Shape := ⟨3, ![4, 4096, 3072]⟩
abbrev S4x4096x128 : Shape := ⟨3, ![4, 4096, 128]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S4x4096x1024 : Shape := ⟨3, ![4, 4096, 1024]⟩
abbrev S1x512x256 : Shape := ⟨3, ![1, 512, 256]⟩
abbrev S1x512x512 : Shape := ⟨3, ![1, 512, 512]⟩
abbrev S1x512x128 : Shape := ⟨3, ![1, 512, 128]⟩
abbrev S128x256 : Shape := ⟨2, ![128, 256]⟩
abbrev S2x256x128 : Shape := ⟨3, ![2, 256, 128]⟩
abbrev S64x64 : Shape := ⟨2, ![64, 64]⟩
abbrev S512x128 : Shape := ⟨2, ![512, 128]⟩
abbrev S512x256 : Shape := ⟨2, ![512, 256]⟩
abbrev S1x128 : Shape := ⟨2, ![1, 128]⟩
abbrev S64x128 : Shape := ⟨2, ![64, 128]⟩
abbrev S1x64x256 : Shape := ⟨3, ![1, 64, 256]⟩
abbrev S64x256 : Shape := ⟨2, ![64, 256]⟩
abbrev S256x128 : Shape := ⟨2, ![256, 128]⟩
abbrev S1x256x128 : Shape := ⟨3, ![1, 256, 128]⟩
abbrev S64 : Shape := ⟨1, ![64]⟩
abbrev S64x1 : Shape := ⟨2, ![64, 1]⟩

abbrev nBuf : Space → Nat
  | .hbm => 12
  | .vmem => 18
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x128, .bf16⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S1x256, .f32⟩
  | .hbm, ⟨11, _⟩ => ⟨S4x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x128, .bf16⟩
  | .local _ .vmem, ⟨9, _⟩ => ⟨S1x512x128, .bf16⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x512x512, .bf16⟩
  | .local _ .vmem, ⟨16, _⟩ => ⟨S1x512x512, .bf16⟩
  | .local _ .vmem, ⟨17, _⟩ => ⟨S2x256x128, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== GlaRefIdeal.lean ====
abbrev S4x4096x3072 : Shape := ⟨3, ![4, 4096, 3072]⟩
abbrev S4x4096x128 : Shape := ⟨3, ![4, 4096, 128]⟩
abbrev S16x512 : Shape := ⟨2, ![16, 512]⟩
abbrev S512 : Shape := ⟨1, ![512]⟩
abbrev S256 : Shape := ⟨1, ![256]⟩
abbrev S4x4096x512 : Shape := ⟨3, ![4, 4096, 512]⟩
abbrev S4x4096x1024 : Shape := ⟨3, ![4, 4096, 1024]⟩
abbrev S4x4096x16 : Shape := ⟨3, ![4, 4096, 16]⟩
abbrev S1x1x512 : Shape := ⟨3, ![1, 1, 512]⟩
abbrev S_ : Shape := ⟨0, ![]⟩
abbrev S4x64x64x4x128 : Shape := ⟨5, ![4, 64, 64, 4, 128]⟩
abbrev S4x4x64x64x128 : Shape := ⟨5, ![4, 4, 64, 64, 128]⟩
abbrev S4x64x64x4x256 : Shape := ⟨5, ![4, 64, 64, 4, 256]⟩
abbrev S4x4x64x64x256 : Shape := ⟨5, ![4, 4, 64, 64, 256]⟩
abbrev S4x4x64x1x128 : Shape := ⟨5, ![4, 4, 64, 1, 128]⟩
abbrev S4x4x64x64x64 : Shape := ⟨5, ![4, 4, 64, 64, 64]⟩
abbrev S64x64 : Shape := ⟨2, ![64, 64]⟩
abbrev S4x4x64x128x256 : Shape := ⟨5, ![4, 4, 64, 128, 256]⟩
abbrev S4x4x64x128 : Shape := ⟨4, ![4, 4, 64, 128]⟩
abbrev S4x4x128x256 : Shape := ⟨4, ![4, 4, 128, 256]⟩
abbrev S64x4x4x128x256 : Shape := ⟨5, ![64, 4, 4, 128, 256]⟩
abbrev S64x4x4x128 : Shape := ⟨4, ![64, 4, 4, 128]⟩
abbrev S1x4x4x128x256 : Shape := ⟨5, ![1, 4, 4, 128, 256]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩

abbrev nBuf : Space → Nat
  | .hbm => 151
  | .vmem => 0
  | .smem => 0
  | _ => 0

abbrev hbmTy0_0 (i : Nat) : BufTy := match i % 128 with
  | 0 => ⟨S4x4096x3072, .bf16⟩
  | 1 => ⟨S4x4096x128, .bf16⟩
  | 2 => ⟨S16x512, .f32⟩
  | 3 => ⟨S512, .f32⟩
  | 4 => ⟨S256, .f32⟩
  | 5 => ⟨S4x4096x3072, .f32⟩
  | 6 => ⟨S4x4096x512, .f32⟩
  | 7 => ⟨S4x4096x512, .f32⟩
  | 8 => ⟨S4x4096x1024, .f32⟩
  | 9 => ⟨S4x4096x1024, .f32⟩
  | 10 => ⟨S4x4096x16, .bf16⟩
  | 11 => ⟨S4x4096x16, .f32⟩
  | 12 => ⟨S4x4096x512, .f32⟩
  | 13 => ⟨S1x1x512, .f32⟩
  | 14 => ⟨S4x4096x512, .f32⟩
  | 15 => ⟨S4x4096x512, .f32⟩
  | 16 => ⟨S4x4096x512, .f32⟩
  | 17 => ⟨S_, .f32⟩
  | 18 => ⟨S4x4096x512, .f32⟩
  | 19 => ⟨S4x4096x512, .f32⟩
  | 20 => ⟨S4x4096x512, .f32⟩
  | 21 => ⟨S4x4096x512, .f32⟩
  | 22 => ⟨S4x4096x512, .i1⟩
  | 23 => ⟨S4x4096x512, .f32⟩
  | 24 => ⟨S4x4096x512, .f32⟩
  | 25 => ⟨S4x4096x512, .f32⟩
  | 26 => ⟨S4x4096x512, .f32⟩
  | 27 => ⟨S4x4096x512, .f32⟩
  | 28 => ⟨S4x4096x512, .f32⟩
  | 29 => ⟨S4x4096x512, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x64x64x4x128, .f32⟩
  | 36 => ⟨S4x4x64x64x128, .f32⟩
  | 37 => ⟨S_, .f32⟩
  | 38 => ⟨S4x4x64x64x128, .f32⟩
  | 39 => ⟨S4x4x64x64x128, .f32⟩
  | 40 => ⟨S4x64x64x4x128, .f32⟩
  | 41 => ⟨S4x4x64x64x128, .f32⟩
  | 42 => ⟨S4x64x64x4x256, .f32⟩
  | 43 => ⟨S4x4x64x64x256, .f32⟩
  | 44 => ⟨S4x64x64x4x128, .f32⟩
  | 45 => ⟨S4x4x64x64x128, .f32⟩
  | 46 => ⟨S_, .f32⟩
  | 47 => ⟨S_, .f32⟩
  | 48 => ⟨S4x4x64x64x128, .f32⟩
  | 49 => ⟨S4x4x64x1x128, .f32⟩
  | 50 => ⟨S4x4x64x64x128, .f32⟩
  | 51 => ⟨S4x4x64x64x128, .f32⟩
  | 52 => ⟨S4x4x64x64x128, .f32⟩
  | 53 => ⟨S4x4x64x64x128, .f32⟩
  | 54 => ⟨S4x4x64x64x128, .f32⟩
  | 55 => ⟨S4x4x64x64x64, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S_, .f32⟩
  | 68 => ⟨S_, .f32⟩
  | 69 => ⟨S4x4x64x64x64, .i1⟩
  | 70 => ⟨S4x4x64x64x64, .f32⟩
  | 71 => ⟨S4x4x64x64x64, .f32⟩
  | 72 => ⟨S4x4x64x64x256, .f32⟩
  | 73 => ⟨S4x4x64x64x128, .f32⟩
  | 74 => ⟨S4x4x64x64x128, .f32⟩
  | 75 => ⟨S4x4x64x64x128, .f32⟩
  | 76 => ⟨S4x4x64x64x128, .f32⟩
  | 77 => ⟨S4x4x64x128x256, .f32⟩
  | 78 => ⟨S4x4x64x128, .f32⟩
  | 79 => ⟨S4x4x64x128, .f32⟩
  | 80 => ⟨S_, .f32⟩
  | 81 => ⟨S4x4x128x256, .f32⟩
  | 82 => ⟨S64x4x4x128x256, .f32⟩
  | 83 => ⟨S64x4x4x128, .f32⟩
  | 84 => ⟨S_, .f32⟩
  | 85 => ⟨S64x4x4x128x256, .f32⟩
  | 86 => ⟨S_, .i32⟩
  | 87 => ⟨S64x4x4x128x256, .f32⟩
  | 88 => ⟨S64x4x4x128, .f32⟩
  | 89 => ⟨S_, .i32⟩
  | 90 => ⟨S4x4x128x256, .f32⟩
  | 91 => ⟨S64x4x4x128x256, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x4x4x128x256, .f32⟩
  | 99 => ⟨S4x4x128x256, .f32⟩
  | 100 => ⟨S_, .i32⟩
  | 101 => ⟨S_, .i32⟩
  | 102 => ⟨S_, .i32⟩
  | 103 => ⟨S1x4x4x128, .f32⟩
  | 104 => ⟨S4x4x128, .f32⟩
  | 105 => ⟨S4x4x128x1, .f32⟩
  | 106 => ⟨S4x4x128x256, .f32⟩
  | 107 => ⟨S4x4x128x256, .f32⟩
  | 108 => ⟨S4x4x128x256, .f32⟩
  | 109 => ⟨S1x4x4x128x256, .f32⟩
  | 110 => ⟨S_, .i32⟩
  | 111 => ⟨S_, .i32⟩
  | 112 => ⟨S_, .i32⟩
  | 113 => ⟨S_, .i32⟩
  | 114 => ⟨S64x4x4x128x256, .f32⟩
  | 115 => ⟨S_, .i32⟩
  | 116 => ⟨S_, .i32⟩
  | 117 => ⟨S4x4x64x128x256, .f32⟩
  | 118 => ⟨S4x4x64x64x256, .f32⟩
  | 119 => ⟨S4x4x64x64x256, .f32⟩
  | 120 => ⟨S4x64x64x4x256, .f32⟩
  | 121 => ⟨S4x4096x4x256, .f32⟩
  | 122 => ⟨S4x4096x4x256, .f32⟩
  | 123 => ⟨S_, .f32⟩
  | 124 => ⟨S4x4096x4, .f32⟩
  | 125 => ⟨S4x4096x4x1, .f32⟩
  | 126 => ⟨S_, .f32⟩
  | 127 => ⟨S4x4096x4x1, .f32⟩
  | _ => ⟨S4x4096x3072, .bf16⟩

abbrev hbmTy0_1 (i : Nat) : BufTy := match i % 128 with
  | 0 => ⟨S4x4096x4x1, .f32⟩
  | 1 => ⟨S_, .f32⟩
  | 2 => ⟨S4x4096x4x1, .f32⟩
  | 3 => ⟨S4x4096x4x1, .f32⟩
  | 4 => ⟨S4x4096x4x1, .f32⟩
  | 5 => ⟨S4x4096x4x256, .f32⟩
  | 6 => ⟨S4x4096x4x256, .f32⟩
  | 7 => ⟨S1x1x1x256, .f32⟩
  | 8 => ⟨S4x4096x4x256, .f32⟩
  | 9 => ⟨S4x4096x4x256, .f32⟩
  | 10 => ⟨S4x4096x1024, .f32⟩
  | 11 => ⟨S4x4096x1024, .f32⟩
  | 12 => ⟨S_, .f32⟩
  | 13 => ⟨S4x4096x1024, .f32⟩
  | 14 => ⟨S4x4096x1024, .f32⟩
  | 15 => ⟨S_, .f32⟩
  | 16 => ⟨S4x4096x1024, .f32⟩
  | 17 => ⟨S4x4096x1024, .f32⟩
  | 18 => ⟨S4x4096x1024, .f32⟩
  | 19 => ⟨S4x4096x4x256, .f32⟩
  | 20 => ⟨S4x4096x4x256, .f32⟩
  | 21 => ⟨S4x4096x1024, .f32⟩
  | 22 => ⟨S4x4096x1024, .bf16⟩
  | _ => ⟨S4x4096x3072, .bf16⟩

abbrev hbmTy (i : Nat) : BufTy := match i / 128 with
  | 0 => hbmTy0_0 i
  | 1 => hbmTy0_1 i
  | _ => ⟨S4x4096x3072, .bf16⟩

abbrev bufTy : (tb : Table) → Fin (tcTables nBuf tb) → BufTy
  | .hbm, ⟨i, _⟩ => hbmTy i
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_call0_cst : Ref sig .tc := ⟨.hbm, 46, rfl⟩
abbrev main_call1_call0_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c : Ref sig .tc := ⟨.hbm, 56, rfl⟩
abbrev main_v32 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_0 : Ref sig .tc := ⟨.hbm, 64, rfl⟩
abbrev main_call2_v5 : Ref sig .tc := ⟨.hbm, 65, rfl⟩
abbrev main_v33 : Ref sig .tc := ⟨.hbm, 66, rfl⟩
abbrev main_cst_1 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_2 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_3 : Ref sig .tc := ⟨.hbm, 84, rfl⟩
abbrev main_v46 : Ref sig .tc := ⟨.hbm, 85, rfl⟩
abbrev main_c_4 : Ref sig .tc := ⟨.hbm, 86, rfl⟩
abbrev main_v47_0 : Ref sig .tc := ⟨.hbm, 87, rfl⟩
abbrev main_v47_1 : Ref sig .tc := ⟨.hbm, 88, rfl⟩
abbrev main_v47_2 : Ref sig .tc := ⟨.hbm, 89, rfl⟩
abbrev main_v47_3 : Ref sig .tc := ⟨.hbm, 90, rfl⟩
abbrev main_v47_4 : Ref sig .tc := ⟨.hbm, 91, rfl⟩
abbrev main_while0c_c_12 : Ref sig .tc := ⟨.hbm, 92, rfl⟩
abbrev main_while0c_v71 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_c_2 : Ref sig .tc := ⟨.hbm, 97, rfl⟩
abbrev main_while0b_call4_v0 : Ref sig .tc := ⟨.hbm, 98, rfl⟩
abbrev main_while0b_v71 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_v0 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_call6_v0 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_v77 : Ref sig .tc := ⟨.hbm, 114, rfl⟩
abbrev main_while0b_c_12 : Ref sig .tc := ⟨.hbm, 115, rfl⟩
abbrev main_while0b_v78 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_cst_5 : Ref sig .tc := ⟨.hbm, 123, rfl⟩
abbrev main_v54 : Ref sig .tc := ⟨.hbm, 124, rfl⟩
abbrev main_v55 : Ref sig .tc := ⟨.hbm, 125, rfl⟩
abbrev main_cst_6 : Ref sig .tc := ⟨.hbm, 126, rfl⟩
abbrev main_v56 : Ref sig .tc := ⟨.hbm, 127, rfl⟩
abbrev main_v57 : Ref sig .tc := ⟨.hbm, 128, rfl⟩
abbrev main_cst_7 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_call7_v0 : Ref sig .tc := ⟨.hbm, 138, rfl⟩
abbrev main_call7_v1 : Ref sig .tc := ⟨.hbm, 139, rfl⟩
abbrev main_call7_cst : Ref sig .tc := ⟨.hbm, 140, rfl⟩
abbrev main_call7_v2 : Ref sig .tc := ⟨.hbm, 141, rfl⟩
abbrev main_call7_v3 : Ref sig .tc := ⟨.hbm, 142, rfl⟩
abbrev main_call7_cst_0 : Ref sig .tc := ⟨.hbm, 143, rfl⟩
abbrev main_call7_v4 : Ref sig .tc := ⟨.hbm, 144, rfl⟩
abbrev main_call7_v5 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩

abbrev nD : Nat := 1
abbrev τ : Topo := Topo.v7x

variable {F : FTy → Type} [FloatOps F]

abbrev main_while0_count : Scf.Loop 32 := ⟨0#32, 64#32, 1#32⟩
-- ==== Mlp.lean ====
abbrev S16384x1024 : Shape := ⟨2, ![16384, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S4x4x4096x256 : Shape := ⟨4, ![4, 4, 4096, 256]⟩
abbrev S4x1024x1024 : Shape := ⟨3, ![4, 1024, 1024]⟩
abbrev S4x256x1024 : Shape := ⟨3, ![4, 256, 1024]⟩
abbrev S4x1x1024 : Shape := ⟨3, ![4, 1, 1024]⟩
abbrev S4x16384x256 : Shape := ⟨3, ![4, 16384, 256]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x256 : Shape := ⟨2, ![1024, 256]⟩
abbrev S1x1024 : Shape := ⟨2, ![1, 1024]⟩
abbrev S1024 : Shape := ⟨1, ![1024]⟩
abbrev S1024x1 : Shape := ⟨2, ![1024, 1]⟩
abbrev S256x1024 : Shape := ⟨2, ![256, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S4x1024x4096, .f32⟩
  | .hbm, ⟨2, _⟩ => ⟨S4x4096x1024, .f32⟩
  | .hbm, ⟨3, _⟩ => ⟨S4x1024, .f32⟩
  | .hbm, ⟨4, _⟩ => ⟨S4x1024, .f32⟩
  | .hbm, ⟨5, _⟩ => ⟨S4x4x4096x256, .f32⟩
  | .hbm, ⟨6, _⟩ => ⟨S4x1024x1024, .f32⟩
  | .hbm, ⟨7, _⟩ => ⟨S4x256x1024, .f32⟩
  | .hbm, ⟨8, _⟩ => ⟨S4x1024x4096, .bf16⟩
  | .hbm, ⟨9, _⟩ => ⟨S4x4096x1024, .bf16⟩
  | .hbm, ⟨10, _⟩ => ⟨S4x1x1024, .f32⟩
  | .hbm, ⟨11, _⟩ => ⟨S4x1x1024, .f32⟩
  | .hbm, ⟨12, _⟩ => ⟨S4x16384x256, .f32⟩
  | .hbm, ⟨13, _⟩ => ⟨S4x1024x1024, .bf16⟩
  | .hbm, ⟨14, _⟩ => ⟨S4x256x1024, .bf16⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x1024, .bf16⟩
  | .local _ .vmem, ⟨11, _⟩ => ⟨S1x256x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_35 : BitVec 32 := 0#32
  let v45 : BitVec 1 := Scalar.cmpi .ne v44 c0_i32_35
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpRefIdeal.lean ====
abbrev S16384x1024 : Shape := ⟨2, ![16384, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S4x4x4096x256 : Shape := ⟨4, ![4, 4, 4096, 256]⟩
abbrev S4x1024x1024 : Shape := ⟨3, ![4, 1024, 1024]⟩
abbrev S4x256x1024 : Shape := ⟨3, ![4, 256, 1024]⟩
abbrev S4x16384x256 : Shape := ⟨3, ![4, 16384, 256]⟩
abbrev S_ : Shape := ⟨0, ![]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x4096, .f32⟩
  | .hbm, ⟨2, _⟩ => ⟨S4x4096x1024, .f32⟩
  | .hbm, ⟨3, _⟩ => ⟨S4x1024, .f32⟩
  | .hbm, ⟨4, _⟩ => ⟨S4x1024, .f32⟩
  | .hbm, ⟨5, _⟩ => ⟨S4x4x4096x256, .f32⟩
  | .hbm, ⟨6, _⟩ => ⟨S4x1024x1024, .f32⟩
  | .hbm, ⟨7, _⟩ => ⟨S4x256x1024, .f32⟩
  | .hbm, ⟨8, _⟩ => ⟨S4x16384x256, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1x1024x4096, .f32⟩
  | .hbm, ⟨13, _⟩ => ⟨S1024x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S1x4096x1024, .f32⟩
  | .hbm, ⟨20, _⟩ => ⟨S4096x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024x1024, .f32⟩
  | .hbm, ⟨57, _⟩ => ⟨S1024x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S1x16384x256, .f32⟩
  | .hbm, ⟨68, _⟩ => ⟨S16384x256, .f32⟩
  | .hbm, ⟨69, _⟩ => ⟨S1x256x1024, .f32⟩
  | .hbm, ⟨70, _⟩ => ⟨S256x1024, .f32⟩
  | .hbm, ⟨71, _⟩ => ⟨S16384x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== ProjLn.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjLnRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proj.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Qkv.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x3072, .f32⟩
  | .hbm, ⟨10, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RwProj.lean ====
abbrev S16384x1024 : Shape := ⟨2, ![16384, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S1x1024 : Shape := ⟨2, ![1, 1024]⟩
abbrev S512x1024 : Shape := ⟨2, ![512, 1024]⟩
abbrev S8x1024 : Shape := ⟨2, ![8, 1024]⟩
abbrev S1x1024x1024 : Shape := ⟨3, ![1, 1024, 1024]⟩
abbrev S1024x1024 : Shape := ⟨2, ![1024, 1024]⟩
abbrev S512x64 : Shape := ⟨2, ![512, 64]⟩
abbrev S512x128 : Shape := ⟨2, ![512, 128]⟩

abbrev nBuf : Space → Nat
  | .hbm => 26
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S3x1024x1024, .f32⟩
  | .hbm, ⟨3, _⟩ => ⟨S1024, .f32⟩
  | .hbm, ⟨4, _⟩ => ⟨S1024x64, .f32⟩
  | .hbm, ⟨5, _⟩ => ⟨S64x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024x128, .f32⟩
  | .hbm, ⟨10, _⟩ => ⟨S128x1024, .f32⟩
  | .hbm, ⟨11, _⟩ => ⟨S3x1024x1024, .bf16⟩
  | .hbm, ⟨12, _⟩ => ⟨S1024x64, .bf16⟩
  | .hbm, ⟨13, _⟩ => ⟨S64x1024, .bf16⟩
  | .hbm, ⟨14, _⟩ => ⟨S1024x64, .bf16⟩
  | .hbm, ⟨15, _⟩ => ⟨S64x1024, .bf16⟩
  | .hbm, ⟨16, _⟩ => ⟨S1024x128, .bf16⟩
  | .hbm, ⟨17, _⟩ => ⟨S128x1024, .bf16⟩
  | .hbm, ⟨18, _⟩ => ⟨S1x1024, .f32⟩
  | .hbm, ⟨19, _⟩ => ⟨S1x1024, .f32⟩
  | .hbm, ⟨20, _⟩ => ⟨S16384x1024, .bf16⟩
  | .hbm, ⟨21, _⟩ => ⟨S16384x1024, .bf16⟩
  | .hbm, ⟨22, _⟩ => ⟨S16384x1024, .bf16⟩
  | .hbm, ⟨23, _⟩ => ⟨S16384x1024, .f32⟩
  | .hbm, ⟨24, _⟩ => ⟨S16384x1024, .f32⟩
  | .hbm, ⟨25, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S6x1024, .f32⟩
  | .local _ .vmem, ⟨5, _⟩ => ⟨S3x1024x1024, .bf16⟩
  | .local _ .vmem, ⟨6, _⟩ => ⟨S1x1024, .f32⟩
  | .local _ .vmem, ⟨7, _⟩ => ⟨S1024x64, .bf16⟩
  | .local _ .vmem, ⟨8, _⟩ => ⟨S64x1024, .bf16⟩
  | .local _ .vmem, ⟨9, _⟩ => ⟨S1x1024, .f32⟩
  | .local _ .vmem, ⟨10, _⟩ => ⟨S1024x64, .bf16⟩
  | .local _ .vmem, ⟨11, _⟩ => ⟨S64x1024, .bf16⟩
  | .local _ .vmem, ⟨12, _⟩ => ⟨S1024x128, .bf16⟩
  | .local _ .vmem, ⟨13, _⟩ => ⟨S128x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RwProjRefIdeal.lean ====
abbrev S16384x1024 : Shape := ⟨2, ![16384, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S4x4096x1024 : Shape := ⟨3, ![4, 4096, 1024]⟩
abbrev S_ : Shape := ⟨0, ![]⟩
abbrev S4x4097x1024 : Shape := ⟨3, ![4, 4097, 1024]⟩
abbrev S4x4096x1x1024 : Shape := ⟨4, ![4, 4096, 1, 1024]⟩
abbrev S1x1x6x1024 : Shape := ⟨4, ![1, 1, 6, 1024]⟩
abbrev S4x4096x6x1024 : Shape := ⟨4, ![4, 4096, 6, 1024]⟩
abbrev S4x4096x3x1024 : Shape := ⟨4, ![4, 4096, 3, 1024]⟩
abbrev S3x1024x4x4096 : Shape := ⟨4, ![3, 1024, 4, 4096]⟩
abbrev S4x4096x64 : Shape := ⟨3, ![4, 4096, 64]⟩
abbrev S1x1x1024 : Shape := ⟨3, ![1, 1, 1024]⟩
abbrev S4x4096x128 : Shape := ⟨3, ![4, 4096, 128]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6x1024, .f32⟩
  | .hbm, ⟨2, _⟩ => ⟨S3x1024x1024, .f32⟩
  | .hbm, ⟨3, _⟩ => ⟨S1024, .f32⟩
  | .hbm, ⟨4, _⟩ => ⟨S1024x64, .f32⟩
  | .hbm, ⟨5, _⟩ => ⟨S64x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024x128, .f32⟩
  | .hbm, ⟨10, _⟩ => ⟨S128x1024, .f32⟩
  | .hbm, ⟨11, _⟩ => ⟨S4x4096x1024, .f32⟩
  | .hbm, ⟨12, _⟩ => ⟨S_, .i32⟩
  | .hbm, ⟨13, _⟩ => ⟨S_, .f32⟩
  | .hbm, ⟨14, _⟩ => ⟨S4x4097x1024, .f32⟩
  | .hbm, ⟨15, _⟩ => ⟨S4x4096x1024, .f32⟩
  | .hbm, ⟨16, _⟩ => ⟨S4x4096x1024, .f32⟩
  | .hbm, ⟨17, _⟩ => ⟨S4x4096x1x1024, .f32⟩
  | .hbm, ⟨18, _⟩ => ⟨S4x4096x1x1024, .f32⟩
  | .hbm, ⟨19, _⟩ => ⟨S1x1x6x1024, .f32⟩
  | .hbm, ⟨20, _⟩ => ⟨S4x4096x6x1024, .f32⟩
  | .hbm, ⟨21, _⟩ => ⟨S4x4096x6x1024, .f32⟩
  | .hbm, ⟨22, _⟩ => ⟨S4x4096x6x1024, .f32⟩
  | .hbm, ⟨23, _⟩ => ⟨S4x4096x6x1024, .f32⟩
  | .hbm, ⟨24, _⟩ => ⟨S4x4096x6x1024, .f32⟩
  | .hbm, ⟨25, _⟩ => ⟨S4x4096x3x1024, .f32⟩
  | .hbm, ⟨26, _⟩ => ⟨S3x1024x4x4096, .f32⟩
  | .hbm, ⟨27, _⟩ => ⟨S4x4096x3x1024, .f32⟩
  | .hbm, ⟨28, _⟩ => ⟨S4x4096x1x1024, .f32⟩
  | .hbm, ⟨29, _⟩ => ⟨S4x4096x1024, .f32⟩
  | .hbm, ⟨30, _⟩ => ⟨S4x4096x1x1024, .f32⟩
  | .hbm, ⟨31, _⟩ => ⟨S4x4096x1024, .f32⟩
  | .hbm, ⟨32, _⟩ => ⟨S4x4096x1x1024, .f32⟩
  | .hbm, ⟨33, _⟩ => ⟨S4x4096x1024, .f32⟩
  | .hbm, ⟨34, _⟩ => ⟨S4x4096x1x1024, .f32⟩
  | .hbm, ⟨35, _⟩ => ⟨S4x4096x1024, .f32⟩
  | .hbm, ⟨36, _⟩ => ⟨S4x4096x1x1024, .f32⟩
  | .hbm, ⟨37, _⟩ => ⟨S4x4096x1024, .f32⟩
  | .hbm, ⟨38, _⟩ => ⟨S4x4096x1x1024, .f32⟩
  | .hbm, ⟨39, _⟩ => ⟨S4x4096x1024, .f32⟩
  | .hbm, ⟨40, _⟩ => ⟨S4x4096x64, .f32⟩
  | .hbm, ⟨41, _⟩ => ⟨S4x4096x64, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .i1⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096x1024, .f32⟩
  | .hbm, ⟨64, _⟩ => ⟨S4x4096x1024, .f32⟩
  | .hbm, ⟨65, _⟩ => ⟨S4x4096x64, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S4x4096x128, .f32⟩
  | .hbm, ⟨79, _⟩ => ⟨S4x4096x128, .f32⟩
  | .hbm, ⟨80, _⟩ => ⟨S4x4096x128, .f32⟩
  | .hbm, ⟨81, _⟩ => ⟨S_, .f32⟩
  | .hbm, ⟨82, _⟩ => ⟨S4x4096x128, .f32⟩
  | .hbm, ⟨83, _⟩ => ⟨S4x4096x128, .f32⟩
  | .hbm, ⟨84, _⟩ => ⟨S_, .f32⟩
  | .hbm, ⟨85, _⟩ => ⟨S4x4096x128, .f32⟩
  | .hbm, ⟨86, _⟩ => ⟨S4x4096x128, .f32⟩
  | .hbm, ⟨87, _⟩ => ⟨S4x4096x1024, .f32⟩
  | .hbm, ⟨88, _⟩ => ⟨S16384x1024, .f32⟩
  | .hbm, ⟨89, _⟩ => ⟨S16384x1024, .bf16⟩
  | .hbm, ⟨90, _⟩ => ⟨S16384x1024, .f32⟩
  | .hbm, ⟨91, _⟩ => ⟨S16384x1024, .bf16⟩
  | .hbm, ⟨92, _⟩ => ⟨S16384x1024, .f32⟩
  | .hbm, ⟨93, _⟩ => ⟨S16384x1024, .bf16⟩
  | .hbm, ⟨94, _⟩ => ⟨S4x4096x1024, .f32⟩
  | .hbm, ⟨95, _⟩ => ⟨S4x4096x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_v34 : Ref sig .tc := ⟨.hbm, 60, rfl⟩
abbrev main_v35 : Ref sig .tc := ⟨.hbm, 61, rfl⟩
abbrev main_cst : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_0 : Ref sig .tc := ⟨.hbm, 72, rfl⟩
abbrev main_v45 : Ref sig .tc := ⟨.hbm, 73, rfl⟩
abbrev main_v46 : Ref sig .tc := ⟨.hbm, 74, rfl⟩
abbrev main_cst_1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_2 : Ref sig .tc := ⟨.hbm, 81, rfl⟩
abbrev main_v52 : Ref sig .tc := ⟨.hbm, 82, rfl⟩
abbrev main_v53 : Ref sig .tc := ⟨.hbm, 83, rfl⟩
abbrev main_cst_3 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== GateProj.lean ====
abbrev S16384x1024 : Shape := ⟨2, ![16384, 1024]⟩
abbrev S1024x16 : Shape := ⟨2, ![1024, 16]⟩
abbrev S_ : Shape := ⟨0, ![]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x16, .f32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S1024x128, .bf16⟩
  | .hbm, ⟨6, _⟩ => ⟨S16384x128, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateProjRefIdeal.lean ====
abbrev S16384x1024 : Shape := ⟨2, ![16384, 1024]⟩
abbrev S1024x16 : Shape := ⟨2, ![1024, 16]⟩
abbrev S16384x16 : Shape := ⟨2, ![16384, 16]⟩
abbrev S_ : Shape := ⟨0, ![]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16, .f32⟩
  | .hbm, ⟨2, _⟩ => ⟨S16384x16, .f32⟩
  | .hbm, ⟨3, _⟩ => ⟨S16384x16, .bf16⟩
  | .hbm, ⟨4, _⟩ => ⟨S_, .i32⟩
  | .hbm, ⟨5, _⟩ => ⟨S_, .bf16⟩
  | .hbm, ⟨6, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== BiasTiles.lean ====
abbrev S32x8 : Shape := ⟨2, ![32, 8]⟩
abbrev S1535 : Shape := ⟨1, ![1535]⟩
abbrev S512 : Shape := ⟨1, ![512]⟩
abbrev S2 : Shape := ⟨1, ![2]⟩
abbrev S2x1x1 : Shape := ⟨3, ![2, 1, 1]⟩
abbrev S_ : Shape := ⟨0, ![]⟩
abbrev S1x512x1 : Shape := ⟨3, ![1, 512, 1]⟩
abbrev S2x512x1 : Shape := ⟨3, ![2, 512, 1]⟩
abbrev S1x1x512 : Shape := ⟨3, ![1, 1, 512]⟩
abbrev S2x512x512 : Shape := ⟨3, ![2, 512, 512]⟩
abbrev S2x512x512x1 : Shape := ⟨4, ![2, 512, 512, 1]⟩
abbrev S8x2x512x512 : Shape := ⟨4, ![8, 2, 512, 512]⟩
abbrev S1x2x512x512 : Shape := ⟨4, ![1, 2, 512, 512]⟩
abbrev S1x1 : Shape := ⟨2, ![1, 1]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 29
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S1535, .i32⟩
  | .hbm, ⟨2, _⟩ => ⟨S512, .i32⟩
  | .hbm, ⟨3, _⟩ => ⟨S2, .i32⟩
  | .hbm, ⟨4, _⟩ => ⟨S2x1x1, .i32⟩
  | .hbm, ⟨5, _⟩ => ⟨S_, .i32⟩
  | .hbm, ⟨6, _⟩ => ⟨S2x1x1, .i32⟩
  | .hbm, ⟨7, _⟩ => ⟨S2x1x1, .i32⟩
  | .hbm, ⟨8, _⟩ => ⟨S1x512x1, .i32⟩
  | .hbm, ⟨9, _⟩ => ⟨S2x512x1, .i32⟩
  | .hbm, ⟨10, _⟩ => ⟨S2x512x1, .i32⟩
  | .hbm, ⟨11, _⟩ => ⟨S2x512x1, .i32⟩
  | .hbm, ⟨12, _⟩ => ⟨S1x1x512, .i32⟩
  | .hbm, ⟨13, _⟩ => ⟨S2x512x512, .i32⟩
  | .hbm, ⟨14, _⟩ => ⟨S2x512x512, .i32⟩
  | .hbm, ⟨15, _⟩ => ⟨S2x512x512, .i32⟩
  | .hbm, ⟨16, _⟩ => ⟨S_, .i32⟩
  | .hbm, ⟨17, _⟩ => ⟨S2x512x512, .i32⟩
  | .hbm, ⟨18, _⟩ => ⟨S2x512x512, .i32⟩
  | .hbm, ⟨19, _⟩ => ⟨S_, .i32⟩
  | .hbm, ⟨20, _⟩ => ⟨S2x512x512, .i32⟩
  | .hbm, ⟨21, _⟩ => ⟨S2x512x512, .i1⟩
  | .hbm, ⟨22, _⟩ => ⟨S_, .i32⟩
  | .hbm, ⟨23, _⟩ => ⟨S2x512x512, .i32⟩
  | .hbm, ⟨24, _⟩ => ⟨S2x512x512, .i32⟩
  | .hbm, ⟨25, _⟩ => ⟨S2x512x512, .i32⟩
  | .hbm, ⟨26, _⟩ => ⟨S2x512x512x1, .i32⟩
  | .hbm, ⟨27, _⟩ => ⟨S2x512x512, .i32⟩
  | .hbm, ⟨28, _⟩ => ⟨S8x2x512x512, .f32⟩
  | .local _ .vmem, ⟨0, _⟩ => ⟨S2x512x512, .i32⟩
  | .local _ .vmem, ⟨1, _⟩ => ⟨S1x2x512x512, .f32⟩
  | .local _ .vmem, ⟨2, _⟩ => ⟨S1x2x512x512, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_c_2 : Ref sig .tc := ⟨.hbm, 19, rfl⟩
abbrev main_v15 : Ref sig .tc := ⟨.hbm, 20, rfl⟩
abbrev main_v16 : Ref sig .tc := ⟨.hbm, 21, rfl⟩
abbrev main_c_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c31 : Index := 31#32
  let arg0 : BitVec 32 := BitVec.ofNat 32 (i 0).val
  let v0 : Index := Scalar.indexCast arg0
  ![31, v0.toNat]
def k0_off2 (i : grid0.Coords) : Fin 2 → Nat :=
  let c0_2 : Index := 0#32
  let arg0 : BitVec 32 := BitVec.ofNat 32 (i 0).val
  let v7 : Index := Scalar.indexCast arg0
  ![0, v7.toNat]
def k0_off3 (i : grid0.Coords) : Fin 2 → Nat :=
  let c1 : Index := 1#32
  let arg0 : BitVec 32 := BitVec.ofNat 32 (i 0).val
  let v15 : Index := Scalar.indexCast arg0
  ![1, v15.toNat]
def k0_off4 (i : grid0.Coords) : Fin 2 → Nat :=
  let c2 : Index := 2#32
  let arg0 : BitVec 32 := BitVec.ofNat 32 (i 0).val
  let v23 : Index := Scalar.indexCast arg0
  ![2, v23.toNat]
def k0_off5 (i : grid0.Coords) : Fin 2 → Nat :=
  let c3 : Index := 3#32
  let arg0 : BitVec 32 := BitVec.ofNat 32 (i 0).val
  let v31 : Index := Scalar.indexCast arg0
  ![3, v31.toNat]
def k0_off6 (i : grid0.Coords) : Fin 2 → Nat :=
  let c4 : Index := 4#32
  let arg0 : BitVec 32 := BitVec.ofNat 32 (i 0).val
  let v39 : Index := Scalar.indexCast arg0
  ![4, v39.toNat]
def k0_off7 (i : grid0.Coords) : Fin 2 → Nat :=
  let c5 : Index := 5#32
  let arg0 : BitVec 32 := BitVec.ofNat 32 (i 0).val
  let v47 : Index := Scalar.indexCast arg0
  ![5, v47.toNat]
def k0_off8 (i : grid0.Coords) : Fin 2 → Nat :=
  let c6 : Index := 6#32
  let arg0 : BitVec 32 := BitVec.ofNat 32 (i 0).val
  let v55 : Index := Scalar.indexCast arg0
  ![6, v55.toNat]
def k0_off9 (i : grid0.Coords) : Fin 2 → Nat :=
  let c7 : Index := 7#32
  let arg0 : BitVec 32 := BitVec.ofNat 32 (i 0).val
  let v63 : Index := Scalar.indexCast arg0
  ![7, v63.toNat]
def k0_off10 (i : grid0.Coords) : Fin 2 → Nat :=
  let c8 : Index := 8#32
  let arg0 : BitVec 32 := BitVec.ofNat 32 (i 0).val
  let v71 : Index := Scalar.indexCast arg0
  ![8, v71.toNat]
def k0_off11 (i : grid0.Coords) : Fin 2 → Nat :=
  let c9 : Index := 9#32
  let arg0 : BitVec 32 := BitVec.ofNat 32 (i 0).val
  let v79 : Index := Scalar.indexCast arg0
  ![9, v79.toNat]
def k0_off12 (i : grid0.Coords) : Fin 2 → Nat :=
  let c10 : Index := 10#32
  let arg0 : BitVec 32 := BitVec.ofNat 32 (i 0).val
  let v87 : Index := Scalar.indexCast arg0
  ![10, v87.toNat]
def k0_off13 (i : grid0.Coords) : Fin 2 → Nat :=
  let c11 : Index := 11#32
  let arg0 : BitVec 32 := BitVec.ofNat 32 (i 0).val
  let v95 : Index := Scalar.indexCast arg0
  ![11, v95.toNat]
def k0_off14 (i : grid0.Coords) : Fin 2 → Nat :=
  let c12 : Index := 12#32
  let arg0 : BitVec 32 := BitVec.ofNat 32 (i 0).val
  let v103 : Index := Scalar.indexCast arg0
  ![12, v103.toNat]
def k0_off15 (i : grid0.Coords) : Fin 2 → Nat :=
  let c13 : Index := 13#32
  let arg0 : BitVec 32 := BitVec.ofNat 32 (i 0).val
  let v111 : Index := Scalar.indexCast arg0
  ![13, v111.toNat]
def k0_off16 (i : grid0.Coords) : Fin 2 → Nat :=
  let c14 : Index := 14#32
  let arg0 : BitVec 32 := BitVec.ofNat 32 (i 0).val
  let v119 : Index := Scalar.indexCast arg0
  ![14, v119.toNat]
def k0_off17 (i : grid0.Coords) : Fin 2 → Nat :=
  let c15 : Index := 15#32
  let arg0 : BitVec 32 := BitVec.ofNat 32 (i 0).val
  let v127 : Index := Scalar.indexCast arg0
  ![15, v127.toNat]
def k0_off18 (i : grid0.Coords) : Fin 2 → Nat :=
  let c16 : Index := 16#32
  let arg0 : BitVec 32 := BitVec.ofNat 32 (i 0).val
  let v135 : Index := Scalar.indexCast arg0
  ![16, v135.toNat]
def k0_off19 (i : grid0.Coords) : Fin 2 → Nat :=
  let c17 : Index := 17#32
  let arg0 : BitVec 32 := BitVec.ofNat 32 (i 0).val
  let v143 : Index := Scalar.indexCast arg0
  ![17, v143.toNat]
def k0_off20 (i : grid0.Coords) : Fin 2 → Nat :=
  let c18 : Index := 18#32
  let arg0 : BitVec 32 := BitVec.ofNat 32 (i 0).val
  let v151 : Index := Scalar.indexCast arg0
  ![18, v151.toNat]
def k0_off21 (i : grid0.Coords) : Fin 2 → Nat :=
  let c19 : Index := 19#32
  let arg0 : BitVec 32 := BitVec.ofNat 32 (i 0).val
  let v159 : Index := Scalar.indexCast arg0
  ![19, v159.toNat]
def k0_off22 (i : grid0.Coords) : Fin 2 → Nat :=
  let c20 : Index := 20#32
  let arg0 : BitVec 32 := BitVec.ofNat 32 (i 0).val
  let v167 : Index := Scalar.indexCast arg0
  ![20, v167.toNat]
def k0_off23 (i : grid0.Coords) : Fin 2 → Nat :=
  let c21 : Index := 21#32
  let arg0 : BitVec 32 := BitVec.ofNat 32 (i 0).val
  let v175 : Index := Scalar.indexCast arg0
  ![21, v175.toNat]
def k0_off24 (i : grid0.Coords) : Fin 2 → Nat :=
  let c22 : Index := 22#32
  let arg0 : BitVec 32 := BitVec.ofNat 32 (i 0).val
  let v183 : Index := Scalar.indexCast arg0
  ![22, v183.toNat]
def k0_off25 (i : grid0.Coords) : Fin 2 → Nat :=
  let c23 : Index := 23#32
  let arg0 : BitVec 32 := BitVec.ofNat 32 (i 0).val
  let v191 : Index := Scalar.indexCast arg0
  ![23, v191.toNat]
def k0_off26 (i : grid0.Coords) : Fin 2 → Nat :=
  let c24 : Index := 24#32
  let arg0 : BitVec 32 := BitVec.ofNat 32 (i 0).val
  let v199 : Index := Scalar.indexCast arg0
  ![24, v199.toNat]
def k0_off27 (i : grid0.Coords) : Fin 2 → Nat :=
  let c25 : Index := 25#32
  let arg0 : BitVec 32 := BitVec.ofNat 32 (i 0).val
  let v207 : Index := Scalar.indexCast arg0
  ![25, v207.toNat]
def k0_off28 (i : grid0.Coords) : Fin 2 → Nat :=
  let c26 : Index := 26#32
  let arg0 : BitVec 32 := BitVec.ofNat 32 (i 0).val
  let v215 : Index := Scalar.indexCast arg0
  ![26, v215.toNat]
def k0_off29 (i : grid0.Coords) : Fin 2 → Nat :=
  let c27 : Index := 27#32
  let arg0 : BitVec 32 := BitVec.ofNat 32 (i 0).val
  let v223 : Index := Scalar.indexCast arg0
  ![27, v223.toNat]
def k0_off30 (i : grid0.Coords) : Fin 2 → Nat :=
  let c28 : Index := 28#32
  let arg0 : BitVec 32 := BitVec.ofNat 32 (i 0).val
  let v231 : Index := Scalar.indexCast arg0
  ![28, v231.toNat]
def k0_off31 (i : grid0.Coords) : Fin 2 → Nat :=
  let c29 : Index := 29#32
  let arg0 : BitVec 32 := BitVec.ofNat 32 (i 0).val
  let v239 : Index := Scalar.indexCast arg0
  ![29, v239.toNat]
def k0_off32 (i : grid0.Coords) : Fin 2 → Nat :=
  let c30 : Index := 30#32
  let arg0 : BitVec 32 := BitVec.ofNat 32 (i 0).val
  let v247 : Index := Scalar.indexCast arg0
  ![30, v247.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasTilesIdeal.lean ====
variable {F : FTy → Type} [FloatOps F] [Named F]
def κ : String → Option EReal := fun
  | "mask" => some ⊥
  | _ => none
-- ==== BiasTilesRefIdeal.lean ====
abbrev S32x8 : Shape := ⟨2, ![32, 8]⟩
abbrev S512 : Shape := ⟨1, ![512]⟩
abbrev S2 : Shape := ⟨1, ![2]⟩
abbrev S2x1x1 : Shape := ⟨3, ![2, 1, 1]⟩
abbrev S_ : Shape := ⟨0, ![]⟩
abbrev S1x512x1 : Shape := ⟨3, ![1, 512, 1]⟩
abbrev S2x512x1 : Shape := ⟨3, ![2, 512, 1]⟩
abbrev S1x1x512 : Shape := ⟨3, ![1, 1, 512]⟩
abbrev S2x512x512 : Shape := ⟨3, ![2, 512, 512]⟩
abbrev S1x8 : Shape := ⟨2, ![1, 8]⟩
abbrev S8 : Shape := ⟨1, ![8]⟩
abbrev S2x512x512x1 : Shape := ⟨4, ![2, 512, 512, 1]⟩
abbrev S2x512x512x8 : Shape := ⟨4, ![2, 512, 512, 8]⟩
abbrev S8x2x512x512 : Shape := ⟨4, ![8, 2, 512, 512]⟩

abbrev nBuf : Space → Nat
  | .hbm => 69
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S512, .i32⟩
  | .hbm, ⟨2, _⟩ => ⟨S2, .i32⟩
  | .hbm, ⟨3, _⟩ => ⟨S2x1x1, .i32⟩
  | .hbm, ⟨4, _⟩ => ⟨S_, .i32⟩
  | .hbm, ⟨5, _⟩ => ⟨S2x1x1, .i32⟩
  | .hbm, ⟨6, _⟩ => ⟨S2x1x1, .i32⟩
  | .hbm, ⟨7, _⟩ => ⟨S1x512x1, .i32⟩
  | .hbm, ⟨8, _⟩ => ⟨S2x512x1, .i32⟩
  | .hbm, ⟨9, _⟩ => ⟨S2x512x1, .i32⟩
  | .hbm, ⟨10, _⟩ => ⟨S2x512x1, .i32⟩
  | .hbm, ⟨11, _⟩ => ⟨S1x1x512, .i32⟩
  | .hbm, ⟨12, _⟩ => ⟨S2x512x512, .i32⟩
  | .hbm, ⟨13, _⟩ => ⟨S2x512x512, .i32⟩
  | .hbm, ⟨14, _⟩ => ⟨S2x512x512, .i32⟩
  | .hbm, ⟨15, _⟩ => ⟨S1x8, .f32⟩
  | .hbm, ⟨16, _⟩ => ⟨S8, .f32⟩
  | .hbm, ⟨17, _⟩ => ⟨S1x8, .f32⟩
  | .hbm, ⟨18, _⟩ => ⟨S32x8, .f32⟩
  | .hbm, ⟨19, _⟩ => ⟨S32x8, .f32⟩
  | .hbm, ⟨20, _⟩ => ⟨S_, .i32⟩
  | .hbm, ⟨21, _⟩ => ⟨S2x512x512, .i32⟩
  | .hbm, ⟨22, _⟩ => ⟨S2x512x512, .i32⟩
  | .hbm, ⟨23, _⟩ => ⟨S_, .i32⟩
  | .hbm, ⟨24, _⟩ => ⟨S2x512x512, .i32⟩
  | .hbm, ⟨25, _⟩ => ⟨S2x512x512, .i32⟩
  | .hbm, ⟨26, _⟩ => ⟨S2x512x512, .f32⟩
  | .hbm, ⟨27, _⟩ => ⟨S_, .f32⟩
  | .hbm, ⟨28, _⟩ => ⟨S2x512x512, .f32⟩
  | .hbm, ⟨29, _⟩ => ⟨S2x512x512, .f32⟩
  | .hbm, ⟨30, _⟩ => ⟨S2x512x512, .f32⟩
  | .hbm, ⟨31, _⟩ => ⟨S_, .f32⟩
  | .hbm, ⟨32, _⟩ => ⟨S2x512x512, .f32⟩
  | .hbm, ⟨33, _⟩ => ⟨S2x512x512, .f32⟩
  | .hbm, ⟨34, _⟩ => ⟨S_, .f32⟩
  | .hbm, ⟨35, _⟩ => ⟨S2x512x512, .f32⟩
  | .hbm, ⟨36, _⟩ => ⟨S2x512x512, .f32⟩
  | .hbm, ⟨37, _⟩ => ⟨S2x512x512, .i32⟩
  | .hbm, ⟨38, _⟩ => ⟨S_, .i32⟩
  | .hbm, ⟨39, _⟩ => ⟨S2x512x512, .i32⟩
  | .hbm, ⟨40, _⟩ => ⟨S2x512x512, .i32⟩
  | .hbm, ⟨41, _⟩ => ⟨S_, .i32⟩
  | .hbm, ⟨42, _⟩ => ⟨S2x512x512, .i32⟩
  | .hbm, ⟨43, _⟩ => ⟨S2x512x512, .i32⟩
  | .hbm, ⟨44, _⟩ => ⟨S_, .i32⟩
  | .hbm, ⟨45, _⟩ => ⟨S2x512x512, .i32⟩
  | .hbm, ⟨46, _⟩ => ⟨S2x512x512, .i1⟩
  | .hbm, ⟨47, _⟩ => ⟨S2x512x512, .i32⟩
  | .hbm, ⟨48, _⟩ => ⟨S_, .i32⟩
  | .hbm, ⟨49, _⟩ => ⟨S2x512x512, .i32⟩
  | .hbm, ⟨50, _⟩ => ⟨S2x512x512, .i1⟩
  | .hbm, ⟨51, _⟩ => ⟨S_, .i32⟩
  | .hbm, ⟨52, _⟩ => ⟨S2x512x512, .i32⟩
  | .hbm, ⟨53, _⟩ => ⟨S2x512x512, .i32⟩
  | .hbm, ⟨54, _⟩ => ⟨S2x512x512, .i32⟩
  | .hbm, ⟨55, _⟩ => ⟨S2x512x512x1, .i32⟩
  | .hbm, ⟨56, _⟩ => ⟨S2x512x512x8, .f32⟩
  | .hbm, ⟨57, _⟩ => ⟨S8x2x512x512, .f32⟩
  | .hbm, ⟨58, _⟩ => ⟨S_, .i32⟩
  | .hbm, ⟨59, _⟩ => ⟨S2x512x512, .i32⟩
  | .hbm, ⟨60, _⟩ => ⟨S2x512x512, .i1⟩
  | .hbm, ⟨61, _⟩ => ⟨S_, .f32⟩
  | .hbm, ⟨62, _⟩ => ⟨S8x2x512x512, .f32⟩
  | .hbm, ⟨63, _⟩ => ⟨S8x2x512x512, .f32⟩
  | .hbm, ⟨64, _⟩ => ⟨S_, .f32⟩
  | .hbm, ⟨65, _⟩ => ⟨S_, .f32⟩
  | .hbm, ⟨66, _⟩ => ⟨S8x2x512x512, .i1⟩
  | .hbm, ⟨67, _⟩ => ⟨S8x2x512x512, .f32⟩
  | .hbm, ⟨68, _⟩ => ⟨S8x2x512x512, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_c_5 : Ref sig .tc := ⟨.hbm, 41, rfl⟩
abbrev main_v33 : Ref sig .tc := ⟨.hbm, 42, rfl⟩
abbrev main_v34 : Ref sig .tc := ⟨.hbm, 43, rfl⟩
abbrev main_c_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_7 : Ref sig .tc := ⟨.hbm, 48, rfl⟩
abbrev main_v38 : Ref sig .tc := ⟨.hbm, 49, rfl⟩
abbrev main_v39 : Ref sig .tc := ⟨.hbm, 50, rfl⟩
abbrev main_c_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_9 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_cst_11 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.GlaRoll.lean ====
/- The running sum of the gates inside a chunk, as the kernel writes it: six masked rotations by powers of two. -/
module

public import proofs.«01_k».proof.Proof.Gen.GlaIdeal.Value
public import Idealize.ShloMosaic.Lib.Pipeline.ValueKit
public import Idealize.ShloMosaic.Lib.Pipeline.ReadBack

@[expose] public section

set_option maxRecDepth 16384

noncomputable section

namespace Cert.GlaIdeal.Value

open Cert.GlaIdeal Cert.GlaIdeal.Gen Idealize.ShloMosaic Idealize.ShloMosaic.TcCoe Idealize.SL.Sem

/-- The row's number inside its chunk. -/
def POS : IVec S512x256 32 := k0_pay5 64#32 k0_pay4 0#32

/-- One masked rotation. -/
def stage (k : ℕ) (A : FVec Ideal S512x256 .f32) : FVec Ideal S512x256 .f32 :=
  addf A (select (cmpi .sge POS (broadcast S512x256 (BitVec.ofNat 32 k))) (dynamicRotate 0 (BitVec.ofNat 32 k) none A rotates_S512x256_d0) (broadcast S512x256 (Scalar.ofBits .f32 0x00000000#32)))

/-- The row's number is the remainder by the chunk's length. -/
theorem pos_at (r : Fin 512) (x : Fin 256) : POS (ix2 r x) = BitVec.ofNat 32 (r.val % 64) := by
  unfold POS
  pointwise [k0_pay5, k0_pay4]
  revert r
  decide +kernel

/-- A rotation is taken on the rows that have as many before them in their chunk. -/
theorem mask_at (k : ℕ) (hk : k = 1 ∨ k = 2 ∨ k = 4 ∨ k = 8 ∨ k = 16 ∨ k = 32) (r : Fin 512) :
    IntOp.cmpi CmpIPredicate.sge (BitVec.ofNat 32 (r.val % 64)) (BitVec.ofNat 32 k) = if k ≤ r.val % 64 then 1#1 else 0#1 := by
  revert r
  rcases hk with rfl | rfl | rfl | rfl | rfl | rfl <;> decide +kernel

/-- A masked rotation at an index. -/
theorem stage_at (k : ℕ) (hk : k = 1 ∨ k = 2 ∨ k = 4 ∨ k = 8 ∨ k = 16 ∨ k = 32) (A : FVec Ideal S512x256 .f32) (r : Fin 512) (x : Fin 256) :
    stage k A (ix2 r x) = A (ix2 r x) + if h : k ≤ r.val % 64 then A (ix2 ⟨r.val - k, by omega⟩ x) else 0 := by
  have e : stage k A (ix2 r x) = A (ix2 r x) + Scalar.select (IntOp.cmpi CmpIPredicate.sge (POS (ix2 r x)) (BitVec.ofNat 32 k)) (A (ix2 ⟨(r.val + 512 - k) % 512, Nat.mod_lt _ (by decide)⟩ x)) 0 := by
    unfold stage
    rcases hk with rfl | rfl | rfl | rfl | rfl | rfl <;> pointwise []
  rw [e, pos_at, mask_at k hk]
  congr 1
  by_cases h : k ≤ r.val % 64
  · rw [if_pos h, dif_pos h]
    have : (⟨(r.val + 512 - k) % 512, Nat.mod_lt _ (by decide)⟩ : Fin 512) = ⟨r.val - k, by omega⟩ := Fin.ext (by
      show (r.val + 512 - k) % 512 = r.val - k
      omega)
    rw [this]; rfl
  · rw [if_neg h, dif_neg h]; rfl

/-- A column as a sequence, zero past its end. -/
def col (A : FVec Ideal S512x256 .f32) (x : Fin 256) (r : ℕ) : EReal := if h : r < 512 then A (ix2 ⟨r, h⟩ x) else 0

/-- A masked rotation doubles the number of rows summed. -/
theorem stage_sum (k : ℕ) (hk : k = 1 ∨ k = 2 ∨ k = 4 ∨ k = 8 ∨ k = 16 ∨ k = 32) (A B : FVec Ideal S512x256 .f32)
    (hB : ∀ (r : Fin 512) (x : Fin 256), B (ix2 r x) = ∑ j ∈ Finset.range (min k (r.val % 64 + 1)), col A x (r.val - j)) (r : Fin 512) (x : Fin 256) :
    stage k B (ix2 r x) = ∑ j ∈ Finset.range (min (2 * k) (r.val % 64 + 1)), col A x (r.val - j) := by
  rw [stage_at k hk, hB]
  by_cases h : k ≤ r.val % 64
  · rw [dif_pos h, hB]
    have e : min (2 * k) (r.val % 64 + 1) = k + min k ((r.val - k) % 64 + 1) := by omega
    have e' : min k (r.val % 64 + 1) = k := by omega
    rw [e, e', Finset.sum_range_add]
    congr 1
    refine Finset.sum_congr rfl fun j _ => ?_
    congr 1
    show r.val - k - j = r.val - (k + j)
    omega
  · rw [dif_neg h, add_zero]
    congr 2
    omega

/-- The kernel's running sum. -/
def CUM (A : FVec Ideal S512x256 .f32) : FVec Ideal S512x256 .f32 :=
  k0_pay7 (k0_pay5 64#32 k0_pay4 0#32) (k0_pay6 A 64#32 k0_pay4 0#32) 32#32

/-- It is six masked rotations. -/
theorem cum_stages (A : FVec Ideal S512x256 .f32) : CUM A = stage 32 (stage 16 (stage 8 (stage 4 (stage 2 (stage 1 A))))) := rfl

/-- The running sum at a row is the sum of the rows of its chunk up to it. -/
theorem cum_at (A : FVec Ideal S512x256 .f32) (r : Fin 512) (x : Fin 256) :
    CUM A (ix2 r x) = ∑ j ∈ Finset.range (r.val % 64 + 1), col A x (64 * (r.val / 64) + j) := by
  rw [cum_stages]
  have h1 := stage_sum 1 (by decide) A A (fun r x => by
    have : min 1 (r.val % 64 + 1) = 1 := by omega
    rw [this, Finset.sum_range_one]
    unfold col
    rw [dif_pos (by omega)]
    rfl)
  have h2 := stage_sum 2 (by decide) A _ h1
  have h3 := stage_sum 4 (by decide) A _ h2
  have h4 := stage_sum 8 (by decide) A _ h3
  have h5 := stage_sum 16 (by decide) A _ h4
  have h6 := stage_sum 32 (by decide) A _ h5
  rw [h6]
  have e : min (2 * 32) (r.val % 64 + 1) = r.val % 64 + 1 := by omega
  rw [e, ← Finset.sum_range_reflect]
  refine Finset.sum_congr rfl fun j hj => ?_
  rw [Finset.mem_range] at hj
  congr 1
  omega

end Cert.GlaIdeal.Value

end
-- ==== Proof.GlaUnits.lean ====
/- The kernel's work on each of its sixteen units (eight chunks, two heads), read at an index: what a chunk adds to the state, the state a chunk
   is entered with, the products of the chunk, and the piece stored. -/
module

public import proofs.«01_k».proof.Proof.GlaRoll

@[expose] public section

set_option maxRecDepth 16384

noncomputable section

namespace Cert.GlaIdeal.Value

open Cert.GlaIdeal Cert.GlaIdeal.Gen Idealize.ShloMosaic Idealize.ShloMosaic.TcCoe Idealize.SL.Sem

/-- A row of chunk 0 of the block. -/
def rw0 (i : Fin 64) : Fin 512 := ⟨i.val, by omega⟩

/-- A row of chunk 1 of the block. -/
def rw1 (i : Fin 64) : Fin 512 := ⟨64 + i.val, by omega⟩

/-- A row of chunk 2 of the block. -/
def rw2 (i : Fin 64) : Fin 512 := ⟨128 + i.val, by omega⟩

/-- A row of chunk 3 of the block. -/
def rw3 (i : Fin 64) : Fin 512 := ⟨192 + i.val, by omega⟩

/-- A row of chunk 4 of the block. -/
def rw4 (i : Fin 64) : Fin 512 := ⟨256 + i.val, by omega⟩

/-- A row of chunk 5 of the block. -/
def rw5 (i : Fin 64) : Fin 512 := ⟨320 + i.val, by omega⟩

/-- A row of chunk 6 of the block. -/
def rw6 (i : Fin 64) : Fin 512 := ⟨384 + i.val, by omega⟩

/-- A row of chunk 7 of the block. -/
def rw7 (i : Fin 64) : Fin 512 := ⟨448 + i.val, by omega⟩

/-- A key column of head 0 of the block. -/
def cx0 (d : Fin 128) : Fin 256 := ⟨d.val, by omega⟩

/-- A value column of head 0 of the block. -/
def ce0 (e : Fin 256) : Fin 512 := ⟨e.val, by omega⟩

/-- A key column of head 1 of the block. -/
def cx1 (d : Fin 128) : Fin 256 := ⟨128 + d.val, by omega⟩

/-- A value column of head 1 of the block. -/
def ce1 (e : Fin 256) : Fin 512 := ⟨256 + e.val, by omega⟩

/-- The running sums before the last rotation. -/
def CW (A : FVec Ideal S512x256 .f32) : FVec Ideal S512x256 .f32 := k0_pay6 A 64#32 k0_pay4 0#32

/-- The decayed queries of the block. -/
def CQ (A : FVec Ideal S512x256 .f32) (q : Vec Ideal S1x512x256 .bf16) : FVec Ideal S512x256 .bf16 := k0_pay9 POS (CW A) 32#32 q

/-- The keys of the block, the decay taken off. -/
def CK (A : FVec Ideal S512x256 .f32) (k : Vec Ideal S1x512x256 .bf16) : FVec Ideal S512x256 .bf16 := k0_pay10 POS (CW A) 32#32 k

/-- The lower triangle as the kernel makes it, a word. -/
def tri (i j : Fin 64) : BitVec 1 := IntOp.cmpi CmpIPredicate.sge (BitVec.ofNat 32 i.val) (BitVec.ofNat 32 j.val)

/-- What chunk 0 adds to the state of head 0. -/
def KV00 (A : FVec Ideal S512x256 .f32) (k : Vec Ideal S1x512x256 .bf16) (v : Vec Ideal S1x512x512 .bf16) : FVec Ideal S256x128 .f32 :=
  k0_pay95 (k0_pay27 POS (CW A) 32#32 k) (k0_pay47 (View.ld (Val := Elt Ideal) (e' := .bf16) (S := S1x512x512) v (Rect.unit (s := S1x512x512) ![0, 0, 0] S1x64x256.size inb_S1x512x512_S1x64x256_0_0_0)))

/-- Its elements. -/
theorem KV00_at (A : FVec Ideal S512x256 .f32) (k : Vec Ideal S1x512x256 .bf16) (v : Vec Ideal S1x512x512 .bf16) (e : Fin 256) (d : Fin 128) :
    KV00 A k v (ix2 e d) = ∑ j : Fin 64, v (ix3 0 (rw0 j) (ce0 e)) * (k (ix3 0 (rw0 j) (cx0 d)) * Ideal.exp (CUM A (ix2 (rw0 63) (cx0 d)) - CUM A (ix2 (rw0 j) (cx0 d)))) := by
  unfold KV00
  pointwise [k0_pay95, k0_pay47, k0_pay11, k0_pay8, k0_pay27]
  rfl

/-- What chunk 1 adds to the state of head 0. -/
def KV10 (A : FVec Ideal S512x256 .f32) (k : Vec Ideal S1x512x256 .bf16) (v : Vec Ideal S1x512x512 .bf16) : FVec Ideal S256x128 .f32 :=
  k0_pay96 (k0_pay30 (k0_pay28 k) (k0_pay29 POS (CW A) 32#32)) (k0_pay48 (View.ld (Val := Elt Ideal) (e' := .bf16) (S := S1x512x512) v (Rect.unit (s := S1x512x512) ![0, 64, 0] S1x64x256.size inb_S1x512x512_S1x64x256_0_64_0)))

/-- Its elements. -/
theorem KV10_at (A : FVec Ideal S512x256 .f32) (k : Vec Ideal S1x512x256 .bf16) (v : Vec Ideal S1x512x512 .bf16) (e : Fin 256) (d : Fin 128) :
    KV10 A k v (ix2 e d) = ∑ j : Fin 64, v (ix3 0 (rw1 j) (ce0 e)) * (k (ix3 0 (rw1 j) (cx0 d)) * Ideal.exp (CUM A (ix2 (rw1 63) (cx0 d)) - CUM A (ix2 (rw1 j) (cx0 d)))) := by
  unfold KV10
  pointwise [k0_pay96, k0_pay48, k0_pay12, k0_pay8, k0_pay30, k0_pay28, k0_pay29]
  rfl

/-- What chunk 2 adds to the state of head 0. -/
def KV20 (A : FVec Ideal S512x256 .f32) (k : Vec Ideal S1x512x256 .bf16) (v : Vec Ideal S1x512x512 .bf16) : FVec Ideal S256x128 .f32 :=
  k0_pay97 (k0_pay31 (k0_pay7 POS (CW A) 32#32) (k0_pay8 k) (k0_pay13 (F := Ideal) POS (CW A) 32#32)) (k0_pay49 (View.ld (Val := Elt Ideal) (e' := .bf16) (S := S1x512x512) v (Rect.unit (s := S1x512x512) ![0, 128, 0] S1x64x256.size inb_S1x512x512_S1x64x256_0_128_0)))

/-- Its elements. -/
theorem KV20_at (A : FVec Ideal S512x256 .f32) (k : Vec Ideal S1x512x256 .bf16) (v : Vec Ideal S1x512x512 .bf16) (e : Fin 256) (d : Fin 128) :
    KV20 A k v (ix2 e d) = ∑ j : Fin 64, v (ix3 0 (rw2 j) (ce0 e)) * (k (ix3 0 (rw2 j) (cx0 d)) * Ideal.exp (CUM A (ix2 (rw2 63) (cx0 d)) - CUM A (ix2 (rw2 j) (cx0 d)))) := by
  unfold KV20
  pointwise [k0_pay97, k0_pay49, k0_pay13, k0_pay8, k0_pay31]
  rfl

/-- What chunk 3 adds to the state of head 0. -/
def KV30 (A : FVec Ideal S512x256 .f32) (k : Vec Ideal S1x512x256 .bf16) (v : Vec Ideal S1x512x512 .bf16) : FVec Ideal S256x128 .f32 :=
  k0_pay98 (k0_pay32 (k0_pay7 POS (CW A) 32#32) (k0_pay8 k) (k0_pay14 (F := Ideal) POS (CW A) 32#32)) (k0_pay50 (View.ld (Val := Elt Ideal) (e' := .bf16) (S := S1x512x512) v (Rect.unit (s := S1x512x512) ![0, 192, 0] S1x64x256.size inb_S1x512x512_S1x64x256_0_192_0)))

/-- Its elements. -/
theorem KV30_at (A : FVec Ideal S512x256 .f32) (k : Vec Ideal S1x512x256 .bf16) (v : Vec Ideal S1x512x512 .bf16) (e : Fin 256) (d : Fin 128) :
    KV30 A k v (ix2 e d) = ∑ j : Fin 64, v (ix3 0 (rw3 j) (ce0 e)) * (k (ix3 0 (rw3 j) (cx0 d)) * Ideal.exp (CUM A (ix2 (rw3 63) (cx0 d)) - CUM A (ix2 (rw3 j) (cx0 d)))) := by
  unfold KV30
  pointwise [k0_pay98, k0_pay50, k0_pay14, k0_pay8, k0_pay32]
  rfl

/-- What chunk 4 adds to the state of head 0. -/
def KV40 (A : FVec Ideal S512x256 .f32) (k : Vec Ideal S1x512x256 .bf16) (v : Vec Ideal S1x512x512 .bf16) : FVec Ideal S256x128 .f32 :=
  k0_pay99 (k0_pay33 (k0_pay7 POS (CW A) 32#32) (k0_pay8 k) (k0_pay15 (F := Ideal) POS (CW A) 32#32)) (k0_pay51 (View.ld (Val := Elt Ideal) (e' := .bf16) (S := S1x512x512) v (Rect.unit (s := S1x512x512) ![0, 256, 0] S1x64x256.size inb_S1x512x512_S1x64x256_0_256_0)))

/-- Its elements. -/
theorem KV40_at (A : FVec Ideal S512x256 .f32) (k : Vec Ideal S1x512x256 .bf16) (v : Vec Ideal S1x512x512 .bf16) (e : Fin 256) (d : Fin 128) :
    KV40 A k v (ix2 e d) = ∑ j : Fin 64, v (ix3 0 (rw4 j) (ce0 e)) * (k (ix3 0 (rw4 j) (cx0 d)) * Ideal.exp (CUM A (ix2 (rw4 63) (cx0 d)) - CUM A (ix2 (rw4 j) (cx0 d)))) := by
  unfold KV40
  pointwise [k0_pay99, k0_pay51, k0_pay15, k0_pay8, k0_pay33]
  rfl

/-- What chunk 5 adds to the state of head 0. -/
def KV50 (A : FVec Ideal S512x256 .f32) (k : Vec Ideal S1x512x256 .bf16) (v : Vec Ideal S1x512x512 .bf16) : FVec Ideal S256x128 .f32 :=
  k0_pay100 (k0_pay34 (k0_pay7 POS (CW A) 32#32) (k0_pay8 k) (k0_pay16 (F := Ideal) POS (CW A) 32#32)) (k0_pay52 (View.ld (Val := Elt Ideal) (e' := .bf16) (S := S1x512x512) v (Rect.unit (s := S1x512x512) ![0, 320, 0] S1x64x256.size inb_S1x512x512_S1x64x256_0_320_0)))

/-- Its elements. -/
theorem KV50_at (A : FVec Ideal S512x256 .f32) (k : Vec Ideal S1x512x256 .bf16) (v : Vec Ideal S1x512x512 .bf16) (e : Fin 256) (d : Fin 128) :
    KV50 A k v (ix2 e d) = ∑ j : Fin 64, v (ix3 0 (rw5 j) (ce0 e)) * (k (ix3 0 (rw5 j) (cx0 d)) * Ideal.exp (CUM A (ix2 (rw5 63) (cx0 d)) - CUM A (ix2 (rw5 j) (cx0 d)))) := by
  unfold KV50
  pointwise [k0_pay100, k0_pay52, k0_pay16, k0_pay8, k0_pay34]
  rfl

/-- What chunk 6 adds to the state of head 0. -/
def KV60 (A : FVec Ideal S512x256 .f32) (k : Vec Ideal S1x512x256 .bf16) (v : Vec Ideal S1x512x512 .bf16) : FVec Ideal S256x128 .f32 :=
  k0_pay101 (k0_pay35 (k0_pay7 POS (CW A) 32#32) (k0_pay8 k) (k0_pay17 (F := Ideal) POS (CW A) 32#32)) (k0_pay53 (View.ld (Val := Elt Ideal) (e' := .bf16) (S := S1x512x512) v (Rect.unit (s := S1x512x512) ![0, 384, 0] S1x64x256.size inb_S1x512x512_S1x64x256_0_384_0)))

/-- Its elements. -/
theorem KV60_at (A : FVec Ideal S512x256 .f32) (k : Vec Ideal S1x512x256 .bf16) (v : Vec Ideal S1x512x512 .bf16) (e : Fin 256) (d : Fin 128) :
    KV60 A k v (ix2 e d) = ∑ j : Fin 64, v (ix3 0 (rw6 j) (ce0 e)) * (k (ix3 0 (rw6 j) (cx0 d)) * Ideal.exp (CUM A (ix2 (rw6 63) (cx0 d)) - CUM A (ix2 (rw6 j) (cx0 d)))) := by
  unfold KV60
  pointwise [k0_pay101, k0_pay53, k0_pay17, k0_pay8, k0_pay35]
  rfl

/-- What chunk 7 adds to the state of head 0. -/
def KV70 (A : FVec Ideal S512x256 .f32) (k : Vec Ideal S1x512x256 .bf16) (v : Vec Ideal S1x512x512 .bf16) : FVec Ideal S256x128 .f32 :=
  k0_pay102 (k0_pay36 (k0_pay7 POS (CW A) 32#32) (k0_pay8 k) (k0_pay18 (F := Ideal) POS (CW A) 32#32)) (k0_pay54 (View.ld (Val := Elt Ideal) (e' := .bf16) (S := S1x512x512) v (Rect.unit (s := S1x512x512) ![0, 448, 0] S1x64x256.size inb_S1x512x512_S1x64x256_0_448_0)))

/-- Its elements. -/
theorem KV70_at (A : FVec Ideal S512x256 .f32) (k : Vec Ideal S1x512x256 .bf16) (v : Vec Ideal S1x512x512 .bf16) (e : Fin 256) (d : Fin 128) :
    KV70 A k v (ix2 e d) = ∑ j : Fin 64, v (ix3 0 (rw7 j) (ce0 e)) * (k (ix3 0 (rw7 j) (cx0 d)) * Ideal.exp (CUM A (ix2 (rw7 63) (cx0 d)) - CUM A (ix2 (rw7 j) (cx0 d)))) := by
  unfold KV70
  pointwise [k0_pay102, k0_pay54, k0_pay18, k0_pay8, k0_pay36]
  rfl

/-- What chunk 0 adds to the state of head 1. -/
def KV01 (A : FVec Ideal S512x256 .f32) (k : Vec Ideal S1x512x256 .bf16) (v : Vec Ideal S1x512x512 .bf16) : FVec Ideal S256x128 .f32 :=
  k0_pay103 (k0_pay37 (k0_pay7 POS (CW A) 32#32) (k0_pay8 k) (k0_pay19 (F := Ideal) POS (CW A) 32#32)) (k0_pay55 (View.ld (Val := Elt Ideal) (e' := .bf16) (S := S1x512x512) v (Rect.unit (s := S1x512x512) ![0, 0, 256] S1x64x256.size inb_S1x512x512_S1x64x256_0_0_256)))

/-- Its elements. -/
theorem KV01_at (A : FVec Ideal S512x256 .f32) (k : Vec Ideal S1x512x256 .bf16) (v : Vec Ideal S1x512x512 .bf16) (e : Fin 256) (d : Fin 128) :
    KV01 A k v (ix2 e d) = ∑ j : Fin 64, v (ix3 0 (rw0 j) (ce1 e)) * (k (ix3 0 (rw0 j) (cx1 d)) * Ideal.exp (CUM A (ix2 (rw0 63) (cx1 d)) - CUM A (ix2 (rw0 j) (cx1 d)))) := by
  unfold KV01
  pointwise [k0_pay103, k0_pay55, k0_pay19, k0_pay8, k0_pay37]
  rfl

/-- What chunk 1 adds to the state of head 1. -/
def KV11 (A : FVec Ideal S512x256 .f32) (k : Vec Ideal S1x512x256 .bf16) (v : Vec Ideal S1x512x512 .bf16) : FVec Ideal S256x128 .f32 :=
  k0_pay104 (k0_pay38 (k0_pay7 POS (CW A) 32#32) (k0_pay8 k) (k0_pay20 (F := Ideal) POS (CW A) 32#32)) (k0_pay56 (View.ld (Val := Elt Ideal) (e' := .bf16) (S := S1x512x512) v (Rect.unit (s := S1x512x512) ![0, 64, 256] S1x64x256.size inb_S1x512x512_S1x64x256_0_64_256)))

/-- Its elements. -/
theorem KV11_at (A : FVec Ideal S512x256 .f32) (k : Vec Ideal S1x512x256 .bf16) (v : Vec Ideal S1x512x512 .bf16) (e : Fin 256) (d : Fin 128) :
    KV11 A k v (ix2 e d) = ∑ j : Fin 64, v (ix3 0 (rw1 j) (ce1 e)) * (k (ix3 0 (rw1 j) (cx1 d)) * Ideal.exp (CUM A (ix2 (rw1 63) (cx1 d)) - CUM A (ix2 (rw1 j) (cx1 d)))) := by
  unfold KV11
  pointwise [k0_pay104, k0_pay56, k0_pay20, k0_pay8, k0_pay38]
  rfl

/-- What chunk 2 adds to the state of head 1. -/
def KV21 (A : FVec Ideal S512x256 .f32) (k : Vec Ideal S1x512x256 .bf16) (v : Vec Ideal S1x512x512 .bf16) : FVec Ideal S256x128 .f32 :=
  k0_pay105 (k0_pay41 (k0_pay21 (F := Ideal) POS (CW A) 32#32) (k0_pay39 (k0_pay8 k)) (k0_pay40 (k0_pay7 POS (CW A) 32#32))) (k0_pay57 (View.ld (Val := Elt Ideal) (e' := .bf16) (S := S1x512x512) v (Rect.unit (s := S1x512x512) ![0, 128, 256] S1x64x256.size inb_S1x512x512_S1x64x256_0_128_256)))

/-- Its elements. -/
theorem KV21_at (A : FVec Ideal S512x256 .f32) (k : Vec Ideal S1x512x256 .bf16) (v : Vec Ideal S1x512x512 .bf16) (e : Fin 256) (d : Fin 128) :
    KV21 A k v (ix2 e d) = ∑ j : Fin 64, v (ix3 0 (rw2 j) (ce1 e)) * (k (ix3 0 (rw2 j) (cx1 d)) * Ideal.exp (CUM A (ix2 (rw2 63) (cx1 d)) - CUM A (ix2 (rw2 j) (cx1 d)))) := by
  unfold KV21
  pointwise [k0_pay105, k0_pay57, k0_pay21, k0_pay8, k0_pay41, k0_pay39, k0_pay40]
  rfl

/-- What chunk 3 adds to the state of head 1. -/
def KV31 (A : FVec Ideal S512x256 .f32) (k : Vec Ideal S1x512x256 .bf16) (v : Vec Ideal S1x512x512 .bf16) : FVec Ideal S256x128 .f32 :=
  k0_pay106 (k0_pay42 (k0_pay7 POS (CW A) 32#32) (k0_pay8 k) (k0_pay22 (F := Ideal) POS (CW A) 32#32)) (k0_pay58 (View.ld (Val := Elt Ideal) (e' := .bf16) (S := S1x512x512) v (Rect.unit (s := S1x512x512) ![0, 192, 256] S1x64x256.size inb_S1x512x512_S1x64x256_0_192_256)))

/-- Its elements. -/
theorem KV31_at (A : FVec Ideal S512x256 .f32) (k : Vec Ideal S1x512x256 .bf16) (v : Vec Ideal S1x512x512 .bf16) (e : Fin 256) (d : Fin 128) :
    KV31 A k v (ix2 e d) = ∑ j : Fin 64, v (ix3 0 (rw3 j) (ce1 e)) * (k (ix3 0 (rw3 j) (cx1 d)) * Ideal.exp (CUM A (ix2 (rw3 63) (cx1 d)) - CUM A (ix2 (rw3 j) (cx1 d)))) := by
  unfold KV31
  pointwise [k0_pay106, k0_pay58, k0_pay22, k0_pay8, k0_pay42]
  rfl

/-- What chunk 4 adds to the state of head 1. -/
def KV41 (A : FVec Ideal S512x256 .f32) (k : Vec Ideal S1x512x256 .bf16) (v : Vec Ideal S1x512x512 .bf16) : FVec Ideal S256x128 .f32 :=
  k0_pay107 (k0_pay43 (k0_pay7 POS (CW A) 32#32) (k0_pay8 k) (k0_pay23 (F := Ideal) POS (CW A) 32#32)) (k0_pay59 (View.ld (Val := Elt Ideal) (e' := .bf16) (S := S1x512x512) v (Rect.unit (s := S1x512x512) ![0, 256, 256] S1x64x256.size inb_S1x512x512_S1x64x256_0_256_256)))

/-- Its elements. -/
theorem KV41_at (A : FVec Ideal S512x256 .f32) (k : Vec Ideal S1x512x256 .bf16) (v : Vec Ideal S1x512x512 .bf16) (e : Fin 256) (d : Fin 128) :
    KV41 A k v (ix2 e d) = ∑ j : Fin 64, v (ix3 0 (rw4 j) (ce1 e)) * (k (ix3 0 (rw4 j) (cx1 d)) * Ideal.exp (CUM A (ix2 (rw4 63) (cx1 d)) - CUM A (ix2 (rw4 j) (cx1 d)))) := by
  unfold KV41
  pointwise [k0_pay107, k0_pay59, k0_pay23, k0_pay8, k0_pay43]
  rfl

/-- What chunk 5 adds to the state of head 1. -/
def KV51 (A : FVec Ideal S512x256 .f32) (k : Vec Ideal S1x512x256 .bf16) (v : Vec Ideal S1x512x512 .bf16) : FVec Ideal S256x128 .f32 :=
  k0_pay108 (k0_pay44 (k0_pay7 POS (CW A) 32#32) (k0_pay8 k) (k0_pay24 (F := Ideal) POS (CW A) 32#32)) (k0_pay60 (View.ld (Val := Elt Ideal) (e' := .bf16) (S := S1x512x512) v (Rect.unit (s := S1x512x512) ![0, 320, 256] S1x64x256.size inb_S1x512x512_S1x64x256_0_320_256)))

/-- Its elements. -/
theorem KV51_at (A : FVec Ideal S512x256 .f32) (k : Vec Ideal S1x512x256 .bf16) (v : Vec Ideal S1x512x512 .bf16) (e : Fin 256) (d : Fin 128) :
    KV51 A k v (ix2 e d) = ∑ j : Fin 64, v (ix3 0 (rw5 j) (ce1 e)) * (k (ix3 0 (rw5 j) (cx1 d)) * Ideal.exp (CUM A (ix2 (rw5 63) (cx1 d)) - CUM A (ix2 (rw5 j) (cx1 d)))) := by
  unfold KV51
  pointwise [k0_pay108, k0_pay60, k0_pay24, k0_pay8, k0_pay44]
  rfl

/-- What chunk 6 adds to the state of head 1. -/
def KV61 (A : FVec Ideal S512x256 .f32) (k : Vec Ideal S1x512x256 .bf16) (v : Vec Ideal S1x512x512 .bf16) : FVec Ideal S256x128 .f32 :=
  k0_pay109 (k0_pay45 (k0_pay7 POS (CW A) 32#32) (k0_pay8 k) (k0_pay25 (F := Ideal) POS (CW A) 32#32)) (k0_pay61 (View.ld (Val := Elt Ideal) (e' := .bf16) (S := S1x512x512) v (Rect.unit (s := S1x512x512) ![0, 384, 256] S1x64x256.size inb_S1x512x512_S1x64x256_0_384_256)))

/-- Its elements. -/
theorem KV61_at (A : FVec Ideal S512x256 .f32) (k : Vec Ideal S1x512x256 .bf16) (v : Vec Ideal S1x512x512 .bf16) (e : Fin 256) (d : Fin 128) :
    KV61 A k v (ix2 e d) = ∑ j : Fin 64, v (ix3 0 (rw6 j) (ce1 e)) * (k (ix3 0 (rw6 j) (cx1 d)) * Ideal.exp (CUM A (ix2 (rw6 63) (cx1 d)) - CUM A (ix2 (rw6 j) (cx1 d)))) := by
  unfold KV61
  pointwise [k0_pay109, k0_pay61, k0_pay25, k0_pay8, k0_pay45]
  rfl

/-- What chunk 7 adds to the state of head 1. -/
def KV71 (A : FVec Ideal S512x256 .f32) (k : Vec Ideal S1x512x256 .bf16) (v : Vec Ideal S1x512x512 .bf16) : FVec Ideal S256x128 .f32 :=
  k0_pay110 (k0_pay46 (k0_pay7 POS (CW A) 32#32) (k0_pay8 k) (k0_pay26 (F := Ideal) POS (CW A) 32#32)) (k0_pay62 (View.ld (Val := Elt Ideal) (e' := .bf16) (S := S1x512x512) v (Rect.unit (s := S1x512x512) ![0, 448, 256] S1x64x256.size inb_S1x512x512_S1x64x256_0_448_256)))

/-- Its elements. -/
theorem KV71_at (A : FVec Ideal S512x256 .f32) (k : Vec Ideal S1x512x256 .bf16) (v : Vec Ideal S1x512x512 .bf16) (e : Fin 256) (d : Fin 128) :
    KV71 A k v (ix2 e d) = ∑ j : Fin 64, v (ix3 0 (rw7 j) (ce1 e)) * (k (ix3 0 (rw7 j) (cx1 d)) * Ideal.exp (CUM A (ix2 (rw7 63) (cx1 d)) - CUM A (ix2 (rw7 j) (cx1 d)))) := by
  unfold KV71
  pointwise [k0_pay110, k0_pay62, k0_pay26, k0_pay8, k0_pay46]
  rfl

/-- The state of head 0 before chunk 0. -/
def SF00 (A : FVec Ideal S512x256 .f32) (k : Vec Ideal S1x512x256 .bf16) (v : Vec Ideal S1x512x512 .bf16) (S : Vec Ideal S2x256x128 .f32) : FVec Ideal S256x128 .f32 :=
  k0_pay111 (View.ld (Val := Elt Ideal) (e' := .f32) (S := S2x256x128) S (Rect.unit (s := S2x256x128) ![0, 0, 0] S1x256x128.size inb_S2x256x128_S1x256x128_0_0_0))

/-- The same, as the products read it. -/
def SE00 (A : FVec Ideal S512x256 .f32) (k : Vec Ideal S1x512x256 .bf16) (v : Vec Ideal S1x512x512 .bf16) (S : Vec Ideal S2x256x128 .f32) : FVec Ideal S256x128 .bf16 :=
  k0_pay112 (View.ld (Val := Elt Ideal) (e' := .f32) (S := S2x256x128) S (Rect.unit (s := S2x256x128) ![0, 0, 0] S1x256x128.size inb_S2x256x128_S1x256x128_0_0_0))

/-- Its elements. -/
theorem SE00_at (A : FVec Ideal S512x256 .f32) (k : Vec Ideal S1x512x256 .bf16) (v : Vec Ideal S1x512x512 .bf16) (S : Vec Ideal S2x256x128 .f32) (e : Fin 256) (d : Fin 128) : SE00 A k v S (ix2 e d) = SF00 A k v S (ix2 e d) := rfl

/-- Its elements. -/
theorem SF00_at (A : FVec Ideal S512x256 .f32) (k : Vec Ideal S1x512x256 .bf16) (v : Vec Ideal S1x512x512 .bf16) (S : Vec Ideal S2x256x128 .f32) (e : Fin 256) (d : Fin 128) : SF00 A k v S (ix2 e d) = S (ix3 0 e d) := by
  unfold SF00
  pointwise [k0_pay111]

/-- The state of head 0 before chunk 1. -/
def SF10 (A : FVec Ideal S512x256 .f32) (k : Vec Ideal S1x512x256 .bf16) (v : Vec Ideal S1x512x512 .bf16) (S : Vec Ideal S2x256x128 .f32) : FVec Ideal S256x128 .f32 :=
  k0_pay113 (k0_pay11 (F := Ideal) POS (CW A) 32#32) (KV00 A k v) (View.ld (Val := Elt Ideal) (e' := .f32) (S := S2x256x128) S (Rect.unit (s := S2x256x128) ![0, 0, 0] S1x256x128.size inb_S2x256x128_S1x256x128_0_0_0))

/-- The same, as the products read it. -/
def SE10 (A : FVec Ideal S512x256 .f32) (k : Vec Ideal S1x512x256 .bf16) (v : Vec Ideal S1x512x512 .bf16) (S : Vec Ideal S2x256x128 .f32) : FVec Ideal S256x128 .bf16 :=
  k0_pay114 (k0_pay11 (F := Ideal) POS (CW A) 32#32) (KV00 A k v) (View.ld (Val := Elt Ideal) (e' := .f32) (S := S2x256x128) S (Rect.unit (s := S2x256x128) ![0, 0, 0] S1x256x128.size inb_S2x256x128_S1x256x128_0_0_0))

/-- Its elements. -/
theorem SE10_at (A : FVec Ideal S512x256 .f32) (k : Vec Ideal S1x512x256 .bf16) (v : Vec Ideal S1x512x512 .bf16) (S : Vec Ideal S2x256x128 .f32) (e : Fin 256) (d : Fin 128) : SE10 A k v S (ix2 e d) = SF10 A k v S (ix2 e d) := rfl

/-- Its elements. -/
theorem SF10_at (A : FVec Ideal S512x256 .f32) (k : Vec Ideal S1x512x256 .bf16) (v : Vec Ideal S1x512x512 .bf16) (S : Vec Ideal S2x256x128 .f32) (e : Fin 256) (d : Fin 128) :
    SF10 A k v S (ix2 e d) = SF00 A k v S (ix2 e d) * Ideal.exp (CUM A (ix2 (rw0 63) (cx0 d))) + KV00 A k v (ix2 e d) := by
  have h : SF10 A k v S = addf (mulf (SF00 A k v S) (broadcastTo S256x128 (exp (k0_pay11 (F := Ideal) POS (CW A) 32#32)) broadcasts_S1x128_S256x128)) (KV00 A k v) := rfl
  rw [h]
  pointwise [k0_pay11]
  rfl

/-- The state of head 0 before chunk 2. -/
def SF20 (A : FVec Ideal S512x256 .f32) (k : Vec Ideal S1x512x256 .bf16) (v : Vec Ideal S1x512x512 .bf16) (S : Vec Ideal S2x256x128 .f32) : FVec Ideal S256x128 .f32 :=
  k0_pay115 (k0_pay11 (F := Ideal) POS (CW A) 32#32) (k0_pay12 (F := Ideal) POS (CW A) 32#32) (KV00 A k v) (KV10 A k v) (View.ld (Val := Elt Ideal) (e' := .f32) (S := S2x256x128) S (Rect.unit (s := S2x256x128) ![0, 0, 0] S1x256x128.size inb_S2x256x128_S1x256x128_0_0_0))

/-- The same, as the products read it. -/
def SE20 (A : FVec Ideal S512x256 .f32) (k : Vec Ideal S1x512x256 .bf16) (v : Vec Ideal S1x512x512 .bf16) (S : Vec Ideal S2x256x128 .f32) : FVec Ideal S256x128 .bf16 :=
  k0_pay116 (k0_pay11 (F := Ideal) POS (CW A) 32#32) (k0_pay12 (F := Ideal) POS (CW A) 32#32) (KV00 A k v) (KV10 A k v) (View.ld (Val := Elt Ideal) (e' := .f32) (S := S2x256x128) S (Rect.unit (s := S2x256x128) ![0, 0, 0] S1x256x128.size inb_S2x256x128_S1x256x128_0_0_0))

/-- Its elements. -/
theorem SE20_at (A : FVec Ideal S512x256 .f32) (k : Vec Ideal S1x512x256 .bf16) (v : Vec Ideal S1x512x512 .bf16) (S : Vec Ideal S2x256x128 .f32) (e : Fin 256) (d : Fin 128) : SE20 A k v S (ix2 e d) = SF20 A k v S (ix2 e d) := rfl

/-- Its elements. -/
theorem SF20_at (A : FVec Ideal S512x256 .f32) (k : Vec Ideal S1x512x256 .bf16) (v : Vec Ideal S1x512x512 .bf16) (S : Vec Ideal S2x256x128 .f32) (e : Fin 256) (d : Fin 128) :
    SF20 A k v S (ix2 e d) = SF10 A k v S (ix2 e d) * Ideal.exp (CUM A (ix2 (rw1 63) (cx0 d))) + KV10 A k v (ix2 e d) := by
  have h : SF20 A k v S = addf (mulf (SF10 A k v S) (broadcastTo S256x128 (exp (k0_pay12 (F := Ideal) POS (CW A) 32#32)) broadcasts_S1x128_S256x128)) (KV10 A k v) := rfl
  rw [h]
  pointwise [k0_pay12]
  rfl

/-- The state of head 0 before chunk 3. -/
def SF30 (A : FVec Ideal S512x256 .f32) (k : Vec Ideal S1x512x256 .bf16) (v : Vec Ideal S1x512x512 .bf16) (S : Vec Ideal S2x256x128 .f32) : FVec Ideal S256x128 .f32 :=
  k0_pay117 (k0_pay11 (F := Ideal) POS (CW A) 32#32) (k0_pay12 (F := Ideal) POS (CW A) 32#32) (k0_pay13 (F := Ideal) POS (CW A) 32#32) (KV00 A k v) (KV10 A k v) (KV20 A k v) (View.ld (Val := Elt Ideal) (e' := .f32) (S := S2x256x128) S (Rect.unit (s := S2x256x128) ![0, 0, 0] S1x256x128.size inb_S2x256x128_S1x256x128_0_0_0))

/-- The same, as the products read it. -/
def SE30 (A : FVec Ideal S512x256 .f32) (k : Vec Ideal S1x512x256 .bf16) (v : Vec Ideal S1x512x512 .bf16) (S : Vec Ideal S2x256x128 .f32) : FVec Ideal S256x128 .bf16 :=
  k0_pay118 (k0_pay11 (F := Ideal) POS (CW A) 32#32) (k0_pay12 (F := Ideal) POS (CW A) 32#32) (k0_pay13 (F := Ideal) POS (CW A) 32#32) (KV00 A k v) (KV10 A k v) (KV20 A k v) (View.ld (Val := Elt Ideal) (e' := .f32) (S := S2x256x128) S (Rect.unit (s := S2x256x128) ![0, 0, 0] S1x256x128.size inb_S2x256x128_S1x256x128_0_0_0))

/-- Its elements. -/
theorem SE30_at (A : FVec Ideal S512x256 .f32) (k : Vec Ideal S1x512x256 .bf16) (v : Vec Ideal S1x512x512 .bf16) (S : Vec Ideal S2x256x128 .f32) (e : Fin 256) (d : Fin 128) : SE30 A k v S (ix2 e d) = SF30 A k v S (ix2 e d) := rfl

/-- Its elements. -/
theorem SF30_at (A : FVec Ideal S512x256 .f32) (k : Vec Ideal S1x512x256 .bf16) (v : Vec Ideal S1x512x512 .bf16) (S : Vec Ideal S2x256x128 .f32) (e : Fin 256) (d : Fin 128) :
    SF30 A k v S (ix2 e d) = SF20 A k v S (ix2 e d) * Ideal.exp (CUM A (ix2 (rw2 63) (cx0 d))) + KV20 A k v (ix2 e d) := by
  have h : SF30 A k v S = addf (mulf (SF20 A k v S) (broadcastTo S256x128 (exp (k0_pay13 (F := Ideal) POS (CW A) 32#32)) broadcasts_S1x128_S256x128)) (KV20 A k v) := rfl
  rw [h]
  pointwise [k0_pay13]
  rfl

/-- The state of head 0 before chunk 4. -/
def SF40 (A : FVec Ideal S512x256 .f32) (k : Vec Ideal S1x512x256 .bf16) (v : Vec Ideal S1x512x512 .bf16) (S : Vec Ideal S2x256x128 .f32) : FVec Ideal S256x128 .f32 :=
  k0_pay119 (k0_pay11 (F := Ideal) POS (CW A) 32#32) (k0_pay12 (F := Ideal) POS (CW A) 32#32) (k0_pay13 (F := Ideal) POS (CW A) 32#32) (k0_pay14 (F := Ideal) POS (CW A) 32#32) (KV00 A k v) (KV10 A k v) (KV20 A k v) (KV30 A k v) (View.ld (Val := Elt Ideal) (e' := .f32) (S := S2x256x128) S (Rect.unit (s := S2x256x128) ![0, 0, 0] S1x256x128.size inb_S2x256x128_S1x256x128_0_0_0))

/-- The same, as the products read it. -/
def SE40 (A : FVec Ideal S512x256 .f32) (k : Vec Ideal S1x512x256 .bf16) (v : Vec Ideal S1x512x512 .bf16) (S : Vec Ideal S2x256x128 .f32) : FVec Ideal S256x128 .bf16 :=
  k0_pay120 (k0_pay11 (F := Ideal) POS (CW A) 32#32) (k0_pay12 (F := Ideal) POS (CW A) 32#32) (k0_pay13 (F := Ideal) POS (CW A) 32#32) (k0_pay14 (F := Ideal) POS (CW A) 32#32) (KV00 A k v) (KV10 A k v) (KV20 A k v) (KV30 A k v) (View.ld (Val := Elt Ideal) (e' := .f32) (S := S2x256x128) S (Rect.unit (s := S2x256x128) ![0, 0, 0] S1x256x128.size inb_S2x256x128_S1x256x128_0_0_0))

/-- Its elements. -/
theorem SE40_at (A : FVec Ideal S512x256 .f32) (k : Vec Ideal S1x512x256 .bf16) (v : Vec Ideal S1x512x512 .bf16) (S : Vec Ideal S2x256x128 .f32) (e : Fin 256) (d : Fin 128) : SE40 A k v S (ix2 e d) = SF40 A k v S (ix2 e d) := rfl

/-- Its elements. -/
theorem SF40_at (A : FVec Ideal S512x256 .f32) (k : Vec Ideal S1x512x256 .bf16) (v : Vec Ideal S1x512x512 .bf16) (S : Vec Ideal S2x256x128 .f32) (e : Fin 256) (d : Fin 128) :
    SF40 A k v S (ix2 e d) = SF30 A k v S (ix2 e d) * Ideal.exp (CUM A (ix2 (rw3 63) (cx0 d))) + KV30 A k v (ix2 e d) := by
  have h : SF40 A k v S = addf (mulf (SF30 A k v S) (broadcastTo S256x128 (exp (k0_pay14 (F := Ideal) POS (CW A) 32#32)) broadcasts_S1x128_S256x128)) (KV30 A k v) := rfl
  rw [h]
  pointwise [k0_pay14]
  rfl

/-- The state of head 0 before chunk 5. -/
def SF50 (A : FVec Ideal S512x256 .f32) (k : Vec Ideal S1x512x256 .bf16) (v : Vec Ideal S1x512x512 .bf16) (S : Vec Ideal S2x256x128 .f32) : FVec Ideal S256x128 .f32 :=
  k0_pay121 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (KV00 A k v) (KV10 A k v) (KV20 A k v) (KV30 A k v) (KV40 A k v) (View.ld (Val := Elt Ideal) (e' := .f32) (S := S2x256x128) S (Rect.unit (s := S2x256x128) ![0, 0, 0] S1x256x128.size inb_S2x256x128_S1x256x128_0_0_0))

/-- The same, as the products read it. -/
def SE50 (A : FVec Ideal S512x256 .f32) (k : Vec Ideal S1x512x256 .bf16) (v : Vec Ideal S1x512x512 .bf16) (S : Vec Ideal S2x256x128 .f32) : FVec Ideal S256x128 .bf16 :=
  k0_pay122 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (KV00 A k v) (KV10 A k v) (KV20 A k v) (KV30 A k v) (KV40 A k v) (View.ld (Val := Elt Ideal) (e' := .f32) (S := S2x256x128) S (Rect.unit (s := S2x256x128) ![0, 0, 0] S1x256x128.size inb_S2x256x128_S1x256x128_0_0_0))

/-- Its elements. -/
theorem SE50_at (A : FVec Ideal S512x256 .f32) (k : Vec Ideal S1x512x256 .bf16) (v : Vec Ideal S1x512x512 .bf16) (S : Vec Ideal S2x256x128 .f32) (e : Fin 256) (d : Fin 128) : SE50 A k v S (ix2 e d) = SF50 A k v S (ix2 e d) := rfl

/-- Its elements. -/
theorem SF50_at (A : FVec Ideal S512x256 .f32) (k : Vec Ideal S1x512x256 .bf16) (v : Vec Ideal S1x512x512 .bf16) (S : Vec Ideal S2x256x128 .f32) (e : Fin 256) (d : Fin 128) :
    SF50 A k v S (ix2 e d) = SF40 A k v S (ix2 e d) * Ideal.exp (CUM A (ix2 (rw4 63) (cx0 d))) + KV40 A k v (ix2 e d) := by
  have h : SF50 A k v S = addf (mulf (SF40 A k v S) (broadcastTo S256x128 (exp (k0_pay15 (F := Ideal) POS (CW A) 32#32)) broadcasts_S1x128_S256x128)) (KV40 A k v) := rfl
  rw [h]
  pointwise [k0_pay15]
  rfl

/-- The state of head 0 before chunk 6. -/
def SF60 (A : FVec Ideal S512x256 .f32) (k : Vec Ideal S1x512x256 .bf16) (v : Vec Ideal S1x512x512 .bf16) (S : Vec Ideal S2x256x128 .f32) : FVec Ideal S256x128 .f32 :=
  k0_pay123 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (k0_pay16 (F := Ideal) POS (CW A) 32#32) (KV00 A k v) (KV10 A k v) (KV20 A k v) (KV30 A k v) (KV40 A k v) (KV50 A k v) (View.ld (Val := Elt Ideal) (e' := .f32) (S := S2x256x128) S (Rect.unit (s := S2x256x128) ![0, 0, 0] S1x256x128.size inb_S2x256x128_S1x256x128_0_0_0))

/-- The same, as the products read it. -/
def SE60 (A : FVec Ideal S512x256 .f32) (k : Vec Ideal S1x512x256 .bf16) (v : Vec Ideal S1x512x512 .bf16) (S : Vec Ideal S2x256x128 .f32) : FVec Ideal S256x128 .bf16 :=
  k0_pay124 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (k0_pay16 (F := Ideal) POS (CW A) 32#32) (KV00 A k v) (KV10 A k v) (KV20 A k v) (KV30 A k v) (KV40 A k v) (KV50 A k v) (View.ld (Val := Elt Ideal) (e' := .f32) (S := S2x256x128) S (Rect.unit (s := S2x256x128) ![0, 0, 0] S1x256x128.size inb_S2x256x128_S1x256x128_0_0_0))

/-- Its elements. -/
theorem SE60_at (A : FVec Ideal S512x256 .f32) (k : Vec Ideal S1x512x256 .bf16) (v : Vec Ideal S1x512x512 .bf16) (S : Vec Ideal S2x256x128 .f32) (e : Fin 256) (d : Fin 128) : SE60 A k v S (ix2 e d) = SF60 A k v S (ix2 e d) := rfl

/-- Its elements. -/
theorem SF60_at (A : FVec Ideal S512x256 .f32) (k : Vec Ideal S1x512x256 .bf16) (v : Vec Ideal S1x512x512 .bf16) (S : Vec Ideal S2x256x128 .f32) (e : Fin 256) (d : Fin 128) :
    SF60 A k v S (ix2 e d) = SF50 A k v S (ix2 e d) * Ideal.exp (CUM A (ix2 (rw5 63) (cx0 d))) + KV50 A k v (ix2 e d) := by
  have h : SF60 A k v S = addf (mulf (SF50 A k v S) (broadcastTo S256x128 (exp (k0_pay16 (F := Ideal) POS (CW A) 32#32)) broadcasts_S1x128_S256x128)) (KV50 A k v) := rfl
  rw [h]
  pointwise [k0_pay16]
  rfl

/-- The state of head 0 before chunk 7. -/
def SF70 (A : FVec Ideal S512x256 .f32) (k : Vec Ideal S1x512x256 .bf16) (v : Vec Ideal S1x512x512 .bf16) (S : Vec Ideal S2x256x128 .f32) : FVec Ideal S256x128 .f32 :=
  k0_pay125 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (k0_pay16 (F := Ideal) POS (CW A) 32#32) (k0_pay17 (F := Ideal) POS (CW A) 32#32) (KV00 A k v) (KV10 A k v) (KV20 A k v) (KV30 A k v) (KV40 A k v) (KV50 A k v) (KV60 A k v) (View.ld (Val := Elt Ideal) (e' := .f32) (S := S2x256x128) S (Rect.unit (s := S2x256x128) ![0, 0, 0] S1x256x128.size inb_S2x256x128_S1x256x128_0_0_0))

/-- The same, as the products read it. -/
def SE70 (A : FVec Ideal S512x256 .f32) (k : Vec Ideal S1x512x256 .bf16) (v : Vec Ideal S1x512x512 .bf16) (S : Vec Ideal S2x256x128 .f32) : FVec Ideal S256x128 .bf16 :=
  k0_pay126 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (k0_pay16 (F := Ideal) POS (CW A) 32#32) (k0_pay17 (F := Ideal) POS (CW A) 32#32) (KV00 A k v) (KV10 A k v) (KV20 A k v) (KV30 A k v) (KV40 A k v) (KV50 A k v) (KV60 A k v) (View.ld (Val := Elt Ideal) (e' := .f32) (S := S2x256x128) S (Rect.unit (s := S2x256x128) ![0, 0, 0] S1x256x128.size inb_S2x256x128_S1x256x128_0_0_0))

/-- Its elements. -/
theorem SE70_at (A : FVec Ideal S512x256 .f32) (k : Vec Ideal S1x512x256 .bf16) (v : Vec Ideal S1x512x512 .bf16) (S : Vec Ideal S2x256x128 .f32) (e : Fin 256) (d : Fin 128) : SE70 A k v S (ix2 e d) = SF70 A k v S (ix2 e d) := rfl

/-- Its elements. -/
theorem SF70_at (A : FVec Ideal S512x256 .f32) (k : Vec Ideal S1x512x256 .bf16) (v : Vec Ideal S1x512x512 .bf16) (S : Vec Ideal S2x256x128 .f32) (e : Fin 256) (d : Fin 128) :
    SF70 A k v S (ix2 e d) = SF60 A k v S (ix2 e d) * Ideal.exp (CUM A (ix2 (rw6 63) (cx0 d))) + KV60 A k v (ix2 e d) := by
  have h : SF70 A k v S = addf (mulf (SF60 A k v S) (broadcastTo S256x128 (exp (k0_pay17 (F := Ideal) POS (CW A) 32#32)) broadcasts_S1x128_S256x128)) (KV60 A k v) := rfl
  rw [h]
  pointwise [k0_pay17]
  rfl

/-- The state of head 0 after the block. -/
def SL0 (A : FVec Ideal S512x256 .f32) (k : Vec Ideal S1x512x256 .bf16) (v : Vec Ideal S1x512x512 .bf16) (S : Vec Ideal S2x256x128 .f32) : FVec Ideal S1x256x128 .f32 :=
  k0_pay128 (k0_pay127 (k0_pay11 (F := Ideal) POS (CW A) 32#32) (k0_pay12 (F := Ideal) POS (CW A) 32#32) (k0_pay13 (F := Ideal) POS (CW A) 32#32) (k0_pay14 (F := Ideal) POS (CW A) 32#32) (k0_pay15 (F := Ideal) POS (CW A) 32#32) (k0_pay16 (F := Ideal) POS (CW A) 32#32) (k0_pay17 (F := Ideal) POS (CW A) 32#32) (k0_pay18 (F := Ideal) POS (CW A) 32#32) (KV00 A k v) (KV10 A k v) (KV20 A k v) (KV30 A k v) (KV40 A k v) (KV50 A k v) (KV60 A k v) (KV70 A k v) (View.ld (Val := Elt Ideal) (e' := .f32) (S := S2x256x128) S (Rect.unit (s := S2x256x128) ![0, 0, 0] S1x256x128.size inb_S2x256x128_S1x256x128_0_0_0)))

/-- Its elements. -/
theorem SL0_at (A : FVec Ideal S512x256 .f32) (k : Vec Ideal S1x512x256 .bf16) (v : Vec Ideal S1x512x512 .bf16) (S : Vec Ideal S2x256x128 .f32) (e : Fin 256) (d : Fin 128) :
    SL0 A k v S (ix3 0 e d) = SF70 A k v S (ix2 e d) * Ideal.exp (CUM A (ix2 (rw7 63) (cx0 d))) + KV70 A k v (ix2 e d) := by
  have h : SL0 A k v S = shapeCast S1x256x128 (addf (mulf (SF70 A k v S) (broadcastTo S256x128 (exp (k0_pay18 (F := Ideal) POS (CW A) 32#32)) broadcasts_S1x128_S256x128)) (KV70 A k v)) shapeCasts_S256x128_S1x256x128 := rfl
  rw [h]
  pointwise [k0_pay18]
  rfl

/-- The state of head 1 before chunk 0. -/
def SF01 (A : FVec Ideal S512x256 .f32) (k : Vec Ideal S1x512x256 .bf16) (v : Vec Ideal S1x512x512 .bf16) (S : Vec Ideal S2x256x128 .f32) : FVec Ideal S256x128 .f32 :=
  k0_pay129 (View.ld (Val := Elt Ideal) (e' := .f32) (S := S2x256x128) S (Rect.unit (s := S2x256x128) ![1, 0, 0] S1x256x128.size inb_S2x256x128_S1x256x128_1_0_0))

/-- The same, as the products read it. -/
def SE01 (A : FVec Ideal S512x256 .f32) (k : Vec Ideal S1x512x256 .bf16) (v : Vec Ideal S1x512x512 .bf16) (S : Vec Ideal S2x256x128 .f32) : FVec Ideal S256x128 .bf16 :=
  k0_pay130 (View.ld (Val := Elt Ideal) (e' := .f32) (S := S2x256x128) S (Rect.unit (s := S2x256x128) ![1, 0, 0] S1x256x128.size inb_S2x256x128_S1x256x128_1_0_0))

/-- Its elements. -/
theorem SE01_at (A : FVec Ideal S512x256 .f32) (k : Vec Ideal S1x512x256 .bf16) (v : Vec Ideal S1x512x512 .bf16) (S : Vec Ideal S2x256x128 .f32) (e : Fin 256) (d : Fin 128) : SE01 A k v S (ix2 e d) = SF01 A k v S (ix2 e d) := rfl

/-- Its elements. -/
theorem SF01_at (A : FVec Ideal S512x256 .f32) (k : Vec Ideal S1x512x256 .bf16) (v : Vec Ideal S1x512x512 .bf16) (S : Vec Ideal S2x256x128 .f32) (e : Fin 256) (d : Fin 128) : SF01 A k v S (ix2 e d) = S (ix3 1 e d) := by
  unfold SF01
  pointwise [k0_pay129]

/-- The state of head 1 before chunk 1. -/
def SF11 (A : FVec Ideal S512x256 .f32) (k : Vec Ideal S1x512x256 .bf16) (v : Vec Ideal S1x512x512 .bf16) (S : Vec Ideal S2x256x128 .f32) : FVec Ideal S256x128 .f32 :=
  k0_pay131 (k0_pay19 (F := Ideal) POS (CW A) 32#32) (KV01 A k v) (View.ld (Val := Elt Ideal) (e' := .f32) (S := S2x256x128) S (Rect.unit (s := S2x256x128) ![1, 0, 0] S1x256x128.size inb_S2x256x128_S1x256x128_1_0_0))

/-- The same, as the products read it. -/
def SE11 (A : FVec Ideal S512x256 .f32) (k : Vec Ideal S1x512x256 .bf16) (v : Vec Ideal S1x512x512 .bf16) (S : Vec Ideal S2x256x128 .f32) : FVec Ideal S256x128 .bf16 :=
  k0_pay132 (k0_pay19 (F := Ideal) POS (CW A) 32#32) (KV01 A k v) (View.ld (Val := Elt Ideal) (e' := .f32) (S := S2x256x128) S (Rect.unit (s := S2x256x128) ![1, 0, 0] S1x256x128.size inb_S2x256x128_S1x256x128_1_0_0))

/-- Its elements. -/
theorem SE11_at (A : FVec Ideal S512x256 .f32) (k : Vec Ideal S1x512x256 .bf16) (v : Vec Ideal S1x512x512 .bf16) (S : Vec Ideal S2x256x128 .f32) (e : Fin 256) (d : Fin 128) : SE11 A k v S (ix2 e d) = SF11 A k v S (ix2 e d) := rfl

/-- Its elements. -/
theorem SF11_at (A : FVec Ideal S512x256 .f32) (k : Vec Ideal S1x512x256 .bf16) (v : Vec Ideal S1x512x512 .bf16) (S : Vec Ideal S2x256x128 .f32) (e : Fin 256) (d : Fin 128) :
    SF11 A k v S (ix2 e d) = SF01 A k v S (ix2 e d) * Ideal.exp (CUM A (ix2 (rw0 63) (cx1 d))) + KV01 A k v (ix2 e d) := by
  have h : SF11 A k v S = addf (mulf (SF01 A k v S) (broadcastTo S256x128 (exp (k0_pay19 (F := Ideal) POS (CW A) 32#32)) broadcasts_S1x128_S256x128)) (KV01 A k v) := rfl
  rw [h]
  pointwise [k0_pay19]
  rfl

/-- The state of head 1 before chunk 2. -/
def SF21 (A : FVec Ideal S512x256 .f32) (k : Vec Ideal S1x512x256 .bf16) (v : Vec Ideal S1x512x512 .bf16) (S : Vec Ideal S2x256x128 .f32) : FVec Ideal S256x128 .f32 :=
  k0_pay133 (k0_pay19 (F := Ideal) POS (CW A) 32#32) (k0_pay20 (F := Ideal) POS (CW A) 32#32) (KV01 A k v) (KV11 A k v) (View.ld (Val := Elt Ideal) (e' := .f32) (S := S2x256x128) S (Rect.unit (s := S2x256x128) ![1, 0, 0] S1x256x128.size inb_S2x256x128_S1x256x128_1_0_0))

/-- The same, as the products read it. -/
def SE21 (A : FVec Ideal S512x256 .f32) (k : Vec Ideal S1x512x256 .bf16) (v : Vec Ideal S1x512x512 .bf16) (S : Vec Ideal S2x256x128 .f32) : FVec Ideal S256x128 .bf16 :=
  k0_pay134 (k0_pay19 (F := Ideal) POS (CW A) 32#32) (k0_pay20 (F := Ideal) POS (CW A) 32#32) (KV01 A k v) (KV11 A k v) (View.ld (Val := Elt Ideal) (e' := .f32) (S := S2x256x128) S (Rect.unit (s := S2x256x128) ![1, 0, 0] S1x256x128.size inb_S2x256x128_S1x256x128_1_0_0))

/-- Its elements. -/
theorem SE21_at (A : FVec Ideal S512x256 .f32) (k : Vec Ideal S1x512x256 .bf16) (v : Vec Ideal S1x512x512 .bf16) (S : Vec Ideal S2x256x128 .f32) (e : Fin 256) (d : Fin 128) : SE21 A k v S (ix2 e d) = SF21 A k v S (ix2 e d) := rfl

/-- Its elements. -/
theorem SF21_at (A : FVec Ideal S512x256 .f32) (k : Vec Ideal S1x512x256 .bf16) (v : Vec Ideal S1x512x512 .bf16) (S : Vec Ideal S2x256x128 .f32) (e : Fin 256) (d : Fin 128) :
    SF21 A k v S (ix2 e d) = SF11 A k v S (ix2 e d) * Ideal.exp (CUM A (ix2 (rw1 63) (cx1 d))) + KV11 A k v (ix2 e d) := by
  have h : SF21 A k v S = addf (mulf (SF11 A k v S) (broadcastTo S256x128 (exp (k0_pay20 (F := Ideal) POS (CW A) 32#32)) broadcasts_S1x128_S256x128)) (KV11 A k v) := rfl
  rw [h]
  pointwise [k0_pay20]
  rfl

/-- The state of head 1 before chunk 3. -/
def SF31 (A : FVec Ideal S512x256 .f32) (k : Vec Ideal S1x512x256 .bf16) (v : Vec Ideal S1x512x512 .bf16) (S : Vec Ideal S2x256x128 .f32) : FVec Ideal S256x128 .f32 :=
  k0_pay135 (k0_pay19 (F := Ideal) POS (CW A) 32#32) (k0_pay20 (F := Ideal) POS (CW A) 32#32) (k0_pay21 (F := Ideal) POS (CW A) 32#32) (KV01 A k v) (KV11 A k v) (KV21 A k v) (View.ld (Val := Elt Ideal) (e' := .f32) (S := S2x256x128) S (Rect.unit (s := S2x256x128) ![1, 0, 0] S1x256x128.size inb_S2x256x128_S1x256x128_1_0_0))

/-- The same, as the products read it. -/
def SE31 (A : FVec Ideal S512x256 .f32) (k : Vec Ideal S1x512x256 .bf16) (v : Vec Ideal S1x512x512 .bf16) (S : Vec Ideal S2x256x128 .f32) : FVec Ideal S256x128 .bf16 :=
  k0_pay136 (k0_pay19 (F := Ideal) POS (CW A) 32#32) (k0_pay20 (F := Ideal) POS (CW A) 32#32) (k0_pay21 (F := Ideal) POS (CW A) 32#32) (KV01 A k v) (KV11 A k v) (KV21 A k v) (View.ld (Val := Elt Ideal) (e' := .f32) (S := S2x256x128) S (Rect.unit (s := S2x256x128) ![1, 0, 0] S1x256x128.size inb_S2x256x128_S1x256x128_1_0_0))

/-- Its elements. -/
theorem SE31_at (A : FVec Ideal S512x256 .f32) (k : Vec Ideal S1x512x256 .bf16) (v : Vec Ideal S1x512x512 .bf16) (S : Vec Ideal S2x256x128 .f32) (e : Fin 256) (d : Fin 128) : SE31 A k v S (ix2 e d) = SF31 A k v S (ix2 e d) := rfl

/-- Its elements. -/
theorem SF31_at (A : FVec Ideal S512x256 .f32) (k : Vec Ideal S1x512x256 .bf16) (v : Vec Ideal S1x512x512 .bf16) (S : Vec Ideal S2x256x128 .f32) (e : Fin 256) (d : Fin 128) :
    SF31 A k v S (ix2 e d) = SF21 A k v S (ix2 e d) * Ideal.exp (CUM A (ix2 (rw2 63) (cx1 d))) + KV21 A k v (ix2 e d) := by
  have h : SF31 A k v S = addf (mulf (SF21 A k v S) (broadcastTo S256x128 (exp (k0_pay21 (F := Ideal) POS (CW A) 32#32)) broadcasts_S1x128_S256x128)) (KV21 A k v) := rfl
  rw [h]
  pointwise [k0_pay21]
  rfl

/-- The state of head 1 before chunk 4. -/
def SF41 (A : FVec Ideal S512x256 .f32) (k : Vec Ideal S1x512x256 .bf16) (v : Vec Ideal S1x512x512 .bf16) (S : Vec Ideal S2x256x128 .f32) : FVec Ideal S256x128 .f32 :=
  k0_pay137 (k0_pay19 (F := Ideal) POS (CW A) 32#32) (k0_pay20 (F := Ideal) POS (CW A) 32#32) (k0_pay21 (F := Ideal) POS (CW A) 32#32) (k0_pay22 (F := Ideal) POS (CW A) 32#32) (KV01 A k v) (KV11 A k v) (KV21 A k v) (KV31 A k v) (View.ld (Val := Elt Ideal) (e' := .f32) (S := S2x256x128) S (Rect.unit (s := S2x256x128) ![1, 0, 0] S1x256x128.size inb_S2x256x128_S1x256x128_1_0_0))

/-- The same, as the products read it. -/
def SE41 (A : FVec Ideal S512x256 .f32) (k : Vec Ideal S1x512x256 .bf16) (v : Vec Ideal S1x512x512 .bf16) (S : Vec Ideal S2x256x128 .f32) : FVec Ideal S256x128 .bf16 :=
  k0_pay138 (k0_pay19 (F := Ideal) POS (CW A) 32#32) (k0_pay20 (F := Ideal) POS (CW A) 32#32) (k0_pay21 (F := Ideal) POS (CW A) 32#32) (k0_pay22 (F := Ideal) POS (CW A) 32#32) (KV01 A k v) (KV11 A k v) (KV21 A k v) (KV31 A k v) (View.ld (Val := Elt Ideal) (e' := .f32) (S := S2x256x128) S (Rect.unit (s := S2x256x128) ![1, 0, 0] S1x256x128.size inb_S2x256x128_S1x256x128_1_0_0))

/-- Its elements. -/
theorem SE41_at (A : FVec Ideal S512x256 .f32) (k : Vec Ideal S1x512x256 .bf16) (v : Vec Ideal S1x512x512 .bf16) (S : Vec Ideal S2x256x128 .f32) (e : Fin 256) (d : Fin 128) : SE41 A k v S (ix2 e d) = SF41 A k v S (ix2 e d) := rfl

/-- Its elements. -/
theorem SF41_at (A : FVec Ideal S512x256 .f32) (k : Vec Ideal S1x512x256 .bf16) (v : Vec Ideal S1x512x512 .bf16) (S : Vec Ideal S2x256x128 .f32) (e : Fin 256) (d : Fin 128) :
    SF41 A k v S (ix2 e d) = SF31 A k v S (ix2 e d) * Ideal.exp (CUM A (ix2 (rw3 63) (cx1 d))) + KV31 A k v (ix2 e d) := by
  have h : SF41 A k v S = addf (mulf (SF31 A k v S) (broadcastTo S256x128 (exp (k0_pay22 (F := Ideal) POS (CW A) 32#32)) broadcasts_S1x128_S256x128)) (KV31 A k v) := rfl
  rw [h]
  pointwise [k0_pay22]
  rfl

/-- The state of head 1 before chunk 5. -/
def SF51 (A : FVec Ideal S512x256 .f32) (k : Vec Ideal S1x512x256 .bf16) (v : Vec Ideal S1x512x512 .bf16) (S : Vec Ideal S2x256x128 .f32) : FVec Ideal S256x128 .f32 :=
  k0_pay139 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (KV01 A k v) (KV11 A k v) (KV21 A k v) (KV31 A k v) (KV41 A k v) (View.ld (Val := Elt Ideal) (e' := .f32) (S := S2x256x128) S (Rect.unit (s := S2x256x128) ![1, 0, 0] S1x256x128.size inb_S2x256x128_S1x256x128_1_0_0))

/-- The same, as the products read it. -/
def SE51 (A : FVec Ideal S512x256 .f32) (k : Vec Ideal S1x512x256 .bf16) (v : Vec Ideal S1x512x512 .bf16) (S : Vec Ideal S2x256x128 .f32) : FVec Ideal S256x128 .bf16 :=
  k0_pay140 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (KV01 A k v) (KV11 A k v) (KV21 A k v) (KV31 A k v) (KV41 A k v) (View.ld (Val := Elt Ideal) (e' := .f32) (S := S2x256x128) S (Rect.unit (s := S2x256x128) ![1, 0, 0] S1x256x128.size inb_S2x256x128_S1x256x128_1_0_0))

/-- Its elements. -/
theorem SE51_at (A : FVec Ideal S512x256 .f32) (k : Vec Ideal S1x512x256 .bf16) (v : Vec Ideal S1x512x512 .bf16) (S : Vec Ideal S2x256x128 .f32) (e : Fin 256) (d : Fin 128) : SE51 A k v S (ix2 e d) = SF51 A k v S (ix2 e d) := rfl

/-- Its elements. -/
theorem SF51_at (A : FVec Ideal S512x256 .f32) (k : Vec Ideal S1x512x256 .bf16) (v : Vec Ideal S1x512x512 .bf16) (S : Vec Ideal S2x256x128 .f32) (e : Fin 256) (d : Fin 128) :
    SF51 A k v S (ix2 e d) = SF41 A k v S (ix2 e d) * Ideal.exp (CUM A (ix2 (rw4 63) (cx1 d))) + KV41 A k v (ix2 e d) := by
  have h : SF51 A k v S = addf (mulf (SF41 A k v S) (broadcastTo S256x128 (exp (k0_pay23 (F := Ideal) POS (CW A) 32#32)) broadcasts_S1x128_S256x128)) (KV41 A k v) := rfl
  rw [h]
  pointwise [k0_pay23]
  rfl

/-- The state of head 1 before chunk 6. -/
def SF61 (A : FVec Ideal S512x256 .f32) (k : Vec Ideal S1x512x256 .bf16) (v : Vec Ideal S1x512x512 .bf16) (S : Vec Ideal S2x256x128 .f32) : FVec Ideal S256x128 .f32 :=
  k0_pay141 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (k0_pay24 (F := Ideal) POS (CW A) 32#32) (KV01 A k v) (KV11 A k v) (KV21 A k v) (KV31 A k v) (KV41 A k v) (KV51 A k v) (View.ld (Val := Elt Ideal) (e' := .f32) (S := S2x256x128) S (Rect.unit (s := S2x256x128) ![1, 0, 0] S1x256x128.size inb_S2x256x128_S1x256x128_1_0_0))

/-- The same, as the products read it. -/
def SE61 (A : FVec Ideal S512x256 .f32) (k : Vec Ideal S1x512x256 .bf16) (v : Vec Ideal S1x512x512 .bf16) (S : Vec Ideal S2x256x128 .f32) : FVec Ideal S256x128 .bf16 :=
  k0_pay142 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (k0_pay24 (F := Ideal) POS (CW A) 32#32) (KV01 A k v) (KV11 A k v) (KV21 A k v) (KV31 A k v) (KV41 A k v) (KV51 A k v) (View.ld (Val := Elt Ideal) (e' := .f32) (S := S2x256x128) S (Rect.unit (s := S2x256x128) ![1, 0, 0] S1x256x128.size inb_S2x256x128_S1x256x128_1_0_0))

/-- Its elements. -/
theorem SE61_at (A : FVec Ideal S512x256 .f32) (k : Vec Ideal S1x512x256 .bf16) (v : Vec Ideal S1x512x512 .bf16) (S : Vec Ideal S2x256x128 .f32) (e : Fin 256) (d : Fin 128) : SE61 A k v S (ix2 e d) = SF61 A k v S (ix2 e d) := rfl

/-- Its elements. -/
theorem SF61_at (A : FVec Ideal S512x256 .f32) (k : Vec Ideal S1x512x256 .bf16) (v : Vec Ideal S1x512x512 .bf16) (S : Vec Ideal S2x256x128 .f32) (e : Fin 256) (d : Fin 128) :
    SF61 A k v S (ix2 e d) = SF51 A k v S (ix2 e d) * Ideal.exp (CUM A (ix2 (rw5 63) (cx1 d))) + KV51 A k v (ix2 e d) := by
  have h : SF61 A k v S = addf (mulf (SF51 A k v S) (broadcastTo S256x128 (exp (k0_pay24 (F := Ideal) POS (CW A) 32#32)) broadcasts_S1x128_S256x128)) (KV51 A k v) := rfl
  rw [h]
  pointwise [k0_pay24]
  rfl

/-- The state of head 1 before chunk 7. -/
def SF71 (A : FVec Ideal S512x256 .f32) (k : Vec Ideal S1x512x256 .bf16) (v : Vec Ideal S1x512x512 .bf16) (S : Vec Ideal S2x256x128 .f32) : FVec Ideal S256x128 .f32 :=
  k0_pay143 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (k0_pay24 (F := Ideal) POS (CW A) 32#32) (k0_pay25 (F := Ideal) POS (CW A) 32#32) (KV01 A k v) (KV11 A k v) (KV21 A k v) (KV31 A k v) (KV41 A k v) (KV51 A k v) (KV61 A k v) (View.ld (Val := Elt Ideal) (e' := .f32) (S := S2x256x128) S (Rect.unit (s := S2x256x128) ![1, 0, 0] S1x256x128.size inb_S2x256x128_S1x256x128_1_0_0))

/-- The same, as the products read it. -/
def SE71 (A : FVec Ideal S512x256 .f32) (k : Vec Ideal S1x512x256 .bf16) (v : Vec Ideal S1x512x512 .bf16) (S : Vec Ideal S2x256x128 .f32) : FVec Ideal S256x128 .bf16 :=
  k0_pay144 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (k0_pay24 (F := Ideal) POS (CW A) 32#32) (k0_pay25 (F := Ideal) POS (CW A) 32#32) (KV01 A k v) (KV11 A k v) (KV21 A k v) (KV31 A k v) (KV41 A k v) (KV51 A k v) (KV61 A k v) (View.ld (Val := Elt Ideal) (e' := .f32) (S := S2x256x128) S (Rect.unit (s := S2x256x128) ![1, 0, 0] S1x256x128.size inb_S2x256x128_S1x256x128_1_0_0))

/-- Its elements. -/
theorem SE71_at (A : FVec Ideal S512x256 .f32) (k : Vec Ideal S1x512x256 .bf16) (v : Vec Ideal S1x512x512 .bf16) (S : Vec Ideal S2x256x128 .f32) (e : Fin 256) (d : Fin 128) : SE71 A k v S (ix2 e d) = SF71 A k v S (ix2 e d) := rfl

/-- Its elements. -/
theorem SF71_at (A : FVec Ideal S512x256 .f32) (k : Vec Ideal S1x512x256 .bf16) (v : Vec Ideal S1x512x512 .bf16) (S : Vec Ideal S2x256x128 .f32) (e : Fin 256) (d : Fin 128) :
    SF71 A k v S (ix2 e d) = SF61 A k v S (ix2 e d) * Ideal.exp (CUM A (ix2 (rw6 63) (cx1 d))) + KV61 A k v (ix2 e d) := by
  have h : SF71 A k v S = addf (mulf (SF61 A k v S) (broadcastTo S256x128 (exp (k0_pay25 (F := Ideal) POS (CW A) 32#32)) broadcasts_S1x128_S256x128)) (KV61 A k v) := rfl
  rw [h]
  pointwise [k0_pay25]
  rfl

/-- The state of head 1 after the block. -/
def SL1 (A : FVec Ideal S512x256 .f32) (k : Vec Ideal S1x512x256 .bf16) (v : Vec Ideal S1x512x512 .bf16) (S : Vec Ideal S2x256x128 .f32) : FVec Ideal S1x256x128 .f32 :=
  k0_pay145 (k0_pay19 (F := Ideal) POS (CW A) 32#32) (k0_pay20 (F := Ideal) POS (CW A) 32#32) (k0_pay21 (F := Ideal) POS (CW A) 32#32) (k0_pay22 (F := Ideal) POS (CW A) 32#32) (k0_pay23 (F := Ideal) POS (CW A) 32#32) (k0_pay24 (F := Ideal) POS (CW A) 32#32) (k0_pay25 (F := Ideal) POS (CW A) 32#32) (k0_pay26 (F := Ideal) POS (CW A) 32#32) (KV01 A k v) (KV11 A k v) (KV21 A k v) (KV31 A k v) (KV41 A k v) (KV51 A k v) (KV61 A k v) (KV71 A k v) (View.ld (Val := Elt Ideal) (e' := .f32) (S := S2x256x128) S (Rect.unit (s := S2x256x128) ![1, 0, 0] S1x256x128.size inb_S2x256x128_S1x256x128_1_0_0))

/-- Its elements. -/
theorem SL1_at (A : FVec Ideal S512x256 .f32) (k : Vec Ideal S1x512x256 .bf16) (v : Vec Ideal S1x512x512 .bf16) (S : Vec Ideal S2x256x128 .f32) (e : Fin 256) (d : Fin 128) :
    SL1 A k v S (ix3 0 e d) = SF71 A k v S (ix2 e d) * Ideal.exp (CUM A (ix2 (rw7 63) (cx1 d))) + KV71 A k v (ix2 e d) := by
  have h : SL1 A k v S = shapeCast S1x256x128 (addf (mulf (SF71 A k v S) (broadcastTo S256x128 (exp (k0_pay26 (F := Ideal) POS (CW A) 32#32)) broadcasts_S1x128_S256x128)) (KV71 A k v)) shapeCasts_S256x128_S1x256x128 := rfl
  rw [h]
  pointwise [k0_pay26]
  rfl

/-- The attention of chunk 0 and head 0 before its norm. -/
def CO00 (A : FVec Ideal S512x256 .f32) (q k : Vec Ideal S1x512x256 .bf16) (v : Vec Ideal S1x512x512 .bf16) (S : Vec Ideal S2x256x128 .f32) : FVec Ideal S64x256 .f32 :=
  k0_pay146 (CQ A q) (k0_pay79 (k0_pay47 (View.ld (Val := Elt Ideal) (e' := .bf16) (S := S1x512x512) v (Rect.unit (s := S1x512x512) ![0, 0, 0] S1x64x256.size inb_S1x512x512_S1x64x256_0_0_0))) (k0_pay63 k0_pay2 (CQ A q) (CK A k))) (SE00 A k v S)

/-- Its elements. -/
theorem CO00_at (A : FVec Ideal S512x256 .f32) (q k : Vec Ideal S1x512x256 .bf16) (v : Vec Ideal S1x512x512 .bf16) (S : Vec Ideal S2x256x128 .f32) (i : Fin 64) (e : Fin 256) :
    CO00 A q k v S (ix2 i e) = (∑ j : Fin 64, Scalar.select (tri i j) ((∑ d : Fin 128, CQ A q (ix2 (rw0 i) (cx0 d)) * CK A k (ix2 (rw0 j) (cx0 d))) * v (ix3 0 (rw0 j) (ce0 e))) 0)
      + ∑ d : Fin 128, CQ A q (ix2 (rw0 i) (cx0 d)) * SF00 A k v S (ix2 e d) := by
  unfold CO00
  pointwise [k0_pay146, k0_pay79, k0_pay47, k0_pay2, k0_pay63]
  rfl

/-- The attention of chunk 1 and head 0 before its norm. -/
def CO10 (A : FVec Ideal S512x256 .f32) (q k : Vec Ideal S1x512x256 .bf16) (v : Vec Ideal S1x512x512 .bf16) (S : Vec Ideal S2x256x128 .f32) : FVec Ideal S64x256 .f32 :=
  k0_pay147 (CQ A q) (k0_pay80 (k0_pay48 (View.ld (Val := Elt Ideal) (e' := .bf16) (S := S1x512x512) v (Rect.unit (s := S1x512x512) ![0, 64, 0] S1x64x256.size inb_S1x512x512_S1x64x256_0_64_0))) (k0_pay64 k0_pay2 (CQ A q) (CK A k))) (SE10 A k v S)

/-- Its elements. -/
theorem CO10_at (A : FVec Ideal S512x256 .f32) (q k : Vec Ideal S1x512x256 .bf16) (v : Vec Ideal S1x512x512 .bf16) (S : Vec Ideal S2x256x128 .f32) (i : Fin 64) (e : Fin 256) :
    CO10 A q k v S (ix2 i e) = (∑ j : Fin 64, Scalar.select (tri i j) ((∑ d : Fin 128, CQ A q (ix2 (rw1 i) (cx0 d)) * CK A k (ix2 (rw1 j) (cx0 d))) * v (ix3 0 (rw1 j) (ce0 e))) 0)
      + ∑ d : Fin 128, CQ A q (ix2 (rw1 i) (cx0 d)) * SF10 A k v S (ix2 e d) := by
  unfold CO10
  pointwise [k0_pay147, k0_pay80, k0_pay48, k0_pay2, k0_pay64]
  rfl

/-- The attention of chunk 2 and head 0 before its norm. -/
def CO20 (A : FVec Ideal S512x256 .f32) (q k : Vec Ideal S1x512x256 .bf16) (v : Vec Ideal S1x512x512 .bf16) (S : Vec Ideal S2x256x128 .f32) : FVec Ideal S64x256 .f32 :=
  k0_pay148 (CQ A q) (k0_pay81 (k0_pay49 (View.ld (Val := Elt Ideal) (e' := .bf16) (S := S1x512x512) v (Rect.unit (s := S1x512x512) ![0, 128, 0] S1x64x256.size inb_S1x512x512_S1x64x256_0_128_0))) (k0_pay65 k0_pay2 (CQ A q) (CK A k))) (SE20 A k v S)

/-- Its elements. -/
theorem CO20_at (A : FVec Ideal S512x256 .f32) (q k : Vec Ideal S1x512x256 .bf16) (v : Vec Ideal S1x512x512 .bf16) (S : Vec Ideal S2x256x128 .f32) (i : Fin 64) (e : Fin 256) :
    CO20 A q k v S (ix2 i e) = (∑ j : Fin 64, Scalar.select (tri i j) ((∑ d : Fin 128, CQ A q (ix2 (rw2 i) (cx0 d)) * CK A k (ix2 (rw2 j) (cx0 d))) * v (ix3 0 (rw2 j) (ce0 e))) 0)
      + ∑ d : Fin 128, CQ A q (ix2 (rw2 i) (cx0 d)) * SF20 A k v S (ix2 e d) := by
  unfold CO20
  pointwise [k0_pay148, k0_pay81, k0_pay49, k0_pay2, k0_pay65]
  rfl

/-- The attention of chunk 3 and head 0 before its norm. -/
def CO30 (A : FVec Ideal S512x256 .f32) (q k : Vec Ideal S1x512x256 .bf16) (v : Vec Ideal S1x512x512 .bf16) (S : Vec Ideal S2x256x128 .f32) : FVec Ideal S64x256 .f32 :=
  k0_pay149 (CQ A q) (k0_pay82 (k0_pay50 (View.ld (Val := Elt Ideal) (e' := .bf16) (S := S1x512x512) v (Rect.unit (s := S1x512x512) ![0, 192, 0] S1x64x256.size inb_S1x512x512_S1x64x256_0_192_0))) (k0_pay66 k0_pay2 (CQ A q) (CK A k))) (SE30 A k v S)

/-- Its elements. -/
theorem CO30_at (A : FVec Ideal S512x256 .f32) (q k : Vec Ideal S1x512x256 .bf16) (v : Vec Ideal S1x512x512 .bf16) (S : Vec Ideal S2x256x128 .f32) (i : Fin 64) (e : Fin 256) :
    CO30 A q k v S (ix2 i e) = (∑ j : Fin 64, Scalar.select (tri i j) ((∑ d : Fin 128, CQ A q (ix2 (rw3 i) (cx0 d)) * CK A k (ix2 (rw3 j) (cx0 d))) * v (ix3 0 (rw3 j) (ce0 e))) 0)
      + ∑ d : Fin 128, CQ A q (ix2 (rw3 i) (cx0 d)) * SF30 A k v S (ix2 e d) := by
  unfold CO30
  pointwise [k0_pay149, k0_pay82, k0_pay50, k0_pay2, k0_pay66]
  rfl

/-- The attention of chunk 4 and head 0 before its norm. -/
def CO40 (A : FVec Ideal S512x256 .f32) (q k : Vec Ideal S1x512x256 .bf16) (v : Vec Ideal S1x512x512 .bf16) (S : Vec Ideal S2x256x128 .f32) : FVec Ideal S64x256 .f32 :=
  k0_pay150 (CQ A q) (k0_pay83 (k0_pay51 (View.ld (Val := Elt Ideal) (e' := .bf16) (S := S1x512x512) v (Rect.unit (s := S1x512x512) ![0, 256, 0] S1x64x256.size inb_S1x512x512_S1x64x256_0_256_0))) (k0_pay67 k0_pay2 (CQ A q) (CK A k))) (SE40 A k v S)

/-- Its elements. -/
theorem CO40_at (A : FVec Ideal S512x256 .f32) (q k : Vec Ideal S1x512x256 .bf16) (v : Vec Ideal S1x512x512 .bf16) (S : Vec Ideal S2x256x128 .f32) (i : Fin 64) (e : Fin 256) :
    CO40 A q k v S (ix2 i e) = (∑ j : Fin 64, Scalar.select (tri i j) ((∑ d : Fin 128, CQ A q (ix2 (rw4 i) (cx0 d)) * CK A k (ix2 (rw4 j) (cx0 d))) * v (ix3 0 (rw4 j) (ce0 e))) 0)
      + ∑ d : Fin 128, CQ A q (ix2 (rw4 i) (cx0 d)) * SF40 A k v S (ix2 e d) := by
  unfold CO40
  pointwise [k0_pay150, k0_pay83, k0_pay51, k0_pay2, k0_pay67]
  rfl

/-- The attention of chunk 5 and head 0 before its norm. -/
def CO50 (A : FVec Ideal S512x256 .f32) (q k : Vec Ideal S1x512x256 .bf16) (v : Vec Ideal S1x512x512 .bf16) (S : Vec Ideal S2x256x128 .f32) : FVec Ideal S64x256 .f32 :=
  k0_pay151 (CQ A q) (k0_pay84 (k0_pay52 (View.ld (Val := Elt Ideal) (e' := .bf16) (S := S1x512x512) v (Rect.unit (s := S1x512x512) ![0, 320, 0] S1x64x256.size inb_S1x512x512_S1x64x256_0_320_0))) (k0_pay68 k0_pay2 (CQ A q) (CK A k))) (SE50 A k v S)

/-- Its elements. -/
theorem CO50_at (A : FVec Ideal S512x256 .f32) (q k : Vec Ideal S1x512x256 .bf16) (v : Vec Ideal S1x512x512 .bf16) (S : Vec Ideal S2x256x128 .f32) (i : Fin 64) (e : Fin 256) :
    CO50 A q k v S (ix2 i e) = (∑ j : Fin 64, Scalar.select (tri i j) ((∑ d : Fin 128, CQ A q (ix2 (rw5 i) (cx0 d)) * CK A k (ix2 (rw5 j) (cx0 d))) * v (ix3 0 (rw5 j) (ce0 e))) 0)
      + ∑ d : Fin 128, CQ A q (ix2 (rw5 i) (cx0 d)) * SF50 A k v S (ix2 e d) := by
  unfold CO50
  pointwise [k0_pay151, k0_pay84, k0_pay52, k0_pay2, k0_pay68]
  rfl

/-- The attention of chunk 6 and head 0 before its norm. -/
def CO60 (A : FVec Ideal S512x256 .f32) (q k : Vec Ideal S1x512x256 .bf16) (v : Vec Ideal S1x512x512 .bf16) (S : Vec Ideal S2x256x128 .f32) : FVec Ideal S64x256 .f32 :=
  k0_pay152 (CQ A q) (k0_pay85 (k0_pay53 (View.ld (Val := Elt Ideal) (e' := .bf16) (S := S1x512x512) v (Rect.unit (s := S1x512x512) ![0, 384, 0] S1x64x256.size inb_S1x512x512_S1x64x256_0_384_0))) (k0_pay69 k0_pay2 (CQ A q) (CK A k))) (SE60 A k v S)

/-- Its elements. -/
theorem CO60_at (A : FVec Ideal S512x256 .f32) (q k : Vec Ideal S1x512x256 .bf16) (v : Vec Ideal S1x512x512 .bf16) (S : Vec Ideal S2x256x128 .f32) (i : Fin 64) (e : Fin 256) :
    CO60 A q k v S (ix2 i e) = (∑ j : Fin 64, Scalar.select (tri i j) ((∑ d : Fin 128, CQ A q (ix2 (rw6 i) (cx0 d)) * CK A k (ix2 (rw6 j) (cx0 d))) * v (ix3 0 (rw6 j) (ce0 e))) 0)
      + ∑ d : Fin 128, CQ A q (ix2 (rw6 i) (cx0 d)) * SF60 A k v S (ix2 e d) := by
  unfold CO60
  pointwise [k0_pay152, k0_pay85, k0_pay53, k0_pay2, k0_pay69]
  rfl

/-- The attention of chunk 7 and head 0 before its norm. -/
def CO70 (A : FVec Ideal S512x256 .f32) (q k : Vec Ideal S1x512x256 .bf16) (v : Vec Ideal S1x512x512 .bf16) (S : Vec Ideal S2x256x128 .f32) : FVec Ideal S64x256 .f32 :=
  k0_pay153 (CQ A q) (k0_pay86 (k0_pay54 (View.ld (Val := Elt Ideal) (e' := .bf16) (S := S1x512x512) v (Rect.unit (s := S1x512x512) ![0, 448, 0] S1x64x256.size inb_S1x512x512_S1x64x256_0_448_0))) (k0_pay71 k0_pay2 (k0_pay70 (CQ A q) (CK A k)))) (SE70 A k v S)

/-- Its elements. -/
theorem CO70_at (A : FVec Ideal S512x256 .f32) (q k : Vec Ideal S1x512x256 .bf16) (v : Vec Ideal S1x512x512 .bf16) (S : Vec Ideal S2x256x128 .f32) (i : Fin 64) (e : Fin 256) :
    CO70 A q k v S (ix2 i e) = (∑ j : Fin 64, Scalar.select (tri i j) ((∑ d : Fin 128, CQ A q (ix2 (rw7 i) (cx0 d)) * CK A k (ix2 (rw7 j) (cx0 d))) * v (ix3 0 (rw7 j) (ce0 e))) 0)
      + ∑ d : Fin 128, CQ A q (ix2 (rw7 i) (cx0 d)) * SF70 A k v S (ix2 e d) := by
  unfold CO70
  pointwise [k0_pay153, k0_pay86, k0_pay54, k0_pay2, k0_pay71, k0_pay70]
  rfl

/-- The attention of chunk 0 and head 1 before its norm. -/
def CO01 (A : FVec Ideal S512x256 .f32) (q k : Vec Ideal S1x512x256 .bf16) (v : Vec Ideal S1x512x512 .bf16) (S : Vec Ideal S2x256x128 .f32) : FVec Ideal S64x256 .f32 :=
  k0_pay154 (CQ A q) (k0_pay87 (k0_pay55 (View.ld (Val := Elt Ideal) (e' := .bf16) (S := S1x512x512) v (Rect.unit (s := S1x512x512) ![0, 0, 256] S1x64x256.size inb_S1x512x512_S1x64x256_0_0_256))) (k0_pay72 k0_pay2 (CQ A q) (CK A k))) (SE01 A k v S)

/-- Its elements. -/
theorem CO01_at (A : FVec Ideal S512x256 .f32) (q k : Vec Ideal S1x512x256 .bf16) (v : Vec Ideal S1x512x512 .bf16) (S : Vec Ideal S2x256x128 .f32) (i : Fin 64) (e : Fin 256) :
    CO01 A q k v S (ix2 i e) = (∑ j : Fin 64, Scalar.select (tri i j) ((∑ d : Fin 128, CQ A q (ix2 (rw0 i) (cx1 d)) * CK A k (ix2 (rw0 j) (cx1 d))) * v (ix3 0 (rw0 j) (ce1 e))) 0)
      + ∑ d : Fin 128, CQ A q (ix2 (rw0 i) (cx1 d)) * SF01 A k v S (ix2 e d) := by
  unfold CO01
  pointwise [k0_pay154, k0_pay87, k0_pay55, k0_pay2, k0_pay72]
  rfl

/-- The attention of chunk 1 and head 1 before its norm. -/
def CO11 (A : FVec Ideal S512x256 .f32) (q k : Vec Ideal S1x512x256 .bf16) (v : Vec Ideal S1x512x512 .bf16) (S : Vec Ideal S2x256x128 .f32) : FVec Ideal S64x256 .f32 :=
  k0_pay155 (CQ A q) (k0_pay88 (k0_pay56 (View.ld (Val := Elt Ideal) (e' := .bf16) (S := S1x512x512) v (Rect.unit (s := S1x512x512) ![0, 64, 256] S1x64x256.size inb_S1x512x512_S1x64x256_0_64_256))) (k0_pay73 k0_pay2 (CQ A q) (CK A k))) (SE11 A k v S)

/-- Its elements. -/
theorem CO11_at (A : FVec Ideal S512x256 .f32) (q k : Vec Ideal S1x512x256 .bf16) (v : Vec Ideal S1x512x512 .bf16) (S : Vec Ideal S2x256x128 .f32) (i : Fin 64) (e : Fin 256) :
    CO11 A q k v S (ix2 i e) = (∑ j : Fin 64, Scalar.select (tri i j) ((∑ d : Fin 128, CQ A q (ix2 (rw1 i) (cx1 d)) * CK A k (ix2 (rw1 j) (cx1 d))) * v (ix3 0 (rw1 j) (ce1 e))) 0)
      + ∑ d : Fin 128, CQ A q (ix2 (rw1 i) (cx1 d)) * SF11 A k v S (ix2 e d) := by
  unfold CO11
  pointwise [k0_pay155, k0_pay88, k0_pay56, k0_pay2, k0_pay73]
  rfl

/-- The attention of chunk 2 and head 1 before its norm. -/
def CO21 (A : FVec Ideal S512x256 .f32) (q k : Vec Ideal S1x512x256 .bf16) (v : Vec Ideal S1x512x512 .bf16) (S : Vec Ideal S2x256x128 .f32) : FVec Ideal S64x256 .f32 :=
  k0_pay156 (CQ A q) (k0_pay89 (k0_pay57 (View.ld (Val := Elt Ideal) (e' := .bf16) (S := S1x512x512) v (Rect.unit (s := S1x512x512) ![0, 128, 256] S1x64x256.size inb_S1x512x512_S1x64x256_0_128_256))) (k0_pay74 k0_pay2 (CQ A q) (CK A k))) (SE21 A k v S)

/-- Its elements. -/
theorem CO21_at (A : FVec Ideal S512x256 .f32) (q k : Vec Ideal S1x512x256 .bf16) (v : Vec Ideal S1x512x512 .bf16) (S : Vec Ideal S2x256x128 .f32) (i : Fin 64) (e : Fin 256) :
    CO21 A q k v S (ix2 i e) = (∑ j : Fin 64, Scalar.select (tri i j) ((∑ d : Fin 128, CQ A q (ix2 (rw2 i) (cx1 d)) * CK A k (ix2 (rw2 j) (cx1 d))) * v (ix3 0 (rw2 j) (ce1 e))) 0)
      + ∑ d : Fin 128, CQ A q (ix2 (rw2 i) (cx1 d)) * SF21 A k v S (ix2 e d) := by
  unfold CO21
  pointwise [k0_pay156, k0_pay89, k0_pay57, k0_pay2, k0_pay74]
  rfl

/-- The attention of chunk 3 and head 1 before its norm. -/
def CO31 (A : FVec Ideal S512x256 .f32) (q k : Vec Ideal S1x512x256 .bf16) (v : Vec Ideal S1x512x512 .bf16) (S : Vec Ideal S2x256x128 .f32) : FVec Ideal S64x256 .f32 :=
  k0_pay157 (CQ A q) (k0_pay90 (k0_pay58 (View.ld (Val := Elt Ideal) (e' := .bf16) (S := S1x512x512) v (Rect.unit (s := S1x512x512) ![0, 192, 256] S1x64x256.size inb_S1x512x512_S1x64x256_0_192_256))) (k0_pay75 k0_pay2 (CQ A q) (CK A k))) (SE31 A k v S)

/-- Its elements. -/
theorem CO31_at (A : FVec Ideal S512x256 .f32) (q k : Vec Ideal S1x512x256 .bf16) (v : Vec Ideal S1x512x512 .bf16) (S : Vec Ideal S2x256x128 .f32) (i : Fin 64) (e : Fin 256) :
    CO31 A q k v S (ix2 i e) = (∑ j : Fin 64, Scalar.select (tri i j) ((∑ d : Fin 128, CQ A q (ix2 (rw3 i) (cx1 d)) * CK A k (ix2 (rw3 j) (cx1 d))) * v (ix3 0 (rw3 j) (ce1 e))) 0)
      + ∑ d : Fin 128, CQ A q (ix2 (rw3 i) (cx1 d)) * SF31 A k v S (ix2 e d) := by
  unfold CO31
  pointwise [k0_pay157, k0_pay90, k0_pay58, k0_pay2, k0_pay75]
  rfl

/-- The attention of chunk 4 and head 1 before its norm. -/
def CO41 (A : FVec Ideal S512x256 .f32) (q k : Vec Ideal S1x512x256 .bf16) (v : Vec Ideal S1x512x512 .bf16) (S : Vec Ideal S2x256x128 .f32) : FVec Ideal S64x256 .f32 :=
  k0_pay158 (CQ A q) (k0_pay91 (k0_pay59 (View.ld (Val := Elt Ideal) (e' := .bf16) (S := S1x512x512) v (Rect.unit (s := S1x512x512) ![0, 256, 256] S1x64x256.size inb_S1x512x512_S1x64x256_0_256_256))) (k0_pay76 k0_pay2 (CQ A q) (CK A k))) (SE41 A k v S)

/-- Its elements. -/
theorem CO41_at (A : FVec Ideal S512x256 .f32) (q k : Vec Ideal S1x512x256 .bf16) (v : Vec Ideal S1x512x512 .bf16) (S : Vec Ideal S2x256x128 .f32) (i : Fin 64) (e : Fin 256) :
    CO41 A q k v S (ix2 i e) = (∑ j : Fin 64, Scalar.select (tri i j) ((∑ d : Fin 128, CQ A q (ix2 (rw4 i) (cx1 d)) * CK A k (ix2 (rw4 j) (cx1 d))) * v (ix3 0 (rw4 j) (ce1 e))) 0)
      + ∑ d : Fin 128, CQ A q (ix2 (rw4 i) (cx1 d)) * SF41 A k v S (ix2 e d) := by
  unfold CO41
  pointwise [k0_pay158, k0_pay91, k0_pay59, k0_pay2, k0_pay76]
  rfl

/-- The attention of chunk 5 and head 1 before its norm. -/
def CO51 (A : FVec Ideal S512x256 .f32) (q k : Vec Ideal S1x512x256 .bf16) (v : Vec Ideal S1x512x512 .bf16) (S : Vec Ideal S2x256x128 .f32) : FVec Ideal S64x256 .f32 :=
  k0_pay159 (CQ A q) (k0_pay92 (k0_pay60 (View.ld (Val := Elt Ideal) (e' := .bf16) (S := S1x512x512) v (Rect.unit (s := S1x512x512) ![0, 320, 256] S1x64x256.size inb_S1x512x512_S1x64x256_0_320_256))) (k0_pay77 k0_pay2 (CQ A q) (CK A k))) (SE51 A k v S)

/-- Its elements. -/
theorem CO51_at (A : FVec Ideal S512x256 .f32) (q k : Vec Ideal S1x512x256 .bf16) (v : Vec Ideal S1x512x512 .bf16) (S : Vec Ideal S2x256x128 .f32) (i : Fin 64) (e : Fin 256) :
    CO51 A q k v S (ix2 i e) = (∑ j : Fin 64, Scalar.select (tri i j) ((∑ d : Fin 128, CQ A q (ix2 (rw5 i) (cx1 d)) * CK A k (ix2 (rw5 j) (cx1 d))) * v (ix3 0 (rw5 j) (ce1 e))) 0)
      + ∑ d : Fin 128, CQ A q (ix2 (rw5 i) (cx1 d)) * SF51 A k v S (ix2 e d) := by
  unfold CO51
  pointwise [k0_pay159, k0_pay92, k0_pay60, k0_pay2, k0_pay77]
  rfl

/-- The attention of chunk 6 and head 1 before its norm. -/
def CO61 (A : FVec Ideal S512x256 .f32) (q k : Vec Ideal S1x512x256 .bf16) (v : Vec Ideal S1x512x512 .bf16) (S : Vec Ideal S2x256x128 .f32) : FVec Ideal S64x256 .f32 :=
  k0_pay160 (CQ A q) (k0_pay93 (k0_pay61 (View.ld (Val := Elt Ideal) (e' := .bf16) (S := S1x512x512) v (Rect.unit (s := S1x512x512) ![0, 384, 256] S1x64x256.size inb_S1x512x512_S1x64x256_0_384_256))) (k0_pay78 k0_pay2 (CQ A q) (CK A k))) (SE61 A k v S)

/-- Its elements. -/
theorem CO61_at (A : FVec Ideal S512x256 .f32) (q k : Vec Ideal S1x512x256 .bf16) (v : Vec Ideal S1x512x512 .bf16) (S : Vec Ideal S2x256x128 .f32) (i : Fin 64) (e : Fin 256) :
    CO61 A q k v S (ix2 i e) = (∑ j : Fin 64, Scalar.select (tri i j) ((∑ d : Fin 128, CQ A q (ix2 (rw6 i) (cx1 d)) * CK A k (ix2 (rw6 j) (cx1 d))) * v (ix3 0 (rw6 j) (ce1 e))) 0)
      + ∑ d : Fin 128, CQ A q (ix2 (rw6 i) (cx1 d)) * SF61 A k v S (ix2 e d) := by
  unfold CO61
  pointwise [k0_pay160, k0_pay93, k0_pay61, k0_pay2, k0_pay78]
  rfl

/-- The attention of chunk 7 and head 1 before its norm. -/
def CO71 (A : FVec Ideal S512x256 .f32) (q k : Vec Ideal S1x512x256 .bf16) (v : Vec Ideal S1x512x512 .bf16) (S : Vec Ideal S2x256x128 .f32) : FVec Ideal S64x256 .f32 :=
  k0_pay161 (CQ A q) (k0_pay94 k0_pay2 (CQ A q) (CK A k) (k0_pay62 (View.ld (Val := Elt Ideal) (e' := .bf16) (S := S1x512x512) v (Rect.unit (s := S1x512x512) ![0, 448, 256] S1x64x256.size inb_S1x512x512_S1x64x256_0_448_256)))) (SE71 A k v S)

/-- Its elements. -/
theorem CO71_at (A : FVec Ideal S512x256 .f32) (q k : Vec Ideal S1x512x256 .bf16) (v : Vec Ideal S1x512x512 .bf16) (S : Vec Ideal S2x256x128 .f32) (i : Fin 64) (e : Fin 256) :
    CO71 A q k v S (ix2 i e) = (∑ j : Fin 64, Scalar.select (tri i j) ((∑ d : Fin 128, CQ A q (ix2 (rw7 i) (cx1 d)) * CK A k (ix2 (rw7 j) (cx1 d))) * v (ix3 0 (rw7 j) (ce1 e))) 0)
      + ∑ d : Fin 128, CQ A q (ix2 (rw7 i) (cx1 d)) * SF71 A k v S (ix2 e d) := by
  unfold CO71
  pointwise [k0_pay161, k0_pay94, k0_pay62, k0_pay2]
  rfl

/-- The norm and the output gate of one element of a row. -/
def PV (o : Fin 256 → EReal) (r g : EReal) (e : Fin 256) : EReal :=
  o e * Ideal.rsqrt (Ideal.div (∑ x : Fin 256, o x * o x) (Ideal.ofBits FTy.f32 1132462080#32) + Ideal.ofBits FTy.f32 925353388#32) * g
    * (r * (Ideal.ofBits FTy.f32 1056964608#32 * Ideal.tanh (Ideal.ofBits FTy.f32 1056964608#32 * r) + Ideal.ofBits FTy.f32 1056964608#32))

/-- The piece stored for chunk 0 and head 0. -/
def PC00 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay162 (CO00 A q k v S) g (View.ld (Val := Elt Ideal) (e' := .bf16) (S := S1x512x512) r (Rect.unit (s := S1x512x512) ![0, 0, 0] S1x64x256.size inb_S1x512x512_S1x64x256_0_0_0))

/-- Its elements. -/
theorem PC00_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC00 A q k v r g S (ix3 0 i e) = PV (fun e => CO00 A q k v S (ix2 i e)) (r (ix3 0 (rw0 i) (ce0 e))) (g (ix2 0 e)) e := by
  unfold PC00
  generalize CO00 A q k v S = O
  pointwise [k0_pay162]
  rfl

/-- The piece stored for chunk 1 and head 0. -/
def PC10 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay164 (k0_pay163 (CO10 A q k v S)) g (View.ld (Val := Elt Ideal) (e' := .bf16) (S := S1x512x512) r (Rect.unit (s := S1x512x512) ![0, 64, 0] S1x64x256.size inb_S1x512x512_S1x64x256_0_64_0))

/-- Its elements. -/
theorem PC10_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC10 A q k v r g S (ix3 0 i e) = PV (fun e => CO10 A q k v S (ix2 i e)) (r (ix3 0 (rw1 i) (ce0 e))) (g (ix2 0 e)) e := by
  unfold PC10
  generalize CO10 A q k v S = O
  pointwise [k0_pay164, k0_pay163]
  rfl

/-- The piece stored for chunk 2 and head 0. -/
def PC20 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay168 (k0_pay165 (CO20 A q k v S) g) (k0_pay166 (View.ld (Val := Elt Ideal) (e' := .bf16) (S := S1x512x512) r (Rect.unit (s := S1x512x512) ![0, 128, 0] S1x64x256.size inb_S1x512x512_S1x64x256_0_128_0))) (k0_pay167 (View.ld (Val := Elt Ideal) (e' := .bf16) (S := S1x512x512) r (Rect.unit (s := S1x512x512) ![0, 128, 0] S1x64x256.size inb_S1x512x512_S1x64x256_0_128_0))) (FloatOps.ofBits (F := Ideal) FTy.f32 1056964608#32)

/-- Its elements. -/
theorem PC20_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC20 A q k v r g S (ix3 0 i e) = PV (fun e => CO20 A q k v S (ix2 i e)) (r (ix3 0 (rw2 i) (ce0 e))) (g (ix2 0 e)) e := by
  unfold PC20
  generalize CO20 A q k v S = O
  pointwise [k0_pay168, k0_pay165, k0_pay166, k0_pay167]
  rfl

/-- The piece stored for chunk 3 and head 0. -/
def PC30 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay169 (CO30 A q k v S) g (View.ld (Val := Elt Ideal) (e' := .bf16) (S := S1x512x512) r (Rect.unit (s := S1x512x512) ![0, 192, 0] S1x64x256.size inb_S1x512x512_S1x64x256_0_192_0))

/-- Its elements. -/
theorem PC30_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC30 A q k v r g S (ix3 0 i e) = PV (fun e => CO30 A q k v S (ix2 i e)) (r (ix3 0 (rw3 i) (ce0 e))) (g (ix2 0 e)) e := by
  unfold PC30
  generalize CO30 A q k v S = O
  pointwise [k0_pay169]
  rfl

/-- The piece stored for chunk 4 and head 0. -/
def PC40 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay170 (CO40 A q k v S) g (View.ld (Val := Elt Ideal) (e' := .bf16) (S := S1x512x512) r (Rect.unit (s := S1x512x512) ![0, 256, 0] S1x64x256.size inb_S1x512x512_S1x64x256_0_256_0))

/-- Its elements. -/
theorem PC40_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC40 A q k v r g S (ix3 0 i e) = PV (fun e => CO40 A q k v S (ix2 i e)) (r (ix3 0 (rw4 i) (ce0 e))) (g (ix2 0 e)) e := by
  unfold PC40
  generalize CO40 A q k v S = O
  pointwise [k0_pay170]
  rfl

/-- The piece stored for chunk 5 and head 0. -/
def PC50 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay172 (k0_pay171 (CO50 A q k v S)) g (View.ld (Val := Elt Ideal) (e' := .bf16) (S := S1x512x512) r (Rect.unit (s := S1x512x512) ![0, 320, 0] S1x64x256.size inb_S1x512x512_S1x64x256_0_320_0))

/-- Its elements. -/
theorem PC50_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC50 A q k v r g S (ix3 0 i e) = PV (fun e => CO50 A q k v S (ix2 i e)) (r (ix3 0 (rw5 i) (ce0 e))) (g (ix2 0 e)) e := by
  unfold PC50
  generalize CO50 A q k v S = O
  pointwise [k0_pay172, k0_pay171]
  rfl

/-- The piece stored for chunk 6 and head 0. -/
def PC60 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay176 (k0_pay173 (CO60 A q k v S) g) (k0_pay174 (View.ld (Val := Elt Ideal) (e' := .bf16) (S := S1x512x512) r (Rect.unit (s := S1x512x512) ![0, 384, 0] S1x64x256.size inb_S1x512x512_S1x64x256_0_384_0))) (k0_pay175 (View.ld (Val := Elt Ideal) (e' := .bf16) (S := S1x512x512) r (Rect.unit (s := S1x512x512) ![0, 384, 0] S1x64x256.size inb_S1x512x512_S1x64x256_0_384_0))) (FloatOps.ofBits (F := Ideal) FTy.f32 1056964608#32)

/-- Its elements. -/
theorem PC60_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC60 A q k v r g S (ix3 0 i e) = PV (fun e => CO60 A q k v S (ix2 i e)) (r (ix3 0 (rw6 i) (ce0 e))) (g (ix2 0 e)) e := by
  unfold PC60
  generalize CO60 A q k v S = O
  pointwise [k0_pay176, k0_pay173, k0_pay174, k0_pay175]
  rfl

/-- The piece stored for chunk 7 and head 0. -/
def PC70 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay177 (CO70 A q k v S) g (View.ld (Val := Elt Ideal) (e' := .bf16) (S := S1x512x512) r (Rect.unit (s := S1x512x512) ![0, 448, 0] S1x64x256.size inb_S1x512x512_S1x64x256_0_448_0))

/-- Its elements. -/
theorem PC70_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC70 A q k v r g S (ix3 0 i e) = PV (fun e => CO70 A q k v S (ix2 i e)) (r (ix3 0 (rw7 i) (ce0 e))) (g (ix2 0 e)) e := by
  unfold PC70
  generalize CO70 A q k v S = O
  pointwise [k0_pay177]
  rfl

/-- The piece stored for chunk 0 and head 1. -/
def PC01 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay178 (CO01 A q k v S) g (View.ld (Val := Elt Ideal) (e' := .bf16) (S := S1x512x512) r (Rect.unit (s := S1x512x512) ![0, 0, 256] S1x64x256.size inb_S1x512x512_S1x64x256_0_0_256))

/-- Its elements. -/
theorem PC01_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC01 A q k v r g S (ix3 0 i e) = PV (fun e => CO01 A q k v S (ix2 i e)) (r (ix3 0 (rw0 i) (ce1 e))) (g (ix2 0 e)) e := by
  unfold PC01
  generalize CO01 A q k v S = O
  pointwise [k0_pay178]
  rfl

/-- The piece stored for chunk 1 and head 1. -/
def PC11 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay180 (k0_pay179 (CO11 A q k v S)) g (View.ld (Val := Elt Ideal) (e' := .bf16) (S := S1x512x512) r (Rect.unit (s := S1x512x512) ![0, 64, 256] S1x64x256.size inb_S1x512x512_S1x64x256_0_64_256))

/-- Its elements. -/
theorem PC11_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC11 A q k v r g S (ix3 0 i e) = PV (fun e => CO11 A q k v S (ix2 i e)) (r (ix3 0 (rw1 i) (ce1 e))) (g (ix2 0 e)) e := by
  unfold PC11
  generalize CO11 A q k v S = O
  pointwise [k0_pay180, k0_pay179]
  rfl

/-- The piece stored for chunk 2 and head 1. -/
def PC21 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay184 (k0_pay181 (CO21 A q k v S) g) (k0_pay182 (View.ld (Val := Elt Ideal) (e' := .bf16) (S := S1x512x512) r (Rect.unit (s := S1x512x512) ![0, 128, 256] S1x64x256.size inb_S1x512x512_S1x64x256_0_128_256))) (k0_pay183 (View.ld (Val := Elt Ideal) (e' := .bf16) (S := S1x512x512) r (Rect.unit (s := S1x512x512) ![0, 128, 256] S1x64x256.size inb_S1x512x512_S1x64x256_0_128_256))) (FloatOps.ofBits (F := Ideal) FTy.f32 1056964608#32)

/-- Its elements. -/
theorem PC21_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC21 A q k v r g S (ix3 0 i e) = PV (fun e => CO21 A q k v S (ix2 i e)) (r (ix3 0 (rw2 i) (ce1 e))) (g (ix2 0 e)) e := by
  unfold PC21
  generalize CO21 A q k v S = O
  pointwise [k0_pay184, k0_pay181, k0_pay182, k0_pay183]
  rfl

/-- The piece stored for chunk 3 and head 1. -/
def PC31 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay185 (CO31 A q k v S) g (View.ld (Val := Elt Ideal) (e' := .bf16) (S := S1x512x512) r (Rect.unit (s := S1x512x512) ![0, 192, 256] S1x64x256.size inb_S1x512x512_S1x64x256_0_192_256))

/-- Its elements. -/
theorem PC31_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC31 A q k v r g S (ix3 0 i e) = PV (fun e => CO31 A q k v S (ix2 i e)) (r (ix3 0 (rw3 i) (ce1 e))) (g (ix2 0 e)) e := by
  unfold PC31
  generalize CO31 A q k v S = O
  pointwise [k0_pay185]
  rfl

/-- The piece stored for chunk 4 and head 1. -/
def PC41 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay186 (CO41 A q k v S) g (View.ld (Val := Elt Ideal) (e' := .bf16) (S := S1x512x512) r (Rect.unit (s := S1x512x512) ![0, 256, 256] S1x64x256.size inb_S1x512x512_S1x64x256_0_256_256))

/-- Its elements. -/
theorem PC41_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC41 A q k v r g S (ix3 0 i e) = PV (fun e => CO41 A q k v S (ix2 i e)) (r (ix3 0 (rw4 i) (ce1 e))) (g (ix2 0 e)) e := by
  unfold PC41
  generalize CO41 A q k v S = O
  pointwise [k0_pay186]
  rfl

/-- The piece stored for chunk 5 and head 1. -/
def PC51 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay188 (k0_pay187 (CO51 A q k v S)) g (View.ld (Val := Elt Ideal) (e' := .bf16) (S := S1x512x512) r (Rect.unit (s := S1x512x512) ![0, 320, 256] S1x64x256.size inb_S1x512x512_S1x64x256_0_320_256))

/-- Its elements. -/
theorem PC51_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC51 A q k v r g S (ix3 0 i e) = PV (fun e => CO51 A q k v S (ix2 i e)) (r (ix3 0 (rw5 i) (ce1 e))) (g (ix2 0 e)) e := by
  unfold PC51
  generalize CO51 A q k v S = O
  pointwise [k0_pay188, k0_pay187]
  rfl

/-- The piece stored for chunk 6 and head 1. -/
def PC61 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay192 (k0_pay189 (CO61 A q k v S) g) (k0_pay190 (View.ld (Val := Elt Ideal) (e' := .bf16) (S := S1x512x512) r (Rect.unit (s := S1x512x512) ![0, 384, 256] S1x64x256.size inb_S1x512x512_S1x64x256_0_384_256))) (k0_pay191 (View.ld (Val := Elt Ideal) (e' := .bf16) (S := S1x512x512) r (Rect.unit (s := S1x512x512) ![0, 384, 256] S1x64x256.size inb_S1x512x512_S1x64x256_0_384_256))) (FloatOps.ofBits (F := Ideal) FTy.f32 1056964608#32)

/-- Its elements. -/
theorem PC61_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC61 A q k v r g S (ix3 0 i e) = PV (fun e => CO61 A q k v S (ix2 i e)) (r (ix3 0 (rw6 i) (ce1 e))) (g (ix2 0 e)) e := by
  unfold PC61
  generalize CO61 A q k v S = O
  pointwise [k0_pay192, k0_pay189, k0_pay190, k0_pay191]
  rfl

/-- The piece stored for chunk 7 and head 1. -/
def PC71 (A : FVec Ideal S512x256 .f32) (q k : Vec Ideal S1x512x256 .bf16) (v r : Vec Ideal S1x512x512 .bf16) (g : Vec Ideal S1x256 .f32) (S : Vec Ideal S2x256x128 .f32) : FVec Ideal S1x64x256 .bf16 :=
  k0_pay193 (CO71 A q k v S) g (View.ld (Val := Elt Ideal) (e' := .bf16) (S := S1x512x512) r (Rect.unit (s := S1x512x512) ![0, 448, 256] S1x64x256.size inb_S1x512x512_S1x64x256_0_448_256))

/-- Its elements. -/
theorem PC71_at (A : FVec Ideal S512x256 .f32) (q k : Vec Ideal S1x512x256 .bf16) (v r : Vec Ideal S1x512x512 .bf16) (g : Vec Ideal S1x256 .f32) (S : Vec Ideal S2x256x128 .f32) (i : Fin 64) (e : Fin 256) :
    PC71 A q k v r g S (ix3 0 i e) = PV (fun e => CO71 A q k v S (ix2 i e)) (r (ix3 0 (rw7 i) (ce1 e))) (g (ix2 0 e)) e := by
  unfold PC71
  generalize CO71 A q k v S = O
  pointwise [k0_pay193]
  rfl

end Cert.GlaIdeal.Value

end
-- ==== Proof.GlaTerms.lean ====
/- The terms the reference of the gated linear attention computes: its gates, its products inside a chunk, the step of its state and its output. -/
module

public import proofs.«01_k».proof.Proof.Gen.GlaRefIdeal.Run
public import Idealize.ShloMosaic.Lib.Pipeline.ValueKit

@[expose] public section

set_option maxRecDepth 16384

noncomputable section

namespace Cert.GlaRefIdeal.Value

open Cert.GlaRefIdeal Cert.GlaRefIdeal.Gen Idealize.ShloMosaic Idealize.ShloMosaic.TcCoe Idealize.SL.Sem Idealize.ShloMosaic.StableHlo

/-- The gate's argument: the low-rank product and its bias. -/
def GZ (X1 : FVec Ideal S4x4096x128 .bf16) (X2 : FVec Ideal S16x512 .f32) (X3 : FVec Ideal S512 .f32) : FVec Ideal S4x4096x512 .f32 :=
  addf (Host.dotGeneral dot_S4x4096x16_S16x512_S4x4096x512_2_0_01_1_n_n none
      (extf .f32 (extractStridedSlice S4x4096x16 ![0, 0, 0] X1 slices_S4x4096x128_S4x4096x16_0_0_0) bitsLt_bf16_f32) X2)
    (broadcastInDim S4x4096x512 ![0, 1, 2] bcast_S1x1x512_S4x4096x512_0_1_2 (broadcastInDim S1x1x512 ![2] bcast_S512_S1x1x512_2 X3))

/-- The sum of the negated argument and zero spread over the array. -/
def GN (Z : FVec Ideal S4x4096x512 .f32) : FVec Ideal S4x4096x512 .f32 :=
  subf (Host.negf Z) (broadcastInDim S4x4096x512 ![] bcast_S_S4x4096x512 (constant S_ .f32 0x00000000#32))

/-- The logarithm of the gate: a sixteenth of the logarithm of the sigmoid. -/
def GLA (Z : FVec Ideal S4x4096x512 .f32) : FVec Ideal S4x4096x512 .f32 :=
  Host.divf (Host.negf (select (cmpf .une (GN Z) (GN Z))
      (addf (Host.negf Z) (broadcastInDim S4x4096x512 ![] bcast_S_S4x4096x512 (constant S_ .f32 0x00000000#32)))
      (addf (maximumf (Host.negf Z) (broadcastInDim S4x4096x512 ![] bcast_S_S4x4096x512 (constant S_ .f32 0x00000000#32)))
        (Host.log1p (Host.exp (Host.negf (Host.absf (GN Z))))))))
    (broadcastInDim S4x4096x512 ![] bcast_S_S4x4096x512 (constant S_ .f32 0x41800000#32))

/-- The gates' logarithms, by chunk. -/
def GC (Z : FVec Ideal S4x4096x512 .f32) : FVec Ideal S4x4x64x64x128 .f32 :=
  transpose S4x4x64x64x128 [0, 3, 1, 2, 4] (shapeCast S4x64x64x4x128 (GLA Z) shapeCasts_S4x4096x512_S4x64x64x4x128) transposes_S4x64x64x4x128_S4x4x64x64x128_0_3_1_2_4

/-- Their running sums inside a chunk. -/
def GB (Z : FVec Ideal S4x4096x512 .f32) : FVec Ideal S4x4x64x64x128 .f32 :=
  Host.reduceWindowAdd ![1, 1, 1, 64, 1] ![1, 1, 1, 1, 1] ![0, 0, 0, 63, 0] ![0, 0, 0, 0, 0] (GC Z) (broadcastInDim S_ ![] bcast_S_S_ (constant S_ .f32 0x00000000#32)) reduceWindows_S4x4x64x64x128_S4x4x64x64x128_w1s1p0_0_w1s1p0_0_w1s1p0_0_w64s1p63_0_w1s1p0_0 h_S_

/-- The queries, scaled, by chunk. -/
def GQ (X0 : FVec Ideal S4x4096x3072 .bf16) : FVec Ideal S4x4x64x64x128 .f32 :=
  mulf (transpose S4x4x64x64x128 [0, 3, 1, 2, 4] (shapeCast S4x64x64x4x128 (extractStridedSlice S4x4096x512 ![0, 0, 0] (extf .f32 X0 bitsLt_bf16_f32) slices_S4x4096x3072_S4x4096x512_0_0_0) shapeCasts_S4x4096x512_S4x64x64x4x128) transposes_S4x64x64x4x128_S4x4x64x64x128_0_3_1_2_4)
    (broadcastInDim S4x4x64x64x128 ![] bcast_S_S4x4x64x64x128 (constant S_ .f32 0x3DB504F3#32))

/-- The keys by chunk. -/
def GK (X0 : FVec Ideal S4x4096x3072 .bf16) : FVec Ideal S4x4x64x64x128 .f32 :=
  transpose S4x4x64x64x128 [0, 3, 1, 2, 4] (shapeCast S4x64x64x4x128 (extractStridedSlice S4x4096x512 ![0, 0, 512] (extf .f32 X0 bitsLt_bf16_f32) slices_S4x4096x3072_S4x4096x512_0_0_512) shapeCasts_S4x4096x512_S4x64x64x4x128) transposes_S4x64x64x4x128_S4x4x64x64x128_0_3_1_2_4

/-- The values by chunk. -/
def GV (X0 : FVec Ideal S4x4096x3072 .bf16) : FVec Ideal S4x4x64x64x256 .f32 :=
  transpose S4x4x64x64x256 [0, 3, 1, 2, 4] (shapeCast S4x64x64x4x256 (extractStridedSlice S4x4096x1024 ![0, 0, 1024] (extf .f32 X0 bitsLt_bf16_f32) slices_S4x4096x3072_S4x4096x1024_0_0_1024) shapeCasts_S4x4096x1024_S4x64x64x4x256) transposes_S4x64x64x4x256_S4x4x64x64x256_0_3_1_2_4

/-- The output gate's argument. -/
def GR (X0 : FVec Ideal S4x4096x3072 .bf16) : FVec Ideal S4x4096x1024 .f32 :=
  extractStridedSlice S4x4096x1024 ![0, 0, 2048] (extf .f32 X0 bitsLt_bf16_f32) slices_S4x4096x3072_S4x4096x1024_0_0_2048

/-- The decayed queries. -/
def GQD (X0 : FVec Ideal S4x4096x3072 .bf16) (B : FVec Ideal S4x4x64x64x128 .f32) : FVec Ideal S4x4x64x64x128 .f32 :=
  mulf (GQ X0) (Host.exp B)

/-- The keys with the decay taken off. -/
def GKD (X0 : FVec Ideal S4x4096x3072 .bf16) (B : FVec Ideal S4x4x64x64x128 .f32) : FVec Ideal S4x4x64x64x128 .f32 :=
  mulf (GK X0) (Host.exp (Host.negf B))

/-- The lower triangle of a chunk. -/
def GM : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The products of queries with earlier keys of the chunk, applied to the values. -/
def GOI (X0 : FVec Ideal S4x4096x3072 .bf16) (B : FVec Ideal S4x4x64x64x128 .f32) : FVec Ideal S4x4x64x64x256 .f32 :=
  Host.dotGeneral dot_S4x4x64x64x64_S4x4x64x64x256_S4x4x64x64x256_4_3_3_4_012_012 none
    (select (broadcastInDim S4x4x64x64x64 ![3, 4] bcast_S64x64_S4x4x64x64x64_3_4 GM)
      (Host.dotGeneral (φ₁ := .f32) (φ₂ := .f32) dot_S4x4x64x64x128_S4x4x64x64x128_S4x4x64x64x64_4_4_3_3_012_012 none (GQD X0 B) (GKD X0 B))
      (broadcastInDim S4x4x64x64x64 ![] bcast_S_S4x4x64x64x64 (constant S_ .f32 0x00000000#32))) (GV X0)

/-- The last running sum of each chunk. -/
def GE (B : FVec Ideal S4x4x64x64x128 .f32) : FVec Ideal S4x4x64x1x128 .f32 :=
  extractStridedSlice S4x4x64x1x128 ![0, 0, 0, 63, 0] B slices_S4x4x64x64x128_S4x4x64x1x128_0_0_0_63_0

/-- What each chunk adds to the state, chunks first. -/
def GKV (X0 : FVec Ideal S4x4096x3072 .bf16) (B : FVec Ideal S4x4x64x64x128 .f32) : FVec Ideal S64x4x4x128x256 .f32 :=
  transpose S64x4x4x128x256 [2, 0, 1, 3, 4] (Host.dotGeneral dot_S4x4x64x64x128_S4x4x64x64x256_S4x4x64x128x256_3_3_4_4_012_012 none
    (mulf (GK X0) (Host.exp (subf (broadcastInDim S4x4x64x64x128 ![0, 1, 2, 3, 4] bcast_S4x4x64x1x128_S4x4x64x64x128_0_1_2_3_4 (GE B)) B))) (GV X0))
    transposes_S4x4x64x128x256_S64x4x4x128x256_2_0_1_3_4

/-- Each chunk's decay of the state, chunks first. -/
def GD (B : FVec Ideal S4x4x64x64x128 .f32) : FVec Ideal S64x4x4x128 .f32 :=
  transpose S64x4x4x128 [2, 0, 1, 3] (Host.exp (shapeCast S4x4x64x128 (GE B) shapeCasts_S4x4x64x1x128_S4x4x64x128)) transposes_S4x4x64x128_S64x4x4x128_2_0_1_3

/-- The states a chunk is entered with, before any is written. -/
def GS0 : FVec Ideal S64x4x4x128x256 .f32 := broadcastInDim S64x4x4x128x256 ![] bcast_S_S64x4x4x128x256 (constant S_ .f32 0x00000000#32)

/-- The first state. -/
def GT0 : FVec Ideal S4x4x128x256 .f32 := broadcastInDim S4x4x128x256 ![] bcast_S_S4x4x128x256 (constant S_ .f32 0x00000000#32)

/-- The attention before its norm. -/
def GO (QD : FVec Ideal S4x4x64x64x128 .f32) (OI : FVec Ideal S4x4x64x64x256 .f32) (C : FVec Ideal S64x4x4x128x256 .f32) : FVec Ideal S4x4096x4x256 .f32 :=
  shapeCast S4x4096x4x256 (transpose S4x64x64x4x256 [0, 2, 3, 1, 4]
    (addf OI (Host.dotGeneral dot_S4x4x64x64x128_S4x4x64x128x256_S4x4x64x64x256_4_3_3_4_012_012 none QD
      (transpose S4x4x64x128x256 [1, 2, 0, 3, 4] C transposes_S64x4x4x128x256_S4x4x64x128x256_1_2_0_3_4)))
    transposes_S4x4x64x64x256_S4x64x64x4x256_0_2_3_1_4) shapeCasts_S4x64x64x4x256_S4x4096x4x256

/-- The norm over a head. -/
def GNORM (O : FVec Ideal S4x4096x4x256 .f32) (X4 : FVec Ideal S256 .f32) : FVec Ideal S4x4096x4x256 .f32 :=
  mulf (mulf O (broadcastInDim S4x4096x4x256 ![0, 1, 2, 3] bcast_S4x4096x4x1_S4x4096x4x256_0_1_2_3
      (Host.rsqrt (addf (Host.divf (broadcastInDim S4x4096x4x1 ![0, 1, 2] bcast_S4x4096x4_S4x4096x4x1_0_1_2
          (Host.reduceAdd (mulf O O) (constant S_ .f32 0x00000000#32) reducesTo_S4x4096x4x256_S4x4096x4_d3 h_S_))
        (broadcastInDim S4x4096x4x1 ![] bcast_S_S4x4096x4x1 (constant S_ .f32 0x43800000#32)))
        (broadcastInDim S4x4096x4x1 ![] bcast_S_S4x4096x4x1 (constant S_ .f32 0x3727C5AC#32))))))
    (broadcastInDim S4x4096x4x256 ![0, 1, 2, 3] bcast_S1x1x1x256_S4x4096x4x256_0_1_2_3 (broadcastInDim S1x1x1x256 ![3] bcast_S256_S1x1x1x256_3 X4))

/-- The output gate. -/
def GSILU (R : FVec Ideal S4x4096x1024 .f32) : FVec Ideal S4x4096x1024 .f32 :=
  mulf R (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf R))))

/-- The call's result from the attention before its norm. -/
def GOUT (O : FVec Ideal S4x4096x4x256 .f32) (R : FVec Ideal S4x4096x1024 .f32) (X4 : FVec Ideal S256 .f32) : FVec Ideal S4x4096x1024 .bf16 :=
  truncf .bf16 (shapeCast S4x4096x1024 (mulf (GNORM O X4) (shapeCast S4x4096x4x256 (GSILU R) shapeCasts_S4x4096x1024_S4x4096x4x256)) shapeCasts_S4x4096x4x256_S4x4096x1024) bitsLt_bf16_f32

/-- The stretches after the loop, from any contents. -/
theorem post_main_v70 (X : Valuation τ sig (Elt Ideal)) :
    afterL (postI (F := Ideal)) X (Proc.devRef .tc main_v70)
      = GOUT (GO (X (Proc.devRef .tc main_v27)) (X (Proc.devRef .tc main_v35)) (X (Proc.devRef .tc main_v47_4))) (X (Proc.devRef .tc main_v4)) (X (Proc.devRef .tc main_arg4)) := by
  simp only [postI, afterL_cons, afterL_nil]
  after_reads_simp
  rfl

set_option maxHeartbeats 2000000 in
/-- The output gate's argument before the loop, from any contents. -/
theorem pre_main_v4 (X : Valuation τ sig (Elt Ideal)) :
    afterL (preI (F := Ideal)) X (Proc.devRef .tc main_v4) = GR (X (Proc.devRef .tc main_arg0)) := by
  simp only [preI, afterL_cons, afterL_nil]
  after_reads_simp
  rfl

set_option maxHeartbeats 2000000 in
/-- The decayed queries before the loop, from any contents. -/
theorem pre_main_v27 (X : Valuation τ sig (Elt Ideal)) :
    afterL (preI (F := Ideal)) X (Proc.devRef .tc main_v27) = GQD (X (Proc.devRef .tc main_arg0)) (GB (GZ (X (Proc.devRef .tc main_arg1)) (X (Proc.devRef .tc main_arg2)) (X (Proc.devRef .tc main_arg3)))) := by
  simp only [preI, afterL_cons, afterL_nil]
  after_reads_simp
  rfl

set_option maxHeartbeats 2000000 in
/-- The products inside the chunks before the loop, from any contents. -/
theorem pre_main_v35 (X : Valuation τ sig (Elt Ideal)) :
    afterL (preI (F := Ideal)) X (Proc.devRef .tc main_v35) = GOI (X (Proc.devRef .tc main_arg0)) (GB (GZ (X (Proc.devRef .tc main_arg1)) (X (Proc.devRef .tc main_arg2)) (X (Proc.devRef .tc main_arg3)))) := by
  simp only [preI, afterL_cons, afterL_nil]
  after_reads_simp
  rfl

set_option maxHeartbeats 2000000 in
/-- What the chunks add before the loop, from any contents. -/
theorem pre_main_v47_0 (X : Valuation τ sig (Elt Ideal)) :
    afterL (preI (F := Ideal)) X (Proc.devRef .tc main_v47_0) = GKV (X (Proc.devRef .tc main_arg0)) (GB (GZ (X (Proc.devRef .tc main_arg1)) (X (Proc.devRef .tc main_arg2)) (X (Proc.devRef .tc main_arg3)))) := by
  simp only [preI, afterL_cons, afterL_nil]
  after_reads_simp
  rfl

set_option maxHeartbeats 2000000 in
/-- The chunks' decays before the loop, from any contents. -/
theorem pre_main_v47_1 (X : Valuation τ sig (Elt Ideal)) :
    afterL (preI (F := Ideal)) X (Proc.devRef .tc main_v47_1) = GD (GB (GZ (X (Proc.devRef .tc main_arg1)) (X (Proc.devRef .tc main_arg2)) (X (Proc.devRef .tc main_arg3)))) := by
  simp only [preI, afterL_cons, afterL_nil]
  after_reads_simp
  rfl

set_option maxHeartbeats 2000000 in
/-- The first state before the loop, from any contents. -/
theorem pre_main_v47_3 (X : Valuation τ sig (Elt Ideal)) :
    afterL (preI (F := Ideal)) X (Proc.devRef .tc main_v47_3) = GT0 := by
  simp only [preI, afterL_cons, afterL_nil]
  after_reads_simp
  rfl

set_option maxHeartbeats 2000000 in
/-- The collected states before the loop, from any contents. -/
theorem pre_main_v47_4 (X : Valuation τ sig (Elt Ideal)) :
    afterL (preI (F := Ideal)) X (Proc.devRef .tc main_v47_4) =  GS0 := by
  simp only [preI, afterL_cons, afterL_nil]
  after_reads_simp
  rfl

end Cert.GlaRefIdeal.Value

end
-- ==== Proof.GlaScan.lean ====
/- The scan of the reference of the gated linear attention: the state before each chunk, and the result in terms of it. -/
module

public import proofs.«01_k».proof.Proof.GlaTerms
public import Idealize.ShloMosaic.Lib.DynamicIndex
public import Idealize.ShloMosaic.Lib.Pipeline.Value
public import Idealize.ShloMosaic.Lib.WordCmp

@[expose] public section

set_option maxRecDepth 16384

noncomputable section

namespace Cert.GlaRefIdeal.Value

open Cert.GlaRefIdeal Cert.GlaRefIdeal.Gen Idealize.ShloMosaic Idealize.ShloMosaic.TcCoe Idealize.SL.Sem Idealize.ShloMosaic.StableHlo

/-- One step of the state, at the counter's word. -/
def stepS (KV : FVec Ideal S64x4x4x128x256 .f32) (D : FVec Ideal S64x4x4x128 .f32) (n : IVec S_ 32) (s : FVec Ideal S4x4x128x256 .f32) : FVec Ideal S4x4x128x256 .f32 :=
  addf (mulf s (broadcastInDim S4x4x128x256 ![0, 1, 2, 3] bcast_S4x4x128x1_S4x4x128x256_0_1_2_3 (broadcastInDim S4x4x128x1 ![0, 1, 2] bcast_S4x4x128_S4x4x128x1_0_1_2
      (shapeCast S4x4x128 (Host.dynamicSlice S1x4x4x128 D (fun k => (((![n, constantI S_ 32 0#32, constantI S_ 32 0#32, constantI S_ 32 0#32] : Fin 4 → IVec S_ 32)) k (Shape.Idx.first h_S_)).toInt) sliceFits_S64x4x4x128_S1x4x4x128) shapeCasts_S1x4x4x128_S4x4x128))))
    (shapeCast S4x4x128x256 (Host.dynamicSlice S1x4x4x128x256 KV (fun k => (((![n, constantI S_ 32 0#32, constantI S_ 32 0#32, constantI S_ 32 0#32, constantI S_ 32 0#32] : Fin 5 → IVec S_ 32)) k (Shape.Idx.first h_S_)).toInt) sliceFits_S64x4x4x128x256_S1x4x4x128x256) shapeCasts_S1x4x4x128x256_S4x4x128x256)

/-- One step of the collected states, at the counter's word. -/
def stepC (n : IVec S_ 32) (s : FVec Ideal S4x4x128x256 .f32) (C : FVec Ideal S64x4x4x128x256 .f32) : FVec Ideal S64x4x4x128x256 .f32 :=
  Host.dynamicUpdateSlice C (broadcastInDim S1x4x4x128x256 ![1, 2, 3, 4] bcast_S4x4x128x256_S1x4x4x128x256_1_2_3_4 s)
    (fun k => (((![n, constantI S_ 32 0#32, constantI S_ 32 0#32, constantI S_ 32 0#32, constantI S_ 32 0#32] : Fin 5 → IVec S_ 32)) k (Shape.Idx.first h_S_)).toInt) updateFits_S64x4x4x128x256_S1x4x4x128x256

/-- The counter's word before trip `k`. -/
def ctrW (k : ℕ) : IVec S_ 32 := fun _ => Scf.iv 0#32 1#32 k

/-- The state before trip `k`. -/
def stK (KV : FVec Ideal S64x4x4x128x256 .f32) (D : FVec Ideal S64x4x4x128 .f32) : ℕ → FVec Ideal S4x4x128x256 .f32
  | 0 => GT0
  | k + 1 => stepS KV D (ctrW k) (stK KV D k)

/-- The collected states before trip `k`. -/
def coK (KV : FVec Ideal S64x4x4x128x256 .f32) (D : FVec Ideal S64x4x4x128 .f32) : ℕ → FVec Ideal S64x4x4x128x256 .f32
  | 0 => GS0
  | k + 1 => stepC (ctrW k) (stK KV D k) (coK KV D k)

/-- The counter's word, read as a number, is the trip. -/
theorem ctr_toInt (k : Fin 64) : (Scf.iv 0#32 1#32 k.val : BitVec 32).toInt = (k.val : Int) := by
  revert k; decide +kernel

/-- A row of the decays at trip `k` fits. -/
theorem fitsD (k : Fin 64) : S64x4x4x128.Slices ![k.val, 0, 0, 0] S1x4x4x128 := by
  refine ⟨rfl, fun a => ?_⟩; fin_cases a <;> simp <;> omega

/-- A row of the chunks' products at trip `k` fits. -/
theorem fitsKV (k : Fin 64) : S64x4x4x128x256.Slices ![k.val, 0, 0, 0, 0] S1x4x4x128x256 := by
  refine ⟨rfl, fun a => ?_⟩; fin_cases a <;> simp <;> omega

/-- A step of the state at an index: the state decayed and the chunk's products added. -/
theorem stepS_apply (KV : FVec Ideal S64x4x4x128x256 .f32) (D : FVec Ideal S64x4x4x128 .f32) (k : Fin 64) (s : FVec Ideal S4x4x128x256 .f32)
    (b h : Fin 4) (d : Fin 128) (e : Fin 256) :
    stepS KV D (ctrW k.val) s (ix4 b h d e) = s (ix4 b h d e) * D (ix4 k b h d) + KV (ix5 k b h d e) := by
  unfold stepS
  rw [Host.dynamicSlice_eq_extractStridedSlice S1x4x4x128 D _ ![k.val, 0, 0, 0] _ (fitsD k) (by intro a; fin_cases a; exact ctr_toInt k; all_goals rfl),
    Host.dynamicSlice_eq_extractStridedSlice S1x4x4x128x256 KV _ ![k.val, 0, 0, 0, 0] _ (fitsKV k) (by intro a; fin_cases a; exact ctr_toInt k; all_goals rfl)]
  pointwise

/-- A step of the collected states at an index: the state in its own row, the other rows as they were. -/
theorem stepC_apply (k : Fin 64) (s : FVec Ideal S4x4x128x256 .f32) (C : FVec Ideal S64x4x4x128x256 .f32)
    (n : Fin 64) (b h : Fin 4) (d : Fin 128) (e : Fin 256) :
    stepC (ctrW k.val) s C (ix5 n b h d e) = if n = k then s (ix4 b h d e) else C (ix5 n b h d e) := by
  unfold stepC
  rw [WordCmp.dynamicUpdateSlice_eq_update C _ _ _ ![k.val, 0, 0, 0, 0] (fitsKV k) (by intro a; fin_cases a; exact ctr_toInt k; all_goals rfl)]
  pointwise
  by_cases hn : n = k
  · subst hn; rw [dif_pos ⟨le_refl _, Nat.lt_succ_self _⟩, if_pos rfl]
  · rw [dif_neg (fun h => hn (Fin.ext (by omega))), if_neg hn]

/-- The collected states before trip `k`: the states of the trips before. -/
theorem coK_apply (KV : FVec Ideal S64x4x4x128x256 .f32) (D : FVec Ideal S64x4x4x128 .f32) (n : Fin 64) (b h : Fin 4) (d : Fin 128) (e : Fin 256) :
    ∀ k : ℕ, k ≤ 64 → n.val < k → coK KV D k (ix5 n b h d e) = stK KV D n.val (ix4 b h d e)
  | 0, _, h0 => absurd h0 (Nat.not_lt_zero _)
  | k + 1, hk, h0 => by
    show stepC (ctrW (⟨k, hk⟩ : Fin 64).val) (stK KV D k) (coK KV D k) (ix5 n b h d e) = _
    rw [stepC_apply]
    by_cases hn : n = ⟨k, hk⟩
    · rw [if_pos hn, hn]
    · rw [if_neg hn]
      exact coK_apply KV D n b h d e k (by omega) (by have : n.val ≠ k := fun h' => hn (Fin.ext h'); omega)

/-- The state before the first trip is zero. -/
theorem stK_zero (KV : FVec Ideal S64x4x4x128x256 .f32) (D : FVec Ideal S64x4x4x128 .f32) (b h : Fin 4) (d : Fin 128) (e : Fin 256) :
    stK KV D 0 (ix4 b h d e) = 0 := by
  show GT0 (ix4 b h d e) = 0
  pointwise [GT0]

/-- The state one trip on. -/
theorem stK_succ (KV : FVec Ideal S64x4x4x128x256 .f32) (D : FVec Ideal S64x4x4x128 .f32) (k : Fin 64) (b h : Fin 4) (d : Fin 128) (e : Fin 256) :
    stK KV D (k.val + 1) (ix4 b h d e) = stK KV D k.val (ix4 b h d e) * D (ix4 k b h d) + KV (ix5 k b h d e) :=
  stepS_apply KV D k (stK KV D k.val) b h d e

/-- The loop leaves a buffer that neither its condition nor its body writes as it was. -/
theorem atTrip_keeps (W : Dev nD → Valuation τ sig (Elt Ideal)) (r : DevRef τ sig)
    (h1 : ∀ X : Valuation τ sig (Elt Ideal), after condOps X r = X r) (h2 : ∀ X : Valuation τ sig (Elt Ideal), afterL bodyI X r = X r) (c : Dev nD) :
    ∀ k : ℕ, atTrip condOps bodyI W k c r = W c r
  | 0 => rfl
  | k + 1 => by rw [atTrip_succ, h2, h1]; exact atTrip_keeps W r h1 h2 c k

/-- The loop's carried buffers before trip `k`. -/
theorem carried (W : Dev nD → Valuation τ sig (Elt Ideal)) (c : Dev nD) (KV : FVec Ideal S64x4x4x128x256 .f32) (D : FVec Ideal S64x4x4x128 .f32)
    (e0 : W c (Proc.devRef .tc main_v47_0) = KV) (e1 : W c (Proc.devRef .tc main_v47_1) = D) (e2 : W c (Proc.devRef .tc main_v47_2) = ctrW 0)
    (e3 : W c (Proc.devRef .tc main_v47_3) = GT0) (e4 : W c (Proc.devRef .tc main_v47_4) = GS0) :
    ∀ k : ℕ, atTrip condOps bodyI W k c (Proc.devRef .tc main_v47_0) = KV ∧ atTrip condOps bodyI W k c (Proc.devRef .tc main_v47_1) = D
      ∧ atTrip condOps bodyI W k c (Proc.devRef .tc main_v47_2) = ctrW k ∧ atTrip condOps bodyI W k c (Proc.devRef .tc main_v47_3) = stK KV D k
      ∧ atTrip condOps bodyI W k c (Proc.devRef .tc main_v47_4) = coK KV D k
  | 0 => ⟨e0, e1, e2, e3, e4⟩
  | k + 1 => by
    obtain ⟨a0, a1, a2, a3, a4⟩ := carried W c KV D e0 e1 e2 e3 e4 k
    have hc := cond_keeps (atTrip condOps bodyI W k c)
    have b0 := (hc main_v47_0 (by decide)).trans a0
    have b1 := (hc main_v47_1 (by decide)).trans a1
    have b2 := (hc main_v47_2 (by decide)).trans a2
    have b3 := (hc main_v47_3 (by decide)).trans a3
    have b4 := (hc main_v47_4 (by decide)).trans a4
    rw [atTrip_succ]
    refine ⟨(trip_main_v47_0 _).trans b0, (trip_main_v47_1 _).trans b1, (trip_main_v47_2 _).trans ?_, (trip_main_v47_3 _).trans ?_, (trip_main_v47_4 _).trans ?_⟩
    · rw [b2]; funext i; show Scf.iv 0#32 1#32 k + 1#32 = _; exact (Scf.iv_succ _ _ _).symm
    · rw [b0, b1, b2, b3]; rfl
    · rw [b2, b3, b4]; rfl

variable (m : (ℓ : Loc nD τ sig) → Buf (Elt Ideal) ℓ) (c : Dev nD)

/-- Neither the loop's condition nor its body writes `main_v4`. -/
theorem loop_main_v4 (W : Dev nD → Valuation τ sig (Elt Ideal)) (k : ℕ) : atTrip condOps bodyI W k c (Proc.devRef .tc main_v4) = W c (Proc.devRef .tc main_v4) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_v27`. -/
theorem loop_main_v27 (W : Dev nD → Valuation τ sig (Elt Ideal)) (k : ℕ) : atTrip condOps bodyI W k c (Proc.devRef .tc main_v27) = W c (Proc.devRef .tc main_v27) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_v35`. -/
theorem loop_main_v35 (W : Dev nD → Valuation τ sig (Elt Ideal)) (k : ℕ) : atTrip condOps bodyI W k c (Proc.devRef .tc main_v35) = W c (Proc.devRef .tc main_v35) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_arg0`. -/
theorem loop_main_arg0 (W : Dev nD → Valuation τ sig (Elt Ideal)) (k : ℕ) : atTrip condOps bodyI W k c (Proc.devRef .tc main_arg0) = W c (Proc.devRef .tc main_arg0) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_arg1`. -/
theorem loop_main_arg1 (W : Dev nD → Valuation τ sig (Elt Ideal)) (k : ℕ) : atTrip condOps bodyI W k c (Proc.devRef .tc main_arg1) = W c (Proc.devRef .tc main_arg1) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_arg2`. -/
theorem loop_main_arg2 (W : Dev nD → Valuation τ sig (Elt Ideal)) (k : ℕ) : atTrip condOps bodyI W k c (Proc.devRef .tc main_arg2) = W c (Proc.devRef .tc main_arg2) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_arg3`. -/
theorem loop_main_arg3 (W : Dev nD → Valuation τ sig (Elt Ideal)) (k : ℕ) : atTrip condOps bodyI W k c (Proc.devRef .tc main_arg3) = W c (Proc.devRef .tc main_arg3) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- Neither the loop's condition nor its body writes `main_arg4`. -/
theorem loop_main_arg4 (W : Dev nD → Valuation τ sig (Elt Ideal)) (k : ℕ) : atTrip condOps bodyI W k c (Proc.devRef .tc main_arg4) = W c (Proc.devRef .tc main_arg4) :=
  atTrip_keeps W _ (fun X => after_of_writes_sub condOps X condOps_writes (by decide +kernel))
    (fun X => by
      simp only [bodyI, afterL_cons, afterL_nil]
      rw [after_of_writes_sub while0Ops0_4 _ while0Ops0_4_writes (by decide +kernel), after_of_writes_sub while0Ops0_3 _ while0Ops0_3_writes (by decide +kernel),
        after_of_writes_sub while0Ops0_2 _ while0Ops0_2_writes (by decide +kernel), after_of_writes_sub while0Ops0_1 _ while0Ops0_1_writes (by decide +kernel),
        after_of_writes_sub while0Ops0 _ while0Ops0_writes (by decide +kernel)]) c k

/-- No operation before the loop writes `main_arg0`. -/
theorem entry_main_arg0 (X : Valuation τ sig (Elt Ideal)) : afterL (preI (F := Ideal)) X (Proc.devRef .tc main_arg0) = X (Proc.devRef .tc main_arg0) := by
  simp only [preI, afterL_cons, afterL_nil]
  after_reads_simp

/-- No operation after the loop writes `main_arg0`. -/
theorem exit_main_arg0 (X : Valuation τ sig (Elt Ideal)) : afterL (postI (F := Ideal)) X (Proc.devRef .tc main_arg0) = X (Proc.devRef .tc main_arg0) := by
  simp only [postI, afterL_cons, afterL_nil]
  after_reads_simp

/-- The run leaves `main_arg0` as launched. -/
theorem final_main_arg0 : finalContents condOps preI bodyI postI 64 m c (Proc.devRef .tc main_arg0) = m (c.tc.loc main_arg0) := by
  rw [finalContents, exit_main_arg0, after_of_writes_sub condOps _ condOps_writes (by decide +kernel), loop_main_arg0, entryContents, entry_main_arg0]

/-- No operation before the loop writes `main_arg1`. -/
theorem entry_main_arg1 (X : Valuation τ sig (Elt Ideal)) : afterL (preI (F := Ideal)) X (Proc.devRef .tc main_arg1) = X (Proc.devRef .tc main_arg1) := by
  simp only [preI, afterL_cons, afterL_nil]
  after_reads_simp

/-- No operation after the loop writes `main_arg1`. -/
theorem exit_main_arg1 (X : Valuation τ sig (Elt Ideal)) : afterL (postI (F := Ideal)) X (Proc.devRef .tc main_arg1) = X (Proc.devRef .tc main_arg1) := by
  simp only [postI, afterL_cons, afterL_nil]
  after_reads_simp

/-- The run leaves `main_arg1` as launched. -/
theorem final_main_arg1 : finalContents condOps preI bodyI postI 64 m c (Proc.devRef .tc main_arg1) = m (c.tc.loc main_arg1) := by
  rw [finalContents, exit_main_arg1, after_of_writes_sub condOps _ condOps_writes (by decide +kernel), loop_main_arg1, entryContents, entry_main_arg1]

/-- No operation before the loop writes `main_arg2`. -/
theorem entry_main_arg2 (X : Valuation τ sig (Elt Ideal)) : afterL (preI (F := Ideal)) X (Proc.devRef .tc main_arg2) = X (Proc.devRef .tc main_arg2) := by
  simp only [preI, afterL_cons, afterL_nil]
  after_reads_simp

/-- No operation after the loop writes `main_arg2`. -/
theorem exit_main_arg2 (X : Valuation τ sig (Elt Ideal)) : afterL (postI (F := Ideal)) X (Proc.devRef .tc main_arg2) = X (Proc.devRef .tc main_arg2) := by
  simp only [postI, afterL_cons, afterL_nil]
  after_reads_simp

/-- The run leaves `main_arg2` as launched. -/
theorem final_main_arg2 : finalContents condOps preI bodyI postI 64 m c (Proc.devRef .tc main_arg2) = m (c.tc.loc main_arg2) := by
  rw [finalContents, exit_main_arg2, after_of_writes_sub condOps _ condOps_writes (by decide +kernel), loop_main_arg2, entryContents, entry_main_arg2]

/-- No operation before the loop writes `main_arg3`. -/
theorem entry_main_arg3 (X : Valuation τ sig (Elt Ideal)) : afterL (preI (F := Ideal)) X (Proc.devRef .tc main_arg3) = X (Proc.devRef .tc main_arg3) := by
  simp only [preI, afterL_cons, afterL_nil]
  after_reads_simp

/-- No operation after the loop writes `main_arg3`. -/
theorem exit_main_arg3 (X : Valuation τ sig (Elt Ideal)) : afterL (postI (F := Ideal)) X (Proc.devRef .tc main_arg3) = X (Proc.devRef .tc main_arg3) := by
  simp only [postI, afterL_cons, afterL_nil]
  after_reads_simp

/-- The run leaves `main_arg3` as launched. -/
theorem final_main_arg3 : finalContents condOps preI bodyI postI 64 m c (Proc.devRef .tc main_arg3) = m (c.tc.loc main_arg3) := by
  rw [finalContents, exit_main_arg3, after_of_writes_sub condOps _ condOps_writes (by decide +kernel), loop_main_arg3, entryContents, entry_main_arg3]

/-- No operation before the loop writes `main_arg4`. -/
theorem entry_main_arg4 (X : Valuation τ sig (Elt Ideal)) : afterL (preI (F := Ideal)) X (Proc.devRef .tc main_arg4) = X (Proc.devRef .tc main_arg4) := by
  simp only [preI, afterL_cons, afterL_nil]
  after_reads_simp

/-- No operation after the loop writes `main_arg4`. -/
theorem exit_main_arg4 (X : Valuation τ sig (Elt Ideal)) : afterL (postI (F := Ideal)) X (Proc.devRef .tc main_arg4) = X (Proc.devRef .tc main_arg4) := by
  simp only [postI, afterL_cons, afterL_nil]
  after_reads_simp

/-- The run leaves `main_arg4` as launched. -/
theorem final_main_arg4 : finalContents condOps preI bodyI postI 64 m c (Proc.devRef .tc main_arg4) = m (c.tc.loc main_arg4) := by
  rw [finalContents, exit_main_arg4, after_of_writes_sub condOps _ condOps_writes (by decide +kernel), loop_main_arg4, entryContents, entry_main_arg4]

/-- The reference's result: its chunks' products, the states collected by its loop, the norm and the gate. -/
def GREF (X0 : FVec Ideal S4x4096x3072 .bf16) (X1 : FVec Ideal S4x4096x128 .bf16) (X2 : FVec Ideal S16x512 .f32) (X3 : FVec Ideal S512 .f32) (X4 : FVec Ideal S256 .f32) : FVec Ideal S4x4096x1024 .bf16 :=
  GOUT (GO (GQD X0 (GB (GZ X1 X2 X3))) (GOI X0 (GB (GZ X1 X2 X3))) (coK (GKV X0 (GB (GZ X1 X2 X3))) (GD (GB (GZ X1 X2 X3))) 64)) (GR X0) X4

/-- The run ends with that result. -/
theorem final_main_v70 : finalContents condOps preI bodyI postI 64 m c (Proc.devRef .tc main_v70)
    = GREF (m (c.tc.loc main_arg0)) (m (c.tc.loc main_arg1)) (m (c.tc.loc main_arg2)) (m (c.tc.loc main_arg3)) (m (c.tc.loc main_arg4)) := by
  obtain ⟨-, -, -, -, h4⟩ := carried (entryContents preI m) c _ _ (pre_main_v47_0 _) (pre_main_v47_1 _) ((ctr_entry m c).trans (by funext i; exact (Scf.iv_zero _ _).symm)) (pre_main_v47_3 _) (pre_main_v47_4 _) 64
  rw [finalContents, post_main_v70]
  rw [after_of_writes_sub condOps _ condOps_writes (r := main_v27) (by decide +kernel), after_of_writes_sub condOps _ condOps_writes (r := main_v35) (by decide +kernel),
    after_of_writes_sub condOps _ condOps_writes (r := main_v47_4) (by decide +kernel), after_of_writes_sub condOps _ condOps_writes (r := main_v4) (by decide +kernel),
    after_of_writes_sub condOps _ condOps_writes (r := main_arg4) (by decide +kernel), h4, loop_main_v27, loop_main_v35, loop_main_v4, loop_main_arg4]
  rw [entryContents, pre_main_v27, pre_main_v35, pre_main_v4, entry_main_arg4]
  rfl

variable (ρ : Dev nD → PrngReg)

/-- The reference ends with its result in place and its arguments unchanged. -/
theorem run : θ_run (defs (F := Ideal)) (onTc (τ := τ) (main (F := Ideal))) ⟨m, fun _ => 0, ρ⟩ fun r => ∀ c : Dev nD,
    r.2.mem ((c.tc : Thread nD τ).loc main_v70) = GREF (m (c.tc.loc main_arg0)) (m (c.tc.loc main_arg1)) (m (c.tc.loc main_arg2)) (m (c.tc.loc main_arg3)) (m (c.tc.loc main_arg4))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4) :=
  (θ_run defs _ _).mono (fun r h c => ⟨(h c main_v70 rfl).trans (final_main_v70 m c), (h c main_arg0 rfl).trans (final_main_arg0 m c), (h c main_arg1 rfl).trans (final_main_arg1 m c),
    (h c main_arg2 rfl).trans (final_main_arg2 m c), (h c main_arg3 rfl).trans (final_main_arg3 m c), (h c main_arg4 rfl).trans (final_main_arg4 m c)⟩) (run_fold m ρ)

end Cert.GlaRefIdeal.Value

end
-- ==== Proof.GlaCum.lean ====
/- The running sum of the gates inside a chunk, as the reference writes it: a window sum is a sum over the chunk's earlier rows. -/
module

public import proofs.«01_k».proof.Proof.GlaScan

@[expose] public section

set_option maxRecDepth 16384

noncomputable section

namespace Cert.GlaRefIdeal.Value

open Cert.GlaRefIdeal Cert.GlaRefIdeal.Gen Idealize.ShloMosaic Idealize.ShloMosaic.TcCoe Idealize.SL.Sem Idealize.ShloMosaic.StableHlo

/-- A fold of additions is the first value and the sum. -/
theorem foldl_plus {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A host window sum at an index: the first value and the sum over the window's positions. -/
theorem reduceWindowAdd_sum {φ : FTy} {s t u : Shape} (window strides lo hi : Fin s.rank → Nat) (x : FVec Ideal s φ)
    (init : u.Idx → EReal) (h : s.ReduceWindows window strides lo hi t) (hu : 0 < u.numel) (j : t.Idx) (v : EReal) (hv : init (Shape.Idx.first hu) = v) :
    (Host.reduceWindowAdd (F := Ideal) (φ := φ) window strides lo hi x init h hu j : EReal)
      = v + ((List.finRange (⟨s.rank, window⟩ : Shape).numel).map fun n =>
          if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a then
            (x (fun a => ⟨(j (a.cast h.1.symm)).val * strides a + ((⟨s.rank, window⟩ : Shape).rowMajor.symm n a).val - lo a, (hin a).2⟩) : EReal) else v).sum := by
  subst hv
  show Ideal.hostReduceWindowAdd window strides lo hi h x (init (Shape.Idx.first hu)) j = _
  unfold Ideal.hostReduceWindowAdd Host.reduceWindow
  dsimp only
  refine Eq.trans (foldl_plus (ι := Fin (⟨s.rank, window⟩ : Shape).numel) (fun n => _) _ _) ?_
  refine congrArg (fun l : List EReal => init (Shape.Idx.first hu) + l.sum) (List.map_congr_left fun n _ => ?_)
  exact dite_congr rfl (fun _ => rfl) (fun _ => rfl)

/-- The window of the running sum. -/
def WIN : Shape := ⟨5, ![1, 1, 1, 64, 1]⟩

/-- The window spans sixty-four places. -/
theorem WIN_numel : WIN.numel = 64 := by decide +kernel

/-- A position of the window is its number along the rows. -/
theorem WIN_col (n : Fin WIN.numel) : (WIN.rowMajor.symm n (3 : Fin 5)).val = n.val := by
  have e := congrArg Fin.val (WIN.rowMajor.apply_symm_apply n)
  have r := (Shape.rowMajor_val_five (d := ![1, 1, 1, 64, 1]) (WIN.rowMajor.symm n)).symm.trans e
  have w0 := (WIN.rowMajor.symm n (0 : Fin 5)).isLt
  have w1 := (WIN.rowMajor.symm n (1 : Fin 5)).isLt
  have w2 := (WIN.rowMajor.symm n (2 : Fin 5)).isLt
  have w4 := (WIN.rowMajor.symm n (4 : Fin 5)).isLt
  change _ < 1 at w0 w1 w2 w4
  generalize WIN.rowMajor.symm n = y at *
  change ((((y (0 : Fin 5)).val * 1 + (y (1 : Fin 5)).val) * 1 + (y (2 : Fin 5)).val) * 64 + (y (3 : Fin 5)).val) * 1 + (y (4 : Fin 5)).val = n.val at r
  omega

/-- A window that ends at a row, over a column with nothing before its first row. -/
theorem window_sum (f : ℕ → EReal) (i : ℕ) (hi : i < 64) :
    ∑ w ∈ Finset.range 64, (if 63 ≤ i + w then f (i + w - 63) else 0) = ∑ j ∈ Finset.range (i + 1), f j := by
  have e : 64 = (63 - i) + (i + 1) := by omega
  rw [e, Finset.sum_range_add]
  rw [Finset.sum_eq_zero, zero_add]
  · refine Finset.sum_congr rfl fun j hj => ?_
    rw [if_pos (by omega)]; congr 1; omega
  · intro w hw
    rw [Finset.mem_range] at hw
    rw [if_neg (by omega)]

/-- A column of a chunk as a sequence, zero past its end. -/
def colOf (C : FVec Ideal S4x4x64x64x128 .f32) (b h : Fin 4) (n : Fin 64) (d : Fin 128) (j : ℕ) : EReal :=
  if hj : j < 64 then C (ix5 b h n ⟨j, hj⟩ d) else 0

set_option maxHeartbeats 2000000 in
/-- The running sum at a row is the sum of the rows up to it. -/
theorem GB_apply (Z : FVec Ideal S4x4096x512 .f32) (b h : Fin 4) (q i : Fin 64) (d : Fin 128) :
    GB Z (ix5 b h q i d) = ∑ j ∈ Finset.range (i.val + 1), colOf (GC Z) b h q d j := by
  rw [← window_sum (colOf (GC Z) b h q d) i.val i.isLt]
  have e0 : (∑ w ∈ Finset.range 64, (if 63 ≤ i.val + w then colOf (GC Z) b h q d (i.val + w - 63) else 0))
      = ∑ w : Fin WIN.numel, (if 63 ≤ i.val + w.val then colOf (GC Z) b h q d (i.val + w.val - 63) else 0) := by
    rw [Fin.sum_univ_eq_sum_range (fun w => if 63 ≤ i.val + w then colOf (GC Z) b h q d (i.val + w - 63) else 0), WIN_numel]
  rw [e0, Fin.sum_univ_def]
  unfold GB
  generalize GC Z = C
  refine (reduceWindowAdd_sum (φ := .f32) _ _ _ _ C _ _ h_S_ (ix5 b h q i d) 0 Ideal.ofBits_zero_f32).trans ?_
  rw [zero_add]
  refine congrArg List.sum (List.map_congr_left fun w _ => ?_)
  have w3 := WIN_col w
  have w0 : (WIN.rowMajor.symm w (0 : Fin 5)).val = 0 := by have := (WIN.rowMajor.symm w (0 : Fin 5)).isLt; change _ < 1 at this; omega
  have w1 : (WIN.rowMajor.symm w (1 : Fin 5)).val = 0 := by have := (WIN.rowMajor.symm w (1 : Fin 5)).isLt; change _ < 1 at this; omega
  have w2 : (WIN.rowMajor.symm w (2 : Fin 5)).val = 0 := by have := (WIN.rowMajor.symm w (2 : Fin 5)).isLt; change _ < 1 at this; omega
  have w4 : (WIN.rowMajor.symm w (4 : Fin 5)).val = 0 := by have := (WIN.rowMajor.symm w (4 : Fin 5)).isLt; change _ < 1 at this; omega
  have wl : w.val < 64 := lt_of_lt_of_eq w.isLt WIN_numel
  dsimp only
  by_cases hw : 63 ≤ i.val + w.val
  · rw [if_pos hw, dif_pos (by
      intro a; fin_cases a
      · exact ⟨Nat.zero_le _, by change b.val * 1 + (WIN.rowMajor.symm w (0 : Fin 5)).val - 0 < 4; rw [w0]; omega⟩
      · exact ⟨Nat.zero_le _, by change h.val * 1 + (WIN.rowMajor.symm w (1 : Fin 5)).val - 0 < 4; rw [w1]; omega⟩
      · exact ⟨Nat.zero_le _, by change q.val * 1 + (WIN.rowMajor.symm w (2 : Fin 5)).val - 0 < 64; rw [w2]; omega⟩
      · exact ⟨by change 63 ≤ i.val * 1 + (WIN.rowMajor.symm w (3 : Fin 5)).val; rw [w3]; omega, by change i.val * 1 + (WIN.rowMajor.symm w (3 : Fin 5)).val - 63 < 64; rw [w3]; omega⟩
      · exact ⟨Nat.zero_le _, by change d.val * 1 + (WIN.rowMajor.symm w (4 : Fin 5)).val - 0 < 128; rw [w4]; omega⟩)]
    unfold colOf
    rw [dif_pos (by omega)]
    congr 1
    funext a; fin_cases a
    · exact Fin.ext (by change b.val * 1 + (WIN.rowMajor.symm w (0 : Fin 5)).val - 0 = b.val; rw [w0]; omega)
    · exact Fin.ext (by change h.val * 1 + (WIN.rowMajor.symm w (1 : Fin 5)).val - 0 = h.val; rw [w1]; omega)
    · exact Fin.ext (by change q.val * 1 + (WIN.rowMajor.symm w (2 : Fin 5)).val - 0 = q.val; rw [w2]; omega)
    · exact Fin.ext (by change i.val * 1 + (WIN.rowMajor.symm w (3 : Fin 5)).val - 63 = i.val + w.val - 63; rw [w3]; omega)
    · exact Fin.ext (by change d.val * 1 + (WIN.rowMajor.symm w (4 : Fin 5)).val - 0 = d.val; rw [w4]; omega)
  · rw [if_neg hw, dif_neg (by
      intro hin
      have := (hin (3 : Fin 5)).1
      change 63 ≤ i.val * 1 + (WIN.rowMajor.symm w (3 : Fin 5)).val at this
      rw [w3] at this; omega)]

end Cert.GlaRefIdeal.Value

end
-- ==== Proof.Sigmoid.lean ====
/- The logistic function over the extended reals, written with a hyperbolic tangent. -/
module

public import Idealize.ShloMosaic.Lib.IdealHost

@[expose] public section

noncomputable section

namespace Cert.Sigmoid

open Idealize.ShloMosaic

/-- The word `0x3F000000` is one half. -/
theorem half_f32 : Ideal.ofBits .f32 0x3F000000#32 = ((1 / 2 : ℝ) : EReal) := by
  simp [Ideal.ofBits, Ideal.ieee, -EReal.coe_mul]
  norm_num

/-- On the reals, half the hyperbolic tangent of half the argument plus one half is the logistic function. -/
theorem half_tanh_real (r : ℝ) : 1 / 2 * Real.tanh (1 / 2 * r) + 1 / 2 = 1 * (1 / (1 + Real.exp (-r))) := by
  have e : Real.exp (-r) = Real.exp (-(1 / 2 * r)) * Real.exp (-(1 / 2 * r)) := by
    rw [← Real.exp_add]; ring_nf
  have f : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = u at *
  generalize Real.exp (-(1 / 2 * r)) = v at *
  have : u + v ≠ 0 := by positivity
  have : 1 + v * v ≠ 0 := by positivity
  field_simp
  nlinarith [f]

/-- Half the hyperbolic tangent of half the argument plus one half is the logistic function, the infinities included. -/
theorem half_tanh (x : EReal) : Ideal.ofBits .f32 0x3F000000#32 * Ideal.tanh (Ideal.ofBits .f32 0x3F000000#32 * x) + Ideal.ofBits .f32 0x3F000000#32
    = Ideal.div 1 (1 + Ideal.exp (-x)) := by
  rw [half_f32]
  induction x using EReal.rec with
  | bot =>
    rw [EReal.coe_mul_bot_of_pos (by norm_num)]
    simp only [Ideal.tanh_bot, EReal.neg_bot, Ideal.exp_top]
    rw [EReal.add_top_of_ne_bot (by decide)]
    rw [Ideal.div, if_neg (by decide), EReal.inv_top, mul_zero]
    rw [show (-1 : EReal) = ((-1 : ℝ) : EReal) by simp, ← EReal.coe_mul, ← EReal.coe_add]
    norm_num
  | top =>
    rw [EReal.coe_mul_top_of_pos (by norm_num)]
    simp only [Ideal.tanh_top, EReal.neg_top, Ideal.exp_bot, add_zero]
    rw [Ideal.div, if_neg (by norm_num), mul_one, ← EReal.coe_add]
    norm_num
  | coe r =>
    have p : (1 + Real.exp (-r)) ≠ 0 := by positivity
    rw [← EReal.coe_mul, Ideal.tanh_coe, ← EReal.coe_mul, ← EReal.coe_add, half_tanh_real, ← EReal.coe_neg, Ideal.exp_coe,
      show (1 : EReal) + (Real.exp (-r) : EReal) = ((1 + Real.exp (-r) : ℝ) : EReal) by push_cast; rfl, Ideal.div_coe p, EReal.coe_mul, EReal.coe_one]

/-- The kernel's soft plus and the reference's are one, whatever the argument. -/
theorem softplus_eq (z : EReal) : max z 0 + Ideal.log (1 + Ideal.exp (-(FloatOps.absf (F := Ideal) (φ := .f32) z)))
    = if z ≠ z then z else max z 0 + Ideal.log1p (Ideal.exp (-(FloatOps.absf (F := Ideal) (φ := .f32) z))) := by
  rw [if_neg (by simp)]
  rfl

end Cert.Sigmoid

end
-- ==== Proof.GlaBase.lean ====
/- The call `Gla` at a grid point: what its blocks hold, its log decay and cumulative decay, and the products of a chunk as the reference's. -/
module

public import proofs.«01_k».proof.Proof.GlaUnits
public import proofs.«01_k».proof.Proof.GlaCum
public import proofs.«01_k».proof.Proof.Sigmoid

@[expose] public section

set_option maxRecDepth 16384

noncomputable section

open Idealize.ShloMosaic Idealize.ShloMosaic.TcCoe Idealize.SL.Sem

namespace Cert.GlaRefIdeal.Value

open Cert.GlaRefIdeal Cert.GlaRefIdeal.Gen

/-- The reference's log decay by chunk. -/
theorem GC_at (Z : FVec Ideal S4x4096x512 .f32) (b : Fin 4) (h : Fin 4) (n : Fin 64) (i : Fin 64) (d : Fin 128) : GC Z (ix5 b h n i d) = GLA Z (ix3 b ⟨n.val * 64 + i.val, by omega⟩ ⟨h.val * 128 + d.val, by omega⟩) := by
  pointwise [GC]

/-- The log decay of a gate. -/
def LG (z : Ideal .f32) : Ideal .f32 := Ideal.div (-(max (-z) 0 + Ideal.log1p (Ideal.exp (-(FloatOps.absf (F := Ideal) (φ := .f32) (-z)))))) (Ideal.ofBits .f32 1098907648#32)

/-- The reference's log decay. -/
theorem GLA_at (Z : FVec Ideal S4x4096x512 .f32) (b : Fin 4) (s : Fin 4096) (x : Fin 512) : GLA Z (ix3 b s x) = LG (Z (ix3 b s x)) := by
  have e : GN Z (ix3 b s x) = -Z (ix3 b s x) := by
    pointwise [GN]
  pointwise [GLA]
  rw [e, if_neg (fun h => h rfl)]
  rfl

/-- The reference's gate. -/
theorem GZ_at (X1 : FVec Ideal S4x4096x128 .bf16) (X2 : FVec Ideal S16x512 .f32) (X3 : FVec Ideal S512 .f32) (b : Fin 4) (s : Fin 4096) (x : Fin 512) :
    GZ X1 X2 X3 (ix3 b s x) = ∑ k : Fin 16, X1 (ix3 b s ⟨k.val, by omega⟩) * X2 (ix2 k x) + X3 (ix1 x) := by
  pointwise [GZ]

/-- The reference's decayed query. -/
theorem GQD_at (X0 : FVec Ideal S4x4096x3072 .bf16) (B : FVec Ideal S4x4x64x64x128 .f32) (b : Fin 4) (h : Fin 4) (n : Fin 64) (i : Fin 64) (d : Fin 128) :
    GQD X0 B (ix5 b h n i d) = X0 (ix3 b ⟨n.val * 64 + i.val, by omega⟩ ⟨h.val * 128 + d.val, by omega⟩) * Ideal.ofBits .f32 1035273459#32 * Ideal.exp (B (ix5 b h n i d)) := by
  pointwise [GQD, GQ]

/-- The reference's key. -/
theorem GK_at (X0 : FVec Ideal S4x4096x3072 .bf16) (b : Fin 4) (h : Fin 4) (n : Fin 64) (i : Fin 64) (d : Fin 128) :
    GK X0 (ix5 b h n i d) = X0 (ix3 b ⟨n.val * 64 + i.val, by omega⟩ ⟨512 + (h.val * 128 + d.val), by omega⟩) := by
  pointwise [GK]

/-- The reference's key, its decay taken back. -/
theorem GKD_at (X0 : FVec Ideal S4x4096x3072 .bf16) (B : FVec Ideal S4x4x64x64x128 .f32) (b : Fin 4) (h : Fin 4) (n : Fin 64) (i : Fin 64) (d : Fin 128) :
    GKD X0 B (ix5 b h n i d) = GK X0 (ix5 b h n i d) * Ideal.exp (-B (ix5 b h n i d)) := by
  pointwise [GKD]

/-- The reference's value. -/
theorem GV_at (X0 : FVec Ideal S4x4096x3072 .bf16) (b : Fin 4) (h : Fin 4) (n : Fin 64) (i : Fin 64) (e : Fin 256) :
    GV X0 (ix5 b h n i e) = X0 (ix3 b ⟨n.val * 64 + i.val, by omega⟩ ⟨1024 + (h.val * 256 + e.val), by omega⟩) := by
  pointwise [GV]

/-- The reference's output gate. -/
theorem GR_at (X0 : FVec Ideal S4x4096x3072 .bf16) (b : Fin 4) (s : Fin 4096) (x : Fin 1024) : GR X0 (ix3 b s x) = X0 (ix3 b s ⟨2048 + x.val, by omega⟩) := by
  pointwise [GR]

/-- The reference's decay of a chunk. -/
theorem GD_at (B : FVec Ideal S4x4x64x64x128 .f32) (n : Fin 64) (b : Fin 4) (h : Fin 4) (d : Fin 128) : GD B (ix4 n b h d) = Ideal.exp (B (ix5 b h n 63 d)) := by
  pointwise [GD, GE]

/-- What a chunk adds to the reference's state. -/
theorem GKV_at (X0 : FVec Ideal S4x4096x3072 .bf16) (B : FVec Ideal S4x4x64x64x128 .f32) (n : Fin 64) (b : Fin 4) (h : Fin 4) (d : Fin 128) (e : Fin 256) :
    GKV X0 B (ix5 n b h d e) = ∑ j : Fin 64, GK X0 (ix5 b h n j d) * Ideal.exp (B (ix5 b h n 63 d) - B (ix5 b h n j d)) * GV X0 (ix5 b h n j e) := by
  pointwise [GKV, GE]

/-- The two ways of writing the causal mask. -/
theorem mask_eq (i j : Fin 64) (a : Ideal .f32) :
    Scalar.select (Scalar.select (IntOp.cmpi CmpIPredicate.sge (IntOp.addi (BitVec.ofNat 32 i.val) 0#32) (BitVec.ofNat 32 j.val)) 1#1 0#1) a (0 : Ideal .f32)
      = Scalar.select (IntOp.cmpi CmpIPredicate.sge (BitVec.ofNat 32 i.val) (BitVec.ofNat 32 j.val)) a 0 := by
  have e : IntOp.addi (BitVec.ofNat 32 i.val) 0#32 = BitVec.ofNat 32 i.val := BitVec.add_zero _
  rw [e]
  generalize IntOp.cmpi CmpIPredicate.sge (BitVec.ofNat 32 i.val) (BitVec.ofNat 32 j.val) = b
  have f : Scalar.select b 1#1 0#1 = b := by
    revert b; decide
  rw [f]

/-- The reference's product within a chunk. -/
theorem GOI_at (X0 : FVec Ideal S4x4096x3072 .bf16) (B : FVec Ideal S4x4x64x64x128 .f32) (b : Fin 4) (h : Fin 4) (n : Fin 64) (i : Fin 64) (e : Fin 256) :
    GOI X0 B (ix5 b h n i e) = ∑ j : Fin 64, Scalar.select (IntOp.cmpi CmpIPredicate.sge (BitVec.ofNat 32 i.val) (BitVec.ofNat 32 j.val))
      ((∑ d : Fin 128, GQD X0 B (ix5 b h n i d) * GKD X0 B (ix5 b h n j d)) * GV X0 (ix5 b h n j e)) 0 := by
  simp only [← mask_eq]
  pointwise [GOI, GM]

/-- The reference's product with the state. -/
theorem GO_at (QD : FVec Ideal S4x4x64x64x128 .f32) (OI : FVec Ideal S4x4x64x64x256 .f32) (C : FVec Ideal S64x4x4x128x256 .f32) (b : Fin 4) (s : Fin 4096) (h : Fin 4) (e : Fin 256) :
    GO QD OI C (ix4 b s h e) = OI (ix5 b h ⟨s.val / 64, by omega⟩ ⟨s.val % 64, by omega⟩ e) + ∑ d : Fin 128, QD (ix5 b h ⟨s.val / 64, by omega⟩ ⟨s.val % 64, by omega⟩ d) * C (ix5 ⟨s.val / 64, by omega⟩ b h d e) := by
  pointwise [GO]

/-- The reference's result. -/
theorem GOUT_at (O : FVec Ideal S4x4096x4x256 .f32) (R : FVec Ideal S4x4096x1024 .f32) (X4 : FVec Ideal S256 .f32) (b : Fin 4) (s : Fin 4096) (x : Fin 1024) :
    GOUT O R X4 (ix3 b s x) = O (ix4 b s ⟨x.val / 256, by omega⟩ ⟨x.val % 256, by omega⟩) * Ideal.rsqrt (Ideal.div (∑ y : Fin 256, O (ix4 b s ⟨x.val / 256, by omega⟩ y) * O (ix4 b s ⟨x.val / 256, by omega⟩ y)) (Ideal.ofBits .f32 1132462080#32) + Ideal.ofBits .f32 925353388#32)
      * X4 (ix1 ⟨x.val % 256, by omega⟩) * (R (ix3 b s x) * Ideal.div 1 (1 + Ideal.exp (-R (ix3 b s x)))) := by
  pointwise [GOUT, GNORM, GSILU]

/-- The kernel's way of writing the log decay. -/
theorem gate_eq (z : Ideal .f32) :
    (0 - (max (0 - z) 0 + Ideal.log (1 + Ideal.exp (0 - FloatOps.absf (F := Ideal) (φ := .f32) (0 - z))))) * Ideal.ofBits .f32 1031798784#32 = LG z := by
  have h1 : Ideal.ofBits .f32 1031798784#32 = ((1 / 16 : ℝ) : EReal) := by
    simp [Ideal.ofBits, Ideal.ieee, -EReal.coe_mul]
    norm_num
  have h2 : Ideal.ofBits .f32 1098907648#32 = ((16 : ℝ) : EReal) := by
    simp [Ideal.ofBits, Ideal.ieee, -EReal.coe_mul]
    norm_num
  unfold LG
  rw [h1, h2, Ideal.div_coe (by norm_num)]
  simp only [zero_sub]
  rfl

end Cert.GlaRefIdeal.Value

namespace Cert.GlaIdeal.Value

open Cert.GlaIdeal Cert.GlaIdeal.Gen
open Idealize.ShloMosaic.Pipeline (Dat)
open Cert.GlaRefIdeal.Value (GZ GLA GC GB GQ GK GV GR GQD GKD GOI GKV GD GO GOUT LG stK coK GREF colOf)

variable (m : (ℓ : Loc nD τ sig) → Buf (Elt Ideal) ℓ) (c : Dev nD)

/-- The block each window holds at a grid point. -/
theorem idx_at : ∀ t : Fin cfg0.N, win0_0.index t = ![t.val / 16, t.val % 8, t.val / 8 % 2] ∧ win0_1.index t = ![t.val / 16, t.val % 8, 2 + t.val / 8 % 2]
    ∧ win0_2.index t = ![t.val / 16, t.val % 8, 2 + t.val / 8 % 2] ∧ win0_3.index t = ![t.val / 16, t.val % 8, 4 + t.val / 8 % 2]
    ∧ win0_4.index t = ![t.val / 16, t.val % 8, 0] ∧ win0_5.index t = ![0, t.val / 8 % 2] ∧ win0_6.index t = ![0, t.val / 8 % 2]
    ∧ win0_7.index t = ![0, 0] ∧ win0_8.index t = ![t.val / 16, t.val % 8, t.val / 8 % 2] :=
  (by decide +kernel : ∀ t : Fin grid0.N, _)

/-- The sequence of a grid point. -/
abbrev tB (t : Fin cfg0.N) : Fin 4 := ⟨t.val / 16, by have ht : t.val < 64 := lt_of_lt_of_eq t.isLt N_0; omega⟩

/-- The token of a row of a grid point's block. -/
abbrev tR (t : Fin cfg0.N) (r : Fin 512) : Fin 4096 := ⟨t.val % 8 * 512 + r.val, by omega⟩

/-- The query block. -/
theorem in0 (t : Fin cfg0.N) (r : Fin 512) (x : Fin 256) : iblk m c 0 t (ix3 0 r x) = m ((c : Thread nD τ).loc main_arg0) (ix3 (tB t) (tR t r) ⟨t.val / 8 % 2 * 256 + x.val, by omega⟩) := by
  blk_point [iblk, V, idx_at t]

/-- The key block. -/
theorem in1 (t : Fin cfg0.N) (r : Fin 512) (x : Fin 256) : iblk m c 1 t (ix3 0 r x) = m ((c : Thread nD τ).loc main_arg0) (ix3 (tB t) (tR t r) ⟨(2 + t.val / 8 % 2) * 256 + x.val, by omega⟩) := by
  blk_point [iblk, V, idx_at t]

/-- The value block. -/
theorem in2 (t : Fin cfg0.N) (r : Fin 512) (x : Fin 512) : iblk m c 2 t (ix3 0 r x) = m ((c : Thread nD τ).loc main_arg0) (ix3 (tB t) (tR t r) ⟨(2 + t.val / 8 % 2) * 512 + x.val, by omega⟩) := by
  blk_point [iblk, V, idx_at t]

/-- The gate block. -/
theorem in3 (t : Fin cfg0.N) (r : Fin 512) (x : Fin 512) : iblk m c 3 t (ix3 0 r x) = m ((c : Thread nD τ).loc main_arg0) (ix3 (tB t) (tR t r) ⟨(4 + t.val / 8 % 2) * 512 + x.val, by omega⟩) := by
  blk_point [iblk, V, idx_at t]

/-- The block of the low-rank gate input. -/
theorem in4 (t : Fin cfg0.N) (r : Fin 512) (x : Fin 128) : iblk m c 4 t (ix3 0 r x) = m ((c : Thread nD τ).loc main_arg1) (ix3 (tB t) (tR t r) x) := by
  blk_point [iblk, V, idx_at t]

/-- The weight the call is given. -/
theorem V_w : V m c main_v1 = (truncf .bf16 (pad S128x512 ![0, 0] ![112, 0] ![0, 0] (m ((c : Thread nD τ).loc main_arg2)) (sitofp .f32 (constantI S_ 32 0#32)) pads_S16x512_S128x512_01120_000 h_S_) bitsLt_bf16_f32 : FVec Ideal S128x512 .bf16) := by
  unfold V
  simp only [List.flatten_cons, List.flatten_nil, List.append_nil, List.cons_append, List.nil_append]
  after_reads_simp
  rfl

/-- The bias the call is given. -/
theorem V_b : V m c main_v2 = (shapeCast S1x512 (m ((c : Thread nD τ).loc main_arg3)) shapeCasts_S512_S1x512 : FVec Ideal S1x512 .f32) := by
  unfold V
  simp only [List.flatten_cons, List.flatten_nil, List.append_nil, List.cons_append, List.nil_append]
  after_reads_simp
  rfl

/-- The scale the call is given. -/
theorem V_g : V m c main_v3 = (shapeCast S1x256 (m ((c : Thread nD τ).loc main_arg4)) shapeCasts_S256_S1x256 : FVec Ideal S1x256 .f32) := by
  unfold V
  simp only [List.flatten_cons, List.flatten_nil, List.append_nil, List.cons_append, List.nil_append]
  after_reads_simp
  rfl

/-- Where the weight's block lies. -/
theorem emb5 (t : Fin cfg0.N) (k : Fin 128) (x : Fin 256) : (win0_5.blk t).view.emb (ix2 k x) = ix2 k ⟨t.val / 8 % 2 * 256 + x.val, by omega⟩ := by
  blk_ext [idx_at t]

/-- Where the bias's block lies. -/
theorem emb6 (t : Fin cfg0.N) (x : Fin 256) : (win0_6.blk t).view.emb (ix2 0 x) = ix2 0 ⟨t.val / 8 % 2 * 256 + x.val, by omega⟩ := by
  blk_ext [idx_at t]

/-- Where the scale's block lies. -/
theorem emb7 (t : Fin cfg0.N) (x : Fin 256) : (win0_7.blk t).view.emb (ix2 0 x) = ix2 0 x := by
  blk_ext [idx_at t]

/-- The block of the gate bias. -/
theorem in6 (t : Fin cfg0.N) (x : Fin 256) : iblk m c 6 t (ix2 0 x) = m ((c : Thread nD τ).loc main_arg3) (ix1 ⟨t.val / 8 % 2 * 256 + x.val, by omega⟩) := by
  refine Eq.trans (b := V m c main_v2 ((win0_6.blk t).view.emb (ix2 0 x))) rfl ?_
  rw [emb6, V_b]
  pointwise

/-- The norm's scale. -/
theorem in7 (t : Fin cfg0.N) (x : Fin 256) : iblk m c 7 t (ix2 0 x) = m ((c : Thread nD τ).loc main_arg4) (ix1 x) := by
  refine Eq.trans (b := V m c main_v3 ((win0_7.blk t).view.emb (ix2 0 x))) rfl ?_
  rw [emb7, V_g]
  pointwise

/-- The padding is zero. -/
theorem pad_zero : (FloatOps.sitofp FTy.f32 0#32 : Ideal .f32) = 0 := by
  show ((((0#32 : BitVec 32).toInt : ℝ)) : EReal) = 0
  simp

/-- The weight with zero rows below. -/
def WP (w : FVec Ideal S16x512 .f32) (k : Fin 128) (x : Fin 512) : Ideal .f32 := if h : k.val < 16 then w (ix2 ⟨k.val, h⟩ x) else 0

/-- The block of the low-rank gate weight. -/
theorem in5 (t : Fin cfg0.N) (k : Fin 128) (x : Fin 256) : iblk m c 5 t (ix2 k x) = WP (m ((c : Thread nD τ).loc main_arg2)) k ⟨t.val / 8 % 2 * 256 + x.val, by omega⟩ := by
  refine Eq.trans (b := V m c main_v1 ((win0_5.blk t).view.emb (ix2 k x))) rfl ?_
  rw [emb5, V_w]
  pointwise
  unfold WP
  by_cases hk : k.val < 16
  · rw [dif_pos hk, dif_pos]
    intro a
    fin_cases a
    · exact ⟨Nat.zero_le _, Nat.mod_one _, by simpa using hk⟩
    · exact ⟨Nat.zero_le _, Nat.mod_one _, by simp; omega⟩
  · rw [dif_neg hk, dif_neg (fun h => hk (by simpa using (h 0).2.2))]
    exact pad_zero

/-- A sum with zero terms from the seventeenth on. -/
theorem sum_pad (a : Fin 128 → Ideal .f32) (w : FVec Ideal S16x512 .f32) (x : Fin 512) : ∑ k : Fin 128, a k * WP w k x = ∑ k : Fin 16, a ⟨k.val, by omega⟩ * w (ix2 k x) := by
  have z : ∀ k : Fin 112, a (Fin.natAdd 16 k) * WP w (Fin.natAdd 16 k) x = 0 := fun k => by
    have e : WP w (Fin.natAdd 16 k) x = 0 := dif_neg (Nat.not_lt.mpr (Nat.le_add_right 16 k.val))
    rw [e]
    exact mul_zero (M₀ := EReal) _
  have p : ∀ k : Fin 16, a (Fin.castAdd 112 k) * WP w (Fin.castAdd 112 k) x = a ⟨k.val, by omega⟩ * w (ix2 k x) := fun k => by
    have e : WP w (Fin.castAdd 112 k) x = w (ix2 k x) := dif_pos k.isLt
    rw [e]
    rfl
  refine (Fin.sum_univ_add (M := EReal) (a := 16) (b := 112) _).trans ?_
  rw [Finset.sum_eq_zero fun k _ => z k]
  exact (add_zero (M := EReal) _).trans (Finset.sum_congr rfl fun k _ => p k)

/-- The reference's gate over this call's arrays. -/
def ZR : FVec Ideal Cert.GlaRefIdeal.S4x4096x512 .f32 := GZ (m ((c : Thread nD τ).loc main_arg1)) (m ((c : Thread nD τ).loc main_arg2)) (m ((c : Thread nD τ).loc main_arg3))

/-- The array of queries, keys, values and gates. -/
def XR : FVec Ideal Cert.GlaRefIdeal.S4x4096x3072 .bf16 := m ((c : Thread nD τ).loc main_arg0)

/-- The reference's cumulative log decay. -/
def BR : FVec Ideal Cert.GlaRefIdeal.S4x4x64x64x128 .f32 := GB (ZR m c)

/-- The log decay of a grid point. -/
def AX (t : Fin cfg0.N) : FVec Ideal S512x256 .f32 := k0_pay3 (iblk m c 4 t) (iblk m c 5 t) (iblk m c 6 t)

/-- The log decay before its blocks are read. -/
theorem pay3_at (za : Vec Ideal S1x512x128 .bf16) (w : Vec Ideal S128x256 .bf16) (bb : Vec Ideal S1x256 .f32) (r : Fin 512) (x : Fin 256) :
    k0_pay3 za w bb (ix2 r x) = LG (∑ k : Fin 128, za (ix3 0 r k) * w (ix2 k x) + bb (ix2 0 x)) := by
  rw [← Cert.GlaRefIdeal.Value.gate_eq]
  pointwise [k0_pay3]

/-- The log decay is the reference's. -/
theorem AX_at (t : Fin cfg0.N) (r : Fin 512) (x : Fin 256) : AX m c t (ix2 r x) = GLA (ZR m c) (ix3 (tB t) (tR t r) ⟨t.val / 8 % 2 * 256 + x.val, by omega⟩) := by
  unfold AX
  rw [pay3_at, Cert.GlaRefIdeal.Value.GLA_at, ZR, Cert.GlaRefIdeal.Value.GZ_at]
  simp only [in4, in5, in6]
  rw [sum_pad]

/-- The head of a grid point's first or second half. -/
abbrev tH (t : Fin cfg0.N) (u : Fin 2) : Fin 4 := ⟨t.val / 8 % 2 * 2 + u.val, by omega⟩

/-- The chunk of a grid point's block. -/
abbrev tN (t : Fin cfg0.N) (n : Fin 8) : Fin 64 := ⟨t.val % 8 * 8 + n.val, by omega⟩

/-- The cumulative log decay is the reference's. -/
theorem CUM_at (t : Fin cfg0.N) (n : Fin 8) (u : Fin 2) (r : Fin 512) (x : Fin 256) (i : Fin 64) (d : Fin 128) (hr : r.val = 64 * n.val + i.val) (hx : x.val = 128 * u.val + d.val) :
    CUM (AX m c t) (ix2 r x) = BR m c (ix5 (tB t) (tH t u) (tN t n) i d) := by
  rw [cum_at, BR, Cert.GlaRefIdeal.Value.GB_apply, show r.val % 64 = i.val by omega, show r.val / 64 = n.val by omega]
  refine Finset.sum_congr rfl fun j hj => ?_
  have hj' : j < 64 := by have := Finset.mem_range.mp hj; omega
  rw [col, dif_pos (show 64 * n.val + j < 512 by omega), colOf, dif_pos hj', AX_at, Cert.GlaRefIdeal.Value.GC_at]
  exact congrArg _ (congr (congrArg _ (Fin.ext (by show t.val % 8 * 512 + (64 * n.val + j) = (t.val % 8 * 8 + n.val) * 64 + j; omega)))
    (Fin.ext (by show t.val / 8 % 2 * 256 + x.val = (t.val / 8 % 2 * 2 + u.val) * 128 + d.val; omega)))

/-- Equal coordinates read the same element. -/
theorem XR_congr (b : Fin 4) (s s' : Fin 4096) (x x' : Fin 3072) (hs : s.val = s'.val) (hx : x.val = x'.val) : XR m c (ix3 b s x) = XR m c (ix3 b s' x') := by
  rw [Fin.ext hs, Fin.ext hx]

/-- The key of a chunk. -/
theorem key_at (t : Fin cfg0.N) (n : Fin 8) (u : Fin 2) (r : Fin 512) (x : Fin 256) (i : Fin 64) (d : Fin 128) (hr : r.val = 64 * n.val + i.val) (hx : x.val = 128 * u.val + d.val) :
    iblk m c 1 t (ix3 0 r x) = GK (XR m c) (ix5 (tB t) (tH t u) (tN t n) i d) := by
  rw [in1, Cert.GlaRefIdeal.Value.GK_at]
  exact XR_congr m c _ _ _ _ _ (by show t.val % 8 * 512 + r.val = (t.val % 8 * 8 + n.val) * 64 + i.val; omega) (by show (2 + t.val / 8 % 2) * 256 + x.val = 512 + ((t.val / 8 % 2 * 2 + u.val) * 128 + d.val); omega)

/-- The value of a chunk. -/
theorem value_at (t : Fin cfg0.N) (n : Fin 8) (u : Fin 2) (r : Fin 512) (x : Fin 512) (i : Fin 64) (e : Fin 256) (hr : r.val = 64 * n.val + i.val) (hx : x.val = 256 * u.val + e.val) :
    iblk m c 2 t (ix3 0 r x) = GV (XR m c) (ix5 (tB t) (tH t u) (tN t n) i e) := by
  rw [in2, Cert.GlaRefIdeal.Value.GV_at]
  exact XR_congr m c _ _ _ _ _ (by show t.val % 8 * 512 + r.val = (t.val % 8 * 8 + n.val) * 64 + i.val; omega) (by show (2 + t.val / 8 % 2) * 512 + x.val = 1024 + ((t.val / 8 % 2 * 2 + u.val) * 256 + e.val); omega)

/-- The decayed query before its blocks are read. -/
theorem CQ_at (A : FVec Ideal S512x256 .f32) (q : Vec Ideal S1x512x256 .bf16) (r : Fin 512) (x : Fin 256) :
    CQ A q (ix2 r x) = q (ix3 0 r x) * Ideal.ofBits .f32 1035273459#32 * Ideal.exp (CUM A (ix2 r x)) := by
  unfold CQ
  pointwise [k0_pay9]
  rfl

/-- The key, its decay taken back, before its blocks are read. -/
theorem CK_at (A : FVec Ideal S512x256 .f32) (k : Vec Ideal S1x512x256 .bf16) (r : Fin 512) (x : Fin 256) :
    CK A k (ix2 r x) = k (ix3 0 r x) * Ideal.exp (0 - CUM A (ix2 r x)) := by
  unfold CK
  pointwise [k0_pay10, k0_pay8]
  rfl

/-- The decayed query is the reference's. -/
theorem query_at (t : Fin cfg0.N) (n : Fin 8) (u : Fin 2) (r : Fin 512) (x : Fin 256) (i : Fin 64) (d : Fin 128) (hr : r.val = 64 * n.val + i.val) (hx : x.val = 128 * u.val + d.val) :
    CQ (AX m c t) (iblk m c 0 t) (ix2 r x) = GQD (XR m c) (BR m c) (ix5 (tB t) (tH t u) (tN t n) i d) := by
  rw [CQ_at, CUM_at m c t n u r x i d hr hx, Cert.GlaRefIdeal.Value.GQD_at, in0]
  refine congrArg (· * _ * _) ?_
  exact XR_congr m c _ _ _ _ _ (by show t.val % 8 * 512 + r.val = (t.val % 8 * 8 + n.val) * 64 + i.val; omega) (by show t.val / 8 % 2 * 256 + x.val = (t.val / 8 % 2 * 2 + u.val) * 128 + d.val; omega)

/-- The key, its decay taken back, is the reference's. -/
theorem unkey_at (t : Fin cfg0.N) (n : Fin 8) (u : Fin 2) (r : Fin 512) (x : Fin 256) (i : Fin 64) (d : Fin 128) (hr : r.val = 64 * n.val + i.val) (hx : x.val = 128 * u.val + d.val) :
    CK (AX m c t) (iblk m c 1 t) (ix2 r x) = GKD (XR m c) (BR m c) (ix5 (tB t) (tH t u) (tN t n) i d) := by
  rw [CK_at, CUM_at m c t n u r x i d hr hx, Cert.GlaRefIdeal.Value.GKD_at, key_at m c t n u r x i d hr hx, zero_sub]

/-- What a chunk adds to the state is what it adds to the reference's. -/
theorem add_at (t : Fin cfg0.N) (n : Fin 8) (u : Fin 2) (rw : Fin 64 → Fin 512) (x : Fin 256) (y : Fin 512) (d : Fin 128) (e : Fin 256) (hr : ∀ i, (rw i).val = 64 * n.val + i.val) (hx : x.val = 128 * u.val + d.val) (hy : y.val = 256 * u.val + e.val)
    (k : Vec Ideal S1x512x256 .bf16) (v : Vec Ideal S1x512x512 .bf16) (hk : k = iblk m c 1 t) (hv : v = iblk m c 2 t) :
    ∑ j : Fin 64, v (ix3 0 (rw j) y) * (k (ix3 0 (rw j) x) * Ideal.exp (CUM (AX m c t) (ix2 (rw 63) x) - CUM (AX m c t) (ix2 (rw j) x)))
      = GKV (XR m c) (BR m c) (ix5 (tN t n) (tB t) (tH t u) d e) := by
  rw [Cert.GlaRefIdeal.Value.GKV_at]
  refine Finset.sum_congr rfl fun j _ => ?_
  rw [CUM_at m c t n u (rw 63) x 63 d (hr 63) hx, CUM_at m c t n u (rw j) x j d (hr j) hx, hk, hv, key_at m c t n u (rw j) x j d (hr j) hx, value_at m c t n u (rw j) y j e (hr j) hy]
  exact mul_comm _ _

/-- The reference's state before a chunk. -/
def SR (k : ℕ) (b h : Fin 4) (d : Fin 128) (e : Fin 256) : Ideal .f32 := stK (GKV (XR m c) (BR m c)) (GD (BR m c)) k (ix4 b h d e)

/-- A chunk carries the reference's state on. -/
theorem SR_step (t : Fin cfg0.N) (n : Fin 8) (u : Fin 2) (k : ℕ) (hk : k = t.val % 8 * 8 + n.val + 1) (x : Fin 256) (r : Fin 512) (d : Fin 128) (e : Fin 256) (hr : r.val = 64 * n.val + 63) (hx : x.val = 128 * u.val + d.val) (f kv : Ideal .f32)
    (hf : f = SR m c (t.val % 8 * 8 + n.val) (tB t) (tH t u) d e) (hkv : kv = GKV (XR m c) (BR m c) (ix5 (tN t n) (tB t) (tH t u) d e)) :
    f * Ideal.exp (CUM (AX m c t) (ix2 r x)) + kv = SR m c k (tB t) (tH t u) d e := by
  rw [hf, hkv, hk, CUM_at m c t n u r x 63 d hr hx]
  unfold SR
  refine Eq.trans ?_ (Cert.GlaRefIdeal.Value.stK_succ _ _ (tN t n) (tB t) (tH t u) d e).symm
  rw [Cert.GlaRefIdeal.Value.GD_at]

/-- The reference's result before its norm. -/
def OR : FVec Ideal Cert.GlaRefIdeal.S4x4096x4x256 .f32 := GO (GQD (XR m c) (BR m c)) (GOI (XR m c) (BR m c)) (coK (GKV (XR m c) (BR m c)) (GD (BR m c)) 64)

/-- A chunk's result before its norm is the reference's. -/
theorem out_at (t : Fin cfg0.N) (n : Fin 8) (u : Fin 2) (rw : Fin 64 → Fin 512) (cx : Fin 128 → Fin 256) (y : Fin 512) (i : Fin 64) (e : Fin 256) (f : Fin 128 → Ideal .f32)
    (hr : ∀ i, (rw i).val = 64 * n.val + i.val) (hx : ∀ d, (cx d).val = 128 * u.val + d.val) (hy : y.val = 256 * u.val + e.val) (hf : ∀ d, f d = SR m c (t.val % 8 * 8 + n.val) (tB t) (tH t u) d e) :
    (∑ j : Fin 64, Scalar.select (tri i j) ((∑ d : Fin 128, CQ (AX m c t) (iblk m c 0 t) (ix2 (rw i) (cx d)) * CK (AX m c t) (iblk m c 1 t) (ix2 (rw j) (cx d))) * iblk m c 2 t (ix3 0 (rw j) y)) (0 : Ideal .f32))
      + ∑ d : Fin 128, CQ (AX m c t) (iblk m c 0 t) (ix2 (rw i) (cx d)) * f d = OR m c (ix4 (tB t) (tR t (rw i)) (tH t u) e) := by
  have hs : (tR t (rw i)).val = (t.val % 8 * 8 + n.val) * 64 + i.val := by show t.val % 8 * 512 + (rw i).val = _; rw [hr]; omega
  have e1 : (⟨(tR t (rw i)).val / 64, by omega⟩ : Fin 64) = tN t n := Fin.ext (by show (tR t (rw i)).val / 64 = t.val % 8 * 8 + n.val; omega)
  have e2 : (⟨(tR t (rw i)).val % 64, by omega⟩ : Fin 64) = i := Fin.ext (by show (tR t (rw i)).val % 64 = _; omega)
  rw [OR, Cert.GlaRefIdeal.Value.GO_at, e1, e2, Cert.GlaRefIdeal.Value.GOI_at]
  refine congr (congrArg _ (Finset.sum_congr rfl fun j _ => ?_)) (Finset.sum_congr rfl fun d _ => ?_)
  · rw [value_at m c t n u (rw j) y j e (hr j) hy]
    refine congrArg (fun a => Scalar.select (tri i j) (a * _) 0) (Finset.sum_congr rfl fun d _ => ?_)
    rw [query_at m c t n u (rw i) (cx d) i d (hr i) (hx d), unkey_at m c t n u (rw j) (cx d) j d (hr j) (hx d)]
  · rw [query_at m c t n u (rw i) (cx d) i d (hr i) (hx d), hf, SR, Cert.GlaRefIdeal.Value.coK_apply _ _ _ _ _ _ _ _ le_rfl (tN t n).isLt]

/-- A chunk's piece is the reference's result. -/
theorem piece_at (t : Fin cfg0.N) (u : Fin 2) (r : Fin 512) (y : Fin 512) (e : Fin 256) (o : Fin 256 → Ideal .f32) (hy : y.val = 256 * u.val + e.val) (ho : ∀ e, o e = OR m c (ix4 (tB t) (tR t r) (tH t u) e)) :
    PV o (iblk m c 3 t (ix3 0 r y)) (iblk m c 7 t (ix2 0 e)) e = GOUT (OR m c) (GR (XR m c)) (m ((c : Thread nD τ).loc main_arg4)) (ix3 (tB t) (tR t r) ⟨t.val / 8 % 2 * 512 + y.val, by omega⟩) := by
  have e1 : (⟨(t.val / 8 % 2 * 512 + y.val) / 256, by omega⟩ : Fin 4) = tH t u := Fin.ext (by show (t.val / 8 % 2 * 512 + y.val) / 256 = t.val / 8 % 2 * 2 + u.val; omega)
  have e2 : (⟨(t.val / 8 % 2 * 512 + y.val) % 256, by omega⟩ : Fin 256) = e := Fin.ext (by show (t.val / 8 % 2 * 512 + y.val) % 256 = _; omega)
  rw [Cert.GlaRefIdeal.Value.GOUT_at, e1, e2, Cert.GlaRefIdeal.Value.GR_at, ← Cert.Sigmoid.half_tanh, in7, in3, PV]
  simp only [ho]
  rw [show m ((c : Thread nD τ).loc main_arg0) (ix3 (tB t) (tR t r) ⟨(4 + t.val / 8 % 2) * 512 + y.val, by omega⟩) = XR m c (ix3 (tB t) (tR t r) ⟨2048 + (t.val / 8 % 2 * 512 + y.val), by omega⟩) from
    XR_congr m c _ _ _ _ _ rfl (by show (4 + t.val / 8 % 2) * 512 + y.val = 2048 + (t.val / 8 % 2 * 512 + y.val); omega)]

end Cert.GlaIdeal.Value
end
-- ==== Proof.GlaStep.lean ====
/- What a grid point of the call `Gla` stores, as pieces: the state it leaves and the block of the result. -/
module

public import proofs.«01_k».proof.Proof.GlaBase
public import Idealize.ShloMosaic.Lib.Pipeline.ReadBack
public import Idealize.ShloMosaic.Lib.Pipeline.ValueKit

@[expose] public section

set_option maxRecDepth 16384

noncomputable section

namespace Cert.GlaIdeal.Value

open Cert.GlaIdeal Cert.GlaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Stores that cover an index hide the earlier stores there. -/
theorem canon_drop {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, h => absurd h (by simp)
  | p :: L, y, h => by
    by_cases hy : y ∈ p.1.set
    · obtain ⟨x, rfl⟩ := p.1.exists_idx_of_mem hy
      exact (View.canon_cons_emb p.1 p.2 _ x).trans (View.canon_cons_emb p.1 p.2 _ x).symm
    · rw [List.cons_append, View.canon_cons_of_not_mem _ _ hy, View.canon_cons_of_not_mem _ _ hy]
      refine canon_drop L' L y ?_
      obtain ⟨q, hq, hm⟩ := h
      rcases List.mem_cons.mp hq with rfl | hq
      · exact absurd hm hy
      · exact ⟨q, hq, hm⟩

/-- The two stores of the state a point leaves. -/
def STP (A : FVec Ideal S512x256 .f32) (k : Vec Ideal S1x512x256 .bf16) (v : Vec Ideal S1x512x512 .bf16) (S : Vec Ideal S2x256x128 .f32) : List (View.Piece (Elt Ideal) S2x256x128 .f32) :=
  [⟨Rect.unit (s := S2x256x128) ![1, 0, 0] ![1, 256, 128] inb_S2x256x128_S1x256x128_1_0_0, SL1 A k v S⟩, ⟨Rect.unit (s := S2x256x128) ![0, 0, 0] ![1, 256, 128] inb_S2x256x128_S1x256x128_0_0_0, SL0 A k v S⟩]

/-- The sixteen stores of the block of the result. -/
def OTP (A : FVec Ideal S512x256 .f32) (q k : Vec Ideal S1x512x256 .bf16) (v r : Vec Ideal S1x512x512 .bf16) (g : Vec Ideal S1x256 .f32) (S : Vec Ideal S2x256x128 .f32) : List (View.Piece (Elt Ideal) S1x512x512 .bf16) :=
  [⟨Rect.unit (s := S1x512x512) ![0, 448, 256] ![1, 64, 256] inb_S1x512x512_S1x64x256_0_448_256, PC71 A q k v r g S⟩,
    ⟨Rect.unit (s := S1x512x512) ![0, 384, 256] ![1, 64, 256] inb_S1x512x512_S1x64x256_0_384_256, PC61 A q k v r g S⟩,
    ⟨Rect.unit (s := S1x512x512) ![0, 320, 256] ![1, 64, 256] inb_S1x512x512_S1x64x256_0_320_256, PC51 A q k v r g S⟩,
    ⟨Rect.unit (s := S1x512x512) ![0, 256, 256] ![1, 64, 256] inb_S1x512x512_S1x64x256_0_256_256, PC41 A q k v r g S⟩,
    ⟨Rect.unit (s := S1x512x512) ![0, 192, 256] ![1, 64, 256] inb_S1x512x512_S1x64x256_0_192_256, PC31 A q k v r g S⟩,
    ⟨Rect.unit (s := S1x512x512) ![0, 128, 256] ![1, 64, 256] inb_S1x512x512_S1x64x256_0_128_256, PC21 A q k v r g S⟩,
    ⟨Rect.unit (s := S1x512x512) ![0, 64, 256] ![1, 64, 256] inb_S1x512x512_S1x64x256_0_64_256, PC11 A q k v r g S⟩,
    ⟨Rect.unit (s := S1x512x512) ![0, 0, 256] ![1, 64, 256] inb_S1x512x512_S1x64x256_0_0_256, PC01 A q k v r g S⟩,
    ⟨Rect.unit (s := S1x512x512) ![0, 448, 0] ![1, 64, 256] inb_S1x512x512_S1x64x256_0_448_0, PC70 A q k v r g S⟩,
    ⟨Rect.unit (s := S1x512x512) ![0, 384, 0] ![1, 64, 256] inb_S1x512x512_S1x64x256_0_384_0, PC60 A q k v r g S⟩,
    ⟨Rect.unit (s := S1x512x512) ![0, 320, 0] ![1, 64, 256] inb_S1x512x512_S1x64x256_0_320_0, PC50 A q k v r g S⟩,
    ⟨Rect.unit (s := S1x512x512) ![0, 256, 0] ![1, 64, 256] inb_S1x512x512_S1x64x256_0_256_0, PC40 A q k v r g S⟩,
    ⟨Rect.unit (s := S1x512x512) ![0, 192, 0] ![1, 64, 256] inb_S1x512x512_S1x64x256_0_192_0, PC30 A q k v r g S⟩,
    ⟨Rect.unit (s := S1x512x512) ![0, 128, 0] ![1, 64, 256] inb_S1x512x512_S1x64x256_0_128_0, PC20 A q k v r g S⟩,
    ⟨Rect.unit (s := S1x512x512) ![0, 64, 0] ![1, 64, 256] inb_S1x512x512_S1x64x256_0_64_0, PC10 A q k v r g S⟩,
    ⟨Rect.unit (s := S1x512x512) ![0, 0, 0] ![1, 64, 256] inb_S1x512x512_S1x64x256_0_0_0, PC00 A q k v r g S⟩]

/-- The state the first point of a sequence leaves. -/
theorem st_first (t : Fin cfg0.N) (h0 : t.val % 8 = 0) (y : S2x256x128.Idx) : (outsAt0 m c t.val t.isLt).2 y = View.canon (STP (AX m c t) (iblk m c 1 t) (iblk m c 2 t) (k0_pay1 (F := Ideal))) y := by
  rw [outsAt0_A m c t h0]
  dsimp only
  unfold sout0_A_0
  frame_open
  frame_out
  simp (disch := decide) only [↓ View.readCov_skip, ↓ View.readCov_fill]
  refine (canon_drop [_] [_, _] y (View.cover_of_tiledL _ ![1, 256, 128] (by sl_kernel_rfl) y)).trans ?_
  rfl

/-- The state a later point leaves. -/
theorem st_later (t : Fin cfg0.N) (h0 : ¬t.val % 8 = 0) (y : S2x256x128.Idx) : (outsAt0 m c t.val t.isLt).2 y = View.canon (STP (AX m c t) (iblk m c 1 t) (iblk m c 2 t) (outsAt0 m c (t.val - 1) (lt_of_le_of_lt (Nat.sub_le _ _) t.isLt)).2) y := by
  rw [outsAt0_B m c t h0]
  dsimp only
  unfold sout0_B_0
  frame_open
  frame_out
  simp only [read_unread_whole]
  rfl

/-- The block the first point of a sequence stores. -/
theorem ot_first (t : Fin cfg0.N) (h0 : t.val % 8 = 0) (y : S1x512x512.Idx) : (outsAt0 m c t.val t.isLt).1 y = View.canon (OTP (AX m c t) (iblk m c 0 t) (iblk m c 1 t) (iblk m c 2 t) (iblk m c 3 t) (iblk m c 7 t) (k0_pay1 (F := Ideal))) y := by
  rw [outsAt0_A m c t h0]
  dsimp only
  unfold out0_A_8
  frame_open
  frame_out
  simp (disch := decide) only [↓ View.readCov_skip, ↓ View.readCov_fill]
  rfl

/-- The block a later point stores. -/
theorem ot_later (t : Fin cfg0.N) (h0 : ¬t.val % 8 = 0) (y : S1x512x512.Idx) : (outsAt0 m c t.val t.isLt).1 y = View.canon (OTP (AX m c t) (iblk m c 0 t) (iblk m c 1 t) (iblk m c 2 t) (iblk m c 3 t) (iblk m c 7 t) (outsAt0 m c (t.val - 1) (lt_of_le_of_lt (Nat.sub_le _ _) t.isLt)).2) y := by
  rw [outsAt0_B m c t h0]
  dsimp only
  unfold out0_B_8
  frame_open
  frame_out
  simp only [read_unread_whole]
  rfl

/-- The state left, head 0. -/
theorem STP_0 (A : FVec Ideal S512x256 .f32) (k : Vec Ideal S1x512x256 .bf16) (v : Vec Ideal S1x512x512 .bf16) (S : Vec Ideal S2x256x128 .f32) (e : Fin 256) (d : Fin 128) :
    View.canon (STP A k v S) (ix3 0 e d) = SL0 A k v S (ix3 0 e d) := by
  unfold STP
  canon_tiles x h
  · exact absurd (show 0 = 1 + (x 0).val from h0) (by omega)
  · refine congrArg _ (funext fun a => ?_)
    fin_cases a
    · exact Fin.ext h0.symm
    · exact Fin.ext h1.symm
    · exact Fin.ext h2.symm

/-- The state left, head 1. -/
theorem STP_1 (A : FVec Ideal S512x256 .f32) (k : Vec Ideal S1x512x256 .bf16) (v : Vec Ideal S1x512x512 .bf16) (S : Vec Ideal S2x256x128 .f32) (e : Fin 256) (d : Fin 128) :
    View.canon (STP A k v S) (ix3 1 e d) = SL1 A k v S (ix3 0 e d) := by
  unfold STP
  canon_tiles x h
  · refine congrArg _ (funext fun a => ?_)
    fin_cases a
    · exact Fin.ext (show (x 0).val = 0 by omega)
    · exact Fin.ext h1.symm
    · exact Fin.ext h2.symm
  · exact absurd (show 1 = (x 0).val from h0) (by omega)

end Cert.GlaIdeal.Value
end
-- ==== Proof.GlaValue.lean ====
/- The array the call `Gla` ends with is its reference's: chunk by chunk within a grid point, then along the grid. -/
module

public import proofs.«01_k».proof.Proof.GlaStep

@[expose] public section

set_option maxRecDepth 16384

noncomputable section

namespace Cert.GlaIdeal.Value

open Cert.GlaIdeal Cert.GlaIdeal.Gen Idealize.ShloMosaic Idealize.ShloMosaic.TcCoe Idealize.SL.Sem
open Idealize.ShloMosaic.Pipeline (Dat)
open Cert.GlaRefIdeal.Value (GZ GLA GC GB GQ GK GV GR GQD GKD GOI GKV GD GO GOUT LG stK coK GREF colOf)

variable (m : (ℓ : Loc nD τ sig) → Buf (Elt Ideal) ℓ) (c : Dev nD)

/-- A row of chunk 0 by chunk and place. -/
theorem rw0_val (i : Fin 64) : (rw0 i).val = 64 * (0 : Fin 8).val + i.val := by
  show i.val = 64 * 0 + i.val
  omega

/-- A row of chunk 1 by chunk and place. -/
theorem rw1_val (i : Fin 64) : (rw1 i).val = 64 * (1 : Fin 8).val + i.val := by
  show 64 + i.val = 64 * 1 + i.val
  omega

/-- A row of chunk 2 by chunk and place. -/
theorem rw2_val (i : Fin 64) : (rw2 i).val = 64 * (2 : Fin 8).val + i.val := by
  show 128 + i.val = 64 * 2 + i.val
  omega

/-- A row of chunk 3 by chunk and place. -/
theorem rw3_val (i : Fin 64) : (rw3 i).val = 64 * (3 : Fin 8).val + i.val := by
  show 192 + i.val = 64 * 3 + i.val
  omega

/-- A row of chunk 4 by chunk and place. -/
theorem rw4_val (i : Fin 64) : (rw4 i).val = 64 * (4 : Fin 8).val + i.val := by
  show 256 + i.val = 64 * 4 + i.val
  omega

/-- A row of chunk 5 by chunk and place. -/
theorem rw5_val (i : Fin 64) : (rw5 i).val = 64 * (5 : Fin 8).val + i.val := by
  show 320 + i.val = 64 * 5 + i.val
  omega

/-- A row of chunk 6 by chunk and place. -/
theorem rw6_val (i : Fin 64) : (rw6 i).val = 64 * (6 : Fin 8).val + i.val := by
  show 384 + i.val = 64 * 6 + i.val
  omega

/-- A row of chunk 7 by chunk and place. -/
theorem rw7_val (i : Fin 64) : (rw7 i).val = 64 * (7 : Fin 8).val + i.val := by
  show 448 + i.val = 64 * 7 + i.val
  omega

/-- A key column of head 0. -/
theorem cx0_val (d : Fin 128) : (cx0 d).val = 128 * (0 : Fin 2).val + d.val := by
  show d.val = 128 * 0 + d.val
  omega

/-- A value column of head 0. -/
theorem ce0_val (e : Fin 256) : (ce0 e).val = 256 * (0 : Fin 2).val + e.val := by
  show e.val = 256 * 0 + e.val
  omega

/-- A key column of head 1. -/
theorem cx1_val (d : Fin 128) : (cx1 d).val = 128 * (1 : Fin 2).val + d.val := by
  show 128 + d.val = 128 * 1 + d.val
  omega

/-- A value column of head 1. -/
theorem ce1_val (e : Fin 256) : (ce1 e).val = 256 * (1 : Fin 2).val + e.val := by
  show 256 + e.val = 256 * 1 + e.val
  omega

/-- What chunk 0 adds to the state of head 0. -/
theorem kv00 (t : Fin cfg0.N) (e : Fin 256) (d : Fin 128) : KV00 (AX m c t) (iblk m c 1 t) (iblk m c 2 t) (ix2 e d) = GKV (XR m c) (BR m c) (ix5 (tN t 0) (tB t) (tH t 0) d e) :=
  (KV00_at _ _ _ _ _).trans (add_at m c t 0 0 rw0 (cx0 d) (ce0 e) d e rw0_val (cx0_val d) (ce0_val e) _ _ rfl rfl)

/-- The state of head 0 before chunk 0. -/
theorem sf00 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF00 (AX m c t) (iblk m c 1 t) (iblk m c 2 t) S (ix2 e d) = SR m c (t.val % 8 * 8 + (0 : Fin 8).val) (tB t) (tH t 0) d e := by
  rw [SF00_at, hS]
  rfl

/-- What chunk 1 adds to the state of head 0. -/
theorem kv10 (t : Fin cfg0.N) (e : Fin 256) (d : Fin 128) : KV10 (AX m c t) (iblk m c 1 t) (iblk m c 2 t) (ix2 e d) = GKV (XR m c) (BR m c) (ix5 (tN t 1) (tB t) (tH t 0) d e) :=
  (KV10_at _ _ _ _ _).trans (add_at m c t 1 0 rw1 (cx0 d) (ce0 e) d e rw1_val (cx0_val d) (ce0_val e) _ _ rfl rfl)

/-- The state of head 0 before chunk 1. -/
theorem sf10 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF10 (AX m c t) (iblk m c 1 t) (iblk m c 2 t) S (ix2 e d) = SR m c (t.val % 8 * 8 + (1 : Fin 8).val) (tB t) (tH t 0) d e := by
  rw [SF10_at]
  exact SR_step m c t 0 0 _ rfl (cx0 d) (rw0 63) d e (rw0_val 63) (cx0_val d) _ _ (sf00 m c t S hS e d) (kv00 m c t e d)

/-- What chunk 2 adds to the state of head 0. -/
theorem kv20 (t : Fin cfg0.N) (e : Fin 256) (d : Fin 128) : KV20 (AX m c t) (iblk m c 1 t) (iblk m c 2 t) (ix2 e d) = GKV (XR m c) (BR m c) (ix5 (tN t 2) (tB t) (tH t 0) d e) :=
  (KV20_at _ _ _ _ _).trans (add_at m c t 2 0 rw2 (cx0 d) (ce0 e) d e rw2_val (cx0_val d) (ce0_val e) _ _ rfl rfl)

/-- The state of head 0 before chunk 2. -/
theorem sf20 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF20 (AX m c t) (iblk m c 1 t) (iblk m c 2 t) S (ix2 e d) = SR m c (t.val % 8 * 8 + (2 : Fin 8).val) (tB t) (tH t 0) d e := by
  rw [SF20_at]
  exact SR_step m c t 1 0 _ rfl (cx0 d) (rw1 63) d e (rw1_val 63) (cx0_val d) _ _ (sf10 m c t S hS e d) (kv10 m c t e d)

/-- What chunk 3 adds to the state of head 0. -/
theorem kv30 (t : Fin cfg0.N) (e : Fin 256) (d : Fin 128) : KV30 (AX m c t) (iblk m c 1 t) (iblk m c 2 t) (ix2 e d) = GKV (XR m c) (BR m c) (ix5 (tN t 3) (tB t) (tH t 0) d e) :=
  (KV30_at _ _ _ _ _).trans (add_at m c t 3 0 rw3 (cx0 d) (ce0 e) d e rw3_val (cx0_val d) (ce0_val e) _ _ rfl rfl)

/-- The state of head 0 before chunk 3. -/
theorem sf30 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF30 (AX m c t) (iblk m c 1 t) (iblk m c 2 t) S (ix2 e d) = SR m c (t.val % 8 * 8 + (3 : Fin 8).val) (tB t) (tH t 0) d e := by
  rw [SF30_at]
  exact SR_step m c t 2 0 _ rfl (cx0 d) (rw2 63) d e (rw2_val 63) (cx0_val d) _ _ (sf20 m c t S hS e d) (kv20 m c t e d)

/-- What chunk 4 adds to the state of head 0. -/
theorem kv40 (t : Fin cfg0.N) (e : Fin 256) (d : Fin 128) : KV40 (AX m c t) (iblk m c 1 t) (iblk m c 2 t) (ix2 e d) = GKV (XR m c) (BR m c) (ix5 (tN t 4) (tB t) (tH t 0) d e) :=
  (KV40_at _ _ _ _ _).trans (add_at m c t 4 0 rw4 (cx0 d) (ce0 e) d e rw4_val (cx0_val d) (ce0_val e) _ _ rfl rfl)

/-- The state of head 0 before chunk 4. -/
theorem sf40 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF40 (AX m c t) (iblk m c 1 t) (iblk m c 2 t) S (ix2 e d) = SR m c (t.val % 8 * 8 + (4 : Fin 8).val) (tB t) (tH t 0) d e := by
  rw [SF40_at]
  exact SR_step m c t 3 0 _ rfl (cx0 d) (rw3 63) d e (rw3_val 63) (cx0_val d) _ _ (sf30 m c t S hS e d) (kv30 m c t e d)

/-- What chunk 5 adds to the state of head 0. -/
theorem kv50 (t : Fin cfg0.N) (e : Fin 256) (d : Fin 128) : KV50 (AX m c t) (iblk m c 1 t) (iblk m c 2 t) (ix2 e d) = GKV (XR m c) (BR m c) (ix5 (tN t 5) (tB t) (tH t 0) d e) :=
  (KV50_at _ _ _ _ _).trans (add_at m c t 5 0 rw5 (cx0 d) (ce0 e) d e rw5_val (cx0_val d) (ce0_val e) _ _ rfl rfl)

/-- The state of head 0 before chunk 5. -/
theorem sf50 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF50 (AX m c t) (iblk m c 1 t) (iblk m c 2 t) S (ix2 e d) = SR m c (t.val % 8 * 8 + (5 : Fin 8).val) (tB t) (tH t 0) d e := by
  rw [SF50_at]
  exact SR_step m c t 4 0 _ rfl (cx0 d) (rw4 63) d e (rw4_val 63) (cx0_val d) _ _ (sf40 m c t S hS e d) (kv40 m c t e d)

/-- What chunk 6 adds to the state of head 0. -/
theorem kv60 (t : Fin cfg0.N) (e : Fin 256) (d : Fin 128) : KV60 (AX m c t) (iblk m c 1 t) (iblk m c 2 t) (ix2 e d) = GKV (XR m c) (BR m c) (ix5 (tN t 6) (tB t) (tH t 0) d e) :=
  (KV60_at _ _ _ _ _).trans (add_at m c t 6 0 rw6 (cx0 d) (ce0 e) d e rw6_val (cx0_val d) (ce0_val e) _ _ rfl rfl)

/-- The state of head 0 before chunk 6. -/
theorem sf60 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF60 (AX m c t) (iblk m c 1 t) (iblk m c 2 t) S (ix2 e d) = SR m c (t.val % 8 * 8 + (6 : Fin 8).val) (tB t) (tH t 0) d e := by
  rw [SF60_at]
  exact SR_step m c t 5 0 _ rfl (cx0 d) (rw5 63) d e (rw5_val 63) (cx0_val d) _ _ (sf50 m c t S hS e d) (kv50 m c t e d)

/-- What chunk 7 adds to the state of head 0. -/
theorem kv70 (t : Fin cfg0.N) (e : Fin 256) (d : Fin 128) : KV70 (AX m c t) (iblk m c 1 t) (iblk m c 2 t) (ix2 e d) = GKV (XR m c) (BR m c) (ix5 (tN t 7) (tB t) (tH t 0) d e) :=
  (KV70_at _ _ _ _ _).trans (add_at m c t 7 0 rw7 (cx0 d) (ce0 e) d e rw7_val (cx0_val d) (ce0_val e) _ _ rfl rfl)

/-- The state of head 0 before chunk 7. -/
theorem sf70 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF70 (AX m c t) (iblk m c 1 t) (iblk m c 2 t) S (ix2 e d) = SR m c (t.val % 8 * 8 + (7 : Fin 8).val) (tB t) (tH t 0) d e := by
  rw [SF70_at]
  exact SR_step m c t 6 0 _ rfl (cx0 d) (rw6 63) d e (rw6_val 63) (cx0_val d) _ _ (sf60 m c t S hS e d) (kv60 m c t e d)

/-- The state of head 0 a point leaves. -/
theorem sl0 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SL0 (AX m c t) (iblk m c 1 t) (iblk m c 2 t) S (ix3 0 e d) = SR m c (t.val % 8 * 8 + 8) (tB t) (tH t 0) d e := by
  rw [SL0_at]
  exact SR_step m c t 7 0 _ rfl (cx0 d) (rw7 63) d e (rw7_val 63) (cx0_val d) _ _ (sf70 m c t S hS e d) (kv70 m c t e d)

/-- What chunk 0 adds to the state of head 1. -/
theorem kv01 (t : Fin cfg0.N) (e : Fin 256) (d : Fin 128) : KV01 (AX m c t) (iblk m c 1 t) (iblk m c 2 t) (ix2 e d) = GKV (XR m c) (BR m c) (ix5 (tN t 0) (tB t) (tH t 1) d e) :=
  (KV01_at _ _ _ _ _).trans (add_at m c t 0 1 rw0 (cx1 d) (ce1 e) d e rw0_val (cx1_val d) (ce1_val e) _ _ rfl rfl)

/-- The state of head 1 before chunk 0. -/
theorem sf01 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF01 (AX m c t) (iblk m c 1 t) (iblk m c 2 t) S (ix2 e d) = SR m c (t.val % 8 * 8 + (0 : Fin 8).val) (tB t) (tH t 1) d e := by
  rw [SF01_at, hS]
  rfl

/-- What chunk 1 adds to the state of head 1. -/
theorem kv11 (t : Fin cfg0.N) (e : Fin 256) (d : Fin 128) : KV11 (AX m c t) (iblk m c 1 t) (iblk m c 2 t) (ix2 e d) = GKV (XR m c) (BR m c) (ix5 (tN t 1) (tB t) (tH t 1) d e) :=
  (KV11_at _ _ _ _ _).trans (add_at m c t 1 1 rw1 (cx1 d) (ce1 e) d e rw1_val (cx1_val d) (ce1_val e) _ _ rfl rfl)

/-- The state of head 1 before chunk 1. -/
theorem sf11 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF11 (AX m c t) (iblk m c 1 t) (iblk m c 2 t) S (ix2 e d) = SR m c (t.val % 8 * 8 + (1 : Fin 8).val) (tB t) (tH t 1) d e := by
  rw [SF11_at]
  exact SR_step m c t 0 1 _ rfl (cx1 d) (rw0 63) d e (rw0_val 63) (cx1_val d) _ _ (sf01 m c t S hS e d) (kv01 m c t e d)

/-- What chunk 2 adds to the state of head 1. -/
theorem kv21 (t : Fin cfg0.N) (e : Fin 256) (d : Fin 128) : KV21 (AX m c t) (iblk m c 1 t) (iblk m c 2 t) (ix2 e d) = GKV (XR m c) (BR m c) (ix5 (tN t 2) (tB t) (tH t 1) d e) :=
  (KV21_at _ _ _ _ _).trans (add_at m c t 2 1 rw2 (cx1 d) (ce1 e) d e rw2_val (cx1_val d) (ce1_val e) _ _ rfl rfl)

/-- The state of head 1 before chunk 2. -/
theorem sf21 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF21 (AX m c t) (iblk m c 1 t) (iblk m c 2 t) S (ix2 e d) = SR m c (t.val % 8 * 8 + (2 : Fin 8).val) (tB t) (tH t 1) d e := by
  rw [SF21_at]
  exact SR_step m c t 1 1 _ rfl (cx1 d) (rw1 63) d e (rw1_val 63) (cx1_val d) _ _ (sf11 m c t S hS e d) (kv11 m c t e d)

/-- What chunk 3 adds to the state of head 1. -/
theorem kv31 (t : Fin cfg0.N) (e : Fin 256) (d : Fin 128) : KV31 (AX m c t) (iblk m c 1 t) (iblk m c 2 t) (ix2 e d) = GKV (XR m c) (BR m c) (ix5 (tN t 3) (tB t) (tH t 1) d e) :=
  (KV31_at _ _ _ _ _).trans (add_at m c t 3 1 rw3 (cx1 d) (ce1 e) d e rw3_val (cx1_val d) (ce1_val e) _ _ rfl rfl)

/-- The state of head 1 before chunk 3. -/
theorem sf31 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF31 (AX m c t) (iblk m c 1 t) (iblk m c 2 t) S (ix2 e d) = SR m c (t.val % 8 * 8 + (3 : Fin 8).val) (tB t) (tH t 1) d e := by
  rw [SF31_at]
  exact SR_step m c t 2 1 _ rfl (cx1 d) (rw2 63) d e (rw2_val 63) (cx1_val d) _ _ (sf21 m c t S hS e d) (kv21 m c t e d)

/-- What chunk 4 adds to the state of head 1. -/
theorem kv41 (t : Fin cfg0.N) (e : Fin 256) (d : Fin 128) : KV41 (AX m c t) (iblk m c 1 t) (iblk m c 2 t) (ix2 e d) = GKV (XR m c) (BR m c) (ix5 (tN t 4) (tB t) (tH t 1) d e) :=
  (KV41_at _ _ _ _ _).trans (add_at m c t 4 1 rw4 (cx1 d) (ce1 e) d e rw4_val (cx1_val d) (ce1_val e) _ _ rfl rfl)

/-- The state of head 1 before chunk 4. -/
theorem sf41 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF41 (AX m c t) (iblk m c 1 t) (iblk m c 2 t) S (ix2 e d) = SR m c (t.val % 8 * 8 + (4 : Fin 8).val) (tB t) (tH t 1) d e := by
  rw [SF41_at]
  exact SR_step m c t 3 1 _ rfl (cx1 d) (rw3 63) d e (rw3_val 63) (cx1_val d) _ _ (sf31 m c t S hS e d) (kv31 m c t e d)

/-- What chunk 5 adds to the state of head 1. -/
theorem kv51 (t : Fin cfg0.N) (e : Fin 256) (d : Fin 128) : KV51 (AX m c t) (iblk m c 1 t) (iblk m c 2 t) (ix2 e d) = GKV (XR m c) (BR m c) (ix5 (tN t 5) (tB t) (tH t 1) d e) :=
  (KV51_at _ _ _ _ _).trans (add_at m c t 5 1 rw5 (cx1 d) (ce1 e) d e rw5_val (cx1_val d) (ce1_val e) _ _ rfl rfl)

/-- The state of head 1 before chunk 5. -/
theorem sf51 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF51 (AX m c t) (iblk m c 1 t) (iblk m c 2 t) S (ix2 e d) = SR m c (t.val % 8 * 8 + (5 : Fin 8).val) (tB t) (tH t 1) d e := by
  rw [SF51_at]
  exact SR_step m c t 4 1 _ rfl (cx1 d) (rw4 63) d e (rw4_val 63) (cx1_val d) _ _ (sf41 m c t S hS e d) (kv41 m c t e d)

/-- What chunk 6 adds to the state of head 1. -/
theorem kv61 (t : Fin cfg0.N) (e : Fin 256) (d : Fin 128) : KV61 (AX m c t) (iblk m c 1 t) (iblk m c 2 t) (ix2 e d) = GKV (XR m c) (BR m c) (ix5 (tN t 6) (tB t) (tH t 1) d e) :=
  (KV61_at _ _ _ _ _).trans (add_at m c t 6 1 rw6 (cx1 d) (ce1 e) d e rw6_val (cx1_val d) (ce1_val e) _ _ rfl rfl)

/-- The state of head 1 before chunk 6. -/
theorem sf61 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF61 (AX m c t) (iblk m c 1 t) (iblk m c 2 t) S (ix2 e d) = SR m c (t.val % 8 * 8 + (6 : Fin 8).val) (tB t) (tH t 1) d e := by
  rw [SF61_at]
  exact SR_step m c t 5 1 _ rfl (cx1 d) (rw5 63) d e (rw5_val 63) (cx1_val d) _ _ (sf51 m c t S hS e d) (kv51 m c t e d)

/-- What chunk 7 adds to the state of head 1. -/
theorem kv71 (t : Fin cfg0.N) (e : Fin 256) (d : Fin 128) : KV71 (AX m c t) (iblk m c 1 t) (iblk m c 2 t) (ix2 e d) = GKV (XR m c) (BR m c) (ix5 (tN t 7) (tB t) (tH t 1) d e) :=
  (KV71_at _ _ _ _ _).trans (add_at m c t 7 1 rw7 (cx1 d) (ce1 e) d e rw7_val (cx1_val d) (ce1_val e) _ _ rfl rfl)

/-- The state of head 1 before chunk 7. -/
theorem sf71 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SF71 (AX m c t) (iblk m c 1 t) (iblk m c 2 t) S (ix2 e d) = SR m c (t.val % 8 * 8 + (7 : Fin 8).val) (tB t) (tH t 1) d e := by
  rw [SF71_at]
  exact SR_step m c t 6 1 _ rfl (cx1 d) (rw6 63) d e (rw6_val 63) (cx1_val d) _ _ (sf61 m c t S hS e d) (kv61 m c t e d)

/-- The state of head 1 a point leaves. -/
theorem sl1 (t : Fin cfg0.N) (S : Vec Ideal S2x256x128 .f32) (hS : ∀ (u : Fin 2) (e : Fin 256) (d : Fin 128), S (ix3 u e d) = SR m c (t.val % 8 * 8) (tB t) (tH t u) d e) (e : Fin 256) (d : Fin 128) :
    SL1 (AX m c t) (iblk m c 1 t) (iblk m c 2 t) S (ix3 0 e d) = SR m c (t.val % 8 * 8 + 8) (tB t) (tH t 1) d e := by
  rw [SL1_at]
  exact SR_step m c t 7 1 _ rfl (cx1 d) (rw7 63) d e (rw7_val 63) (cx1_val d) _ _ (sf71 m c t S hS e d) (kv71 m c t e d)

/-- The state a point leaves, whichever it found. -/
theorem st_of (t : Fin cfg0.N) (S : Vec Ideal S2x256x128 .f32) (hS : ∀ (u : Fin 2) (e : Fin 256) (d : Fin 128), S (ix3 u e d) = SR m c (t.val % 8 * 8) (tB t) (tH t u) d e) : ∀ (u : Fin 2) (e : Fin 256) (d : Fin 128),
    View.canon (STP (AX m c t) (iblk m c 1 t) (iblk m c 2 t) S) (ix3 u e d) = SR m c (t.val % 8 * 8 + 8) (tB t) (tH t u) d e
  | 0, e, d => (STP_0 _ _ _ _ e d).trans (sl0 m c t S hS e d)
  | 1, e, d => (STP_1 _ _ _ _ e d).trans (sl1 m c t S hS e d)

/-- A sequence begins with no state. -/
theorem st_zero (t : Fin cfg0.N) (h0 : t.val % 8 = 0) (u : Fin 2) (e : Fin 256) (d : Fin 128) : k0_pay1 (F := Ideal) (ix3 u e d) = SR m c (t.val % 8 * 8) (tB t) (tH t u) d e := by
  rw [h0]
  refine Eq.trans (b := (0 : Ideal .f32)) ?_ (Cert.GlaRefIdeal.Value.stK_zero _ _ _ _ _ _).symm
  pointwise [k0_pay1]

/-- The state a point finds is what the point before left. -/
theorem st_prev (t : Fin cfg0.N) (h0 : ¬t.val % 8 = 0) (hlt : t.val - 1 < cfg0.N)
    (h : ∀ (u : Fin 2) (e : Fin 256) (d : Fin 128), (outsAt0 m c (t.val - 1) hlt).2 (ix3 u e d) = SR m c ((t.val - 1) % 8 * 8 + 8) (tB ⟨t.val - 1, hlt⟩) (tH ⟨t.val - 1, hlt⟩ u) d e)
    (u : Fin 2) (e : Fin 256) (d : Fin 128) : (outsAt0 m c (t.val - 1) hlt).2 (ix3 u e d) = SR m c (t.val % 8 * 8) (tB t) (tH t u) d e := by
  rw [h, show (t.val - 1) % 8 * 8 + 8 = t.val % 8 * 8 by omega, show tB ⟨t.val - 1, hlt⟩ = tB t from Fin.ext (by show (t.val - 1) / 16 = t.val / 16; omega),
    show tH ⟨t.val - 1, hlt⟩ u = tH t u from Fin.ext (by show (t.val - 1) / 8 % 2 * 2 + u.val = t.val / 8 % 2 * 2 + u.val; omega)]

/-- The state every point leaves is the reference's after its chunks. -/
theorem st_at : ∀ (n : ℕ) (hn : n < cfg0.N) (u : Fin 2) (e : Fin 256) (d : Fin 128),
    (outsAt0 m c n hn).2 (ix3 u e d) = SR m c (n % 8 * 8 + 8) (tB ⟨n, hn⟩) (tH ⟨n, hn⟩ u) d e := by
  intro n
  induction n using Nat.strong_induction_on with
  | _ n ih =>
    intro hn u e d
    by_cases h0 : n % 8 = 0
    · exact (st_first m c ⟨n, hn⟩ h0 _).trans (st_of m c ⟨n, hn⟩ _ (st_zero m c ⟨n, hn⟩ h0) u e d)
    · exact (st_later m c ⟨n, hn⟩ h0 _).trans (st_of m c ⟨n, hn⟩ _ (st_prev m c ⟨n, hn⟩ h0 _ (ih (n - 1) (by omega) _)) u e d)

/-- The reference's result over this call's arrays. -/
def RES : FVec Ideal Cert.GlaRefIdeal.S4x4096x1024 .bf16 := GOUT (OR m c) (GR (XR m c)) (m ((c : Thread nD τ).loc main_arg4))

/-- The piece of chunk 0, head 0. -/
theorem pc00 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = (x 1).val) (hb : b.val = (x 2).val) :
    PC00 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw0 i := Fin.ext ha
  obtain rfl : b = ce0 e := Fin.ext hb
  rw [PC00_at]
  exact piece_at m c t 0 (rw0 i) (ce0 e) e _ (ce0_val e) fun e => (CO00_at _ _ _ _ _ _ _).trans
    (out_at m c t 0 0 rw0 cx0 (ce0 e) i e _ rw0_val cx0_val (ce0_val e) fun d => sf00 m c t S hS e d)

/-- The piece of chunk 1, head 0. -/
theorem pc10 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 64 + (x 1).val) (hb : b.val = (x 2).val) :
    PC10 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw1 i := Fin.ext ha
  obtain rfl : b = ce0 e := Fin.ext hb
  rw [PC10_at]
  exact piece_at m c t 0 (rw1 i) (ce0 e) e _ (ce0_val e) fun e => (CO10_at _ _ _ _ _ _ _).trans
    (out_at m c t 1 0 rw1 cx0 (ce0 e) i e _ rw1_val cx0_val (ce0_val e) fun d => sf10 m c t S hS e d)

/-- The piece of chunk 2, head 0. -/
theorem pc20 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 128 + (x 1).val) (hb : b.val = (x 2).val) :
    PC20 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw2 i := Fin.ext ha
  obtain rfl : b = ce0 e := Fin.ext hb
  rw [PC20_at]
  exact piece_at m c t 0 (rw2 i) (ce0 e) e _ (ce0_val e) fun e => (CO20_at _ _ _ _ _ _ _).trans
    (out_at m c t 2 0 rw2 cx0 (ce0 e) i e _ rw2_val cx0_val (ce0_val e) fun d => sf20 m c t S hS e d)

/-- The piece of chunk 3, head 0. -/
theorem pc30 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 192 + (x 1).val) (hb : b.val = (x 2).val) :
    PC30 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw3 i := Fin.ext ha
  obtain rfl : b = ce0 e := Fin.ext hb
  rw [PC30_at]
  exact piece_at m c t 0 (rw3 i) (ce0 e) e _ (ce0_val e) fun e => (CO30_at _ _ _ _ _ _ _).trans
    (out_at m c t 3 0 rw3 cx0 (ce0 e) i e _ rw3_val cx0_val (ce0_val e) fun d => sf30 m c t S hS e d)

/-- The piece of chunk 4, head 0. -/
theorem pc40 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 256 + (x 1).val) (hb : b.val = (x 2).val) :
    PC40 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw4 i := Fin.ext ha
  obtain rfl : b = ce0 e := Fin.ext hb
  rw [PC40_at]
  exact piece_at m c t 0 (rw4 i) (ce0 e) e _ (ce0_val e) fun e => (CO40_at _ _ _ _ _ _ _).trans
    (out_at m c t 4 0 rw4 cx0 (ce0 e) i e _ rw4_val cx0_val (ce0_val e) fun d => sf40 m c t S hS e d)

/-- The piece of chunk 5, head 0. -/
theorem pc50 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 320 + (x 1).val) (hb : b.val = (x 2).val) :
    PC50 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw5 i := Fin.ext ha
  obtain rfl : b = ce0 e := Fin.ext hb
  rw [PC50_at]
  exact piece_at m c t 0 (rw5 i) (ce0 e) e _ (ce0_val e) fun e => (CO50_at _ _ _ _ _ _ _).trans
    (out_at m c t 5 0 rw5 cx0 (ce0 e) i e _ rw5_val cx0_val (ce0_val e) fun d => sf50 m c t S hS e d)

/-- The piece of chunk 6, head 0. -/
theorem pc60 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 384 + (x 1).val) (hb : b.val = (x 2).val) :
    PC60 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw6 i := Fin.ext ha
  obtain rfl : b = ce0 e := Fin.ext hb
  rw [PC60_at]
  exact piece_at m c t 0 (rw6 i) (ce0 e) e _ (ce0_val e) fun e => (CO60_at _ _ _ _ _ _ _).trans
    (out_at m c t 6 0 rw6 cx0 (ce0 e) i e _ rw6_val cx0_val (ce0_val e) fun d => sf60 m c t S hS e d)

/-- The piece of chunk 7, head 0. -/
theorem pc70 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 448 + (x 1).val) (hb : b.val = (x 2).val) :
    PC70 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw7 i := Fin.ext ha
  obtain rfl : b = ce0 e := Fin.ext hb
  rw [PC70_at]
  exact piece_at m c t 0 (rw7 i) (ce0 e) e _ (ce0_val e) fun e => (CO70_at _ _ _ _ _ _ _).trans
    (out_at m c t 7 0 rw7 cx0 (ce0 e) i e _ rw7_val cx0_val (ce0_val e) fun d => sf70 m c t S hS e d)

/-- The piece of chunk 0, head 1. -/
theorem pc01 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = (x 1).val) (hb : b.val = 256 + (x 2).val) :
    PC01 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw0 i := Fin.ext ha
  obtain rfl : b = ce1 e := Fin.ext hb
  rw [PC01_at]
  exact piece_at m c t 1 (rw0 i) (ce1 e) e _ (ce1_val e) fun e => (CO01_at _ _ _ _ _ _ _).trans
    (out_at m c t 0 1 rw0 cx1 (ce1 e) i e _ rw0_val cx1_val (ce1_val e) fun d => sf01 m c t S hS e d)

/-- The piece of chunk 1, head 1. -/
theorem pc11 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 64 + (x 1).val) (hb : b.val = 256 + (x 2).val) :
    PC11 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw1 i := Fin.ext ha
  obtain rfl : b = ce1 e := Fin.ext hb
  rw [PC11_at]
  exact piece_at m c t 1 (rw1 i) (ce1 e) e _ (ce1_val e) fun e => (CO11_at _ _ _ _ _ _ _).trans
    (out_at m c t 1 1 rw1 cx1 (ce1 e) i e _ rw1_val cx1_val (ce1_val e) fun d => sf11 m c t S hS e d)

/-- The piece of chunk 2, head 1. -/
theorem pc21 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 128 + (x 1).val) (hb : b.val = 256 + (x 2).val) :
    PC21 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw2 i := Fin.ext ha
  obtain rfl : b = ce1 e := Fin.ext hb
  rw [PC21_at]
  exact piece_at m c t 1 (rw2 i) (ce1 e) e _ (ce1_val e) fun e => (CO21_at _ _ _ _ _ _ _).trans
    (out_at m c t 2 1 rw2 cx1 (ce1 e) i e _ rw2_val cx1_val (ce1_val e) fun d => sf21 m c t S hS e d)

/-- The piece of chunk 3, head 1. -/
theorem pc31 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 192 + (x 1).val) (hb : b.val = 256 + (x 2).val) :
    PC31 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw3 i := Fin.ext ha
  obtain rfl : b = ce1 e := Fin.ext hb
  rw [PC31_at]
  exact piece_at m c t 1 (rw3 i) (ce1 e) e _ (ce1_val e) fun e => (CO31_at _ _ _ _ _ _ _).trans
    (out_at m c t 3 1 rw3 cx1 (ce1 e) i e _ rw3_val cx1_val (ce1_val e) fun d => sf31 m c t S hS e d)

/-- The piece of chunk 4, head 1. -/
theorem pc41 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 256 + (x 1).val) (hb : b.val = 256 + (x 2).val) :
    PC41 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw4 i := Fin.ext ha
  obtain rfl : b = ce1 e := Fin.ext hb
  rw [PC41_at]
  exact piece_at m c t 1 (rw4 i) (ce1 e) e _ (ce1_val e) fun e => (CO41_at _ _ _ _ _ _ _).trans
    (out_at m c t 4 1 rw4 cx1 (ce1 e) i e _ rw4_val cx1_val (ce1_val e) fun d => sf41 m c t S hS e d)

/-- The piece of chunk 5, head 1. -/
theorem pc51 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 320 + (x 1).val) (hb : b.val = 256 + (x 2).val) :
    PC51 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw5 i := Fin.ext ha
  obtain rfl : b = ce1 e := Fin.ext hb
  rw [PC51_at]
  exact piece_at m c t 1 (rw5 i) (ce1 e) e _ (ce1_val e) fun e => (CO51_at _ _ _ _ _ _ _).trans
    (out_at m c t 5 1 rw5 cx1 (ce1 e) i e _ rw5_val cx1_val (ce1_val e) fun d => sf51 m c t S hS e d)

/-- The piece of chunk 6, head 1. -/
theorem pc61 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 384 + (x 1).val) (hb : b.val = 256 + (x 2).val) :
    PC61 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw6 i := Fin.ext ha
  obtain rfl : b = ce1 e := Fin.ext hb
  rw [PC61_at]
  exact piece_at m c t 1 (rw6 i) (ce1 e) e _ (ce1_val e) fun e => (CO61_at _ _ _ _ _ _ _).trans
    (out_at m c t 6 1 rw6 cx1 (ce1 e) i e _ rw6_val cx1_val (ce1_val e) fun d => sf61 m c t S hS e d)

/-- The piece of chunk 7, head 1. -/
theorem pc71 (t : Fin cfg0.N) (S : Vec Ideal S2x256x128 .f32) (hS : ∀ (u : Fin 2) (e : Fin 256) (d : Fin 128), S (ix3 u e d) = SR m c (t.val % 8 * 8) (tB t) (tH t u) d e) (x : S1x64x256.Idx) (a b : Fin 512) (ha : a.val = 448 + (x 1).val) (hb : b.val = 256 + (x 2).val) :
    PC71 (AX m c t) (iblk m c 0 t) (iblk m c 1 t) (iblk m c 2 t) (iblk m c 3 t) (iblk m c 7 t) S x = RES m c (ix3 (tB t) (tR t a) ⟨t.val / 8 % 2 * 512 + b.val, by omega⟩) := by
  obtain ⟨i, e, rfl⟩ : ∃ (i : Fin 64) (e : Fin 256), x = ix3 0 i e := ⟨x 1, x 2, by funext i; fin_cases i <;> first | rfl | exact Subsingleton.elim (α := Fin 1) _ _⟩
  obtain rfl : a = rw7 i := Fin.ext ha
  obtain rfl : b = ce1 e := Fin.ext hb
  rw [PC71_at]
  exact piece_at m c t 1 (rw7 i) (ce1 e) e _ (ce1_val e) fun e => (CO71_at _ _ _ _ _ _ _).trans
    (out_at m c t 7 1 rw7 cx1 (ce1 e) i e _ rw7_val cx1_val (ce1_val e) fun d => sf71 m c t S hS e d)

/-- The block a point stores, whichever state it found. -/
theorem ot_of (t : Fin cfg0.N) (S : Vec Ideal S2x256x128 .f32) (fS : ∀ (u : Fin 2) (e : Fin 256) (d : Fin 128), S (ix3 u e d) = SR m c (t.val % 8 * 8) (tB t) (tH t u) d e) (a b : Fin 512) :
    View.canon (OTP (AX m c t) (iblk m c 0 t) (iblk m c 1 t) (iblk m c 2 t) (iblk m c 3 t) (iblk m c 7 t) S) (ix3 0 a b) = RES m c (ix3 (tB t) (tR t a) ⟨t.val / 8 % 2 * 512 + b.val, by omega⟩) := by
  unfold OTP
  canon_tiles x h
  · exact pc71 m c t S fS x a b h1 h2
  · exact pc61 m c t S fS x a b h1 h2
  · exact pc51 m c t S fS x a b h1 h2
  · exact pc41 m c t S fS x a b h1 h2
  · exact pc31 m c t S fS x a b h1 h2
  · exact pc21 m c t S fS x a b h1 h2
  · exact pc11 m c t S fS x a b h1 h2
  · exact pc01 m c t S fS x a b h1 h2
  · exact pc70 m c t S fS x a b h1 h2
  · exact pc60 m c t S fS x a b h1 h2
  · exact pc50 m c t S fS x a b h1 h2
  · exact pc40 m c t S fS x a b h1 h2
  · exact pc30 m c t S fS x a b h1 h2
  · exact pc20 m c t S fS x a b h1 h2
  · exact pc10 m c t S fS x a b h1 h2
  · exact pc00 m c t S fS x a b h1 h2

/-- The block every point stores is the reference's. -/
theorem ot_at (t : Fin cfg0.N) (a b : Fin 512) : (outsAt0 m c t.val t.isLt).1 (ix3 0 a b) = RES m c (ix3 (tB t) (tR t a) ⟨t.val / 8 % 2 * 512 + b.val, by omega⟩) := by
  by_cases h0 : t.val % 8 = 0
  · exact (ot_first m c t h0 _).trans (ot_of m c t _ (st_zero m c t h0) a b)
  · exact (ot_later m c t h0 _).trans (ot_of m c t _ (st_prev m c t h0 _ (st_at m c (t.val - 1) _)) a b)

/-- Where the result's block lies. -/
theorem emb8 (t : Fin cfg0.N) (a b : Fin 512) : (win0_8.blk t).view.emb (ix3 0 a b) = ix3 (tB t) (tR t a) ⟨t.val / 8 % 2 * 512 + b.val, by omega⟩ := by
  blk_ext [idx_at t]

/-- The result array after the run. -/
theorem final_array : (dats m 0 c).arrAt 8 (cfgs 0).N
    = GREF (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := RES m c) ?_ rfl
  refine (dats m 0 c).arrAt_eq_of_covers 8 _ (by decide +kernel) fun t _ y => ?_
  obtain ⟨a, b, rfl⟩ : ∃ (a b : Fin 512), y = ix3 0 a b := ⟨y 1, y 2, by funext i; fin_cases i <;> first | rfl | exact Subsingleton.elim (α := Fin 1) _ _⟩
  rw [emb8]
  blk_simp
  rw [after0_8]
  exact ot_at m c t a b

end Cert.GlaIdeal.Value

end
-- ==== Proof.GlaClaims.lean ====
/- The claims about the call `Gla`: its reference ends without fault, and over the extended reals the kernel computes what the reference computes. -/
module

public import proofs.«01_k».proof.Defs
public import proofs.«01_k».proof.Proof.Gen.Gla.Frame
public import proofs.«01_k».proof.Proof.GlaValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `Gla` ends without fault, its arguments unchanged. -/
theorem quiescent_GlaRefIdeal : quiescent_GlaRefIdeal := fun m ρ _ =>
  (θ_run Cert.GlaRefIdeal.defs _ _).mono (fun r h => ⟨fun c => (h c).2, sem_eq_zero_of_no_sems (by decide) r.2⟩)
    (Cert.GlaRefIdeal.Value.run m ρ)

/-- The call `Gla` and its reference end with the same array. -/
theorem algebraic_GlaIdeal_GlaRefIdeal : algebraic_GlaIdeal_GlaRefIdeal := by
  intro m ρ m' ρ' _ hagree
  refine ⟨fun c => Cert.GlaRefIdeal.Value.GREF (m (c.tc.loc Cert.GlaIdeal.main_arg0)) (m (c.tc.loc Cert.GlaIdeal.main_arg1)) (m (c.tc.loc Cert.GlaIdeal.main_arg2)) (m (c.tc.loc Cert.GlaIdeal.main_arg3)) (m (c.tc.loc Cert.GlaIdeal.main_arg4)),
    (θ_run Cert.GlaIdeal.defs _ _).mono (fun r h c => ⟨(h c).1.trans (Cert.GlaIdeal.Value.final_array m c), (h c).2⟩)
      (Cert.GlaIdeal.Value.run_blocks (F := Ideal) m ρ), ?_⟩
  refine (θ_run Cert.GlaRefIdeal.defs _ _).mono (fun r h c => ⟨(h c).1.trans ?_, (h c).2⟩)
    (Cert.GlaRefIdeal.Value.run m' ρ')
  obtain ⟨h0, h1, h2, h3, h4⟩ := hagree c
  refine Eq.trans (b := Cert.GlaRefIdeal.Value.GREF (m' (c.tc.loc Cert.GlaRefIdeal.main_arg0)) (m' (c.tc.loc Cert.GlaRefIdeal.main_arg1)) (m' (c.tc.loc Cert.GlaRefIdeal.main_arg2)) (m' (c.tc.loc Cert.GlaRefIdeal.main_arg3)) (m' (c.tc.loc Cert.GlaRefIdeal.main_arg4))) rfl ?_
  rw [h0, h1, h2, h3, h4]

end Cert.Proof

end
-- ==== Proof.MlpValue.lean ====
/- The array the call `Mlp` ends with is its reference's: the squared-rectifier product pair, the norm and the gated addition. -/
module

public import proofs.«01_k».proof.Proof.Gen.MlpIdeal.Value
public import proofs.«01_k».proof.Proof.Gen.MlpRefIdeal.Run
public import Idealize.ShloMosaic.Lib.Pipeline.ValueKit
public import Idealize.ShloMosaic.Lib.Pipeline.ReadBack
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.MlpRefIdeal.Value

open Cert.MlpRefIdeal Cert.MlpRefIdeal.Gen

/-- A part of the reference's term. -/
def R0 (X1 : FVec Ideal S4x1024x4096 .f32) :=
  shapeCast _ (extractStridedSlice S1x1024x4096 ![1, 0, 0] X1 slices_S4x1024x4096_S1x1024x4096_1_0_0) shapeCasts_S1x1024x4096_S1024x4096

/-- A part of the reference's term. -/
def R1 (X2 : FVec Ideal S4x4096x1024 .f32) :=
  shapeCast _ (extractStridedSlice S1x4096x1024 ![1, 0, 0] X2 slices_S4x4096x1024_S1x4096x1024_1_0_0) shapeCasts_S1x4096x1024_S4096x1024

/-- A part of the reference's term. -/
def R2 (X3 : FVec Ideal S4x1024 .f32) :=
  broadcastInDim S1x1024 ![1] bcast_S1024_S1x1024_1 (shapeCast _ (extractStridedSlice S1x1024 ![1, 0] X3 slices_S4x1024_S1x1024_1_0) shapeCasts_S1x1024_S1024)

/-- A part of the reference's term. -/
def R3 (X4 : FVec Ideal S4x1024 .f32) :=
  broadcastInDim S1x1024 ![1] bcast_S1024_S1x1024_1 (shapeCast _ (extractStridedSlice S1x1024 ![1, 0] X4 slices_S4x1024_S1x1024_1_0) shapeCasts_S1x1024_S1024)

/-- A part of the reference's term. -/
def R4 (X0 : FVec Ideal S16384x1024 .f32) (X1 : FVec Ideal S4x1024x4096 .f32) :=
  maximumf (Host.dotGeneral dot_S16384x1024_S1024x4096_S16384x4096_1_0_0_1_n_n none X0 (R0 X1)) (broadcastInDim S16384x4096 ![] bcast_S_S16384x4096 (constant S_ .f32 0x00000000#32))

/-- The down projection of the squared rectifier of the up projection. -/
def RD (X0 : FVec Ideal S16384x1024 .f32) (X1 : FVec Ideal S4x1024x4096 .f32) (X2 : FVec Ideal S4x4096x1024 .f32) : FVec Ideal S16384x1024 .f32 :=
  Host.dotGeneral dot_S16384x4096_S4096x1024_S16384x1024_1_0_0_1_n_n none (mulf (R4 X0 X1) (R4 X0 X1)) (R1 X2)

/-- A part of the reference's term. -/
def R5 (X0 : FVec Ideal S16384x1024 .f32) (X1 : FVec Ideal S4x1024x4096 .f32) (X2 : FVec Ideal S4x4096x1024 .f32) :=
  addf (mulf (broadcastInDim S16384x1024 ![] bcast_S_S16384x1024 (constant S_ .f32 0x3FD744FD#32)) X0) (RD X0 X1 X2)

/-- A part of the reference's term. -/
def R6 (X0 : FVec Ideal S16384x1024 .f32) (X1 : FVec Ideal S4x1024x4096 .f32) (X2 : FVec Ideal S4x4096x1024 .f32) :=
  broadcastInDim S16384x1 ![0] bcast_S16384_S16384x1_0 (Host.reduceAdd (R5 X0 X1 X2) (constant S_ .f32 0x00000000#32) reducesTo_S16384x1024_S16384_d1 h_S_)

/-- A part of the reference's term. -/
def R7 (X0 : FVec Ideal S16384x1024 .f32) (X1 : FVec Ideal S4x1024x4096 .f32) (X2 : FVec Ideal S4x4096x1024 .f32) :=
  broadcastInDim S16384x1024 ![0, 1] bcast_S16384x1_S16384x1024_0_1 (Host.divf (R6 X0 X1 X2) (broadcastInDim S16384x1 ![] bcast_S_S16384x1 (constant S_ .f32 0x44800000#32)))

/-- A part of the reference's term. -/
def R8 (X0 : FVec Ideal S16384x1024 .f32) (X1 : FVec Ideal S4x1024x4096 .f32) (X2 : FVec Ideal S4x4096x1024 .f32) :=
  Host.reduceAdd (mulf (subf (R5 X0 X1 X2) (R7 X0 X1 X2)) (subf (R5 X0 X1 X2) (R7 X0 X1 X2))) (constant S_ .f32 0x00000000#32) reducesTo_S16384x1024_S16384_d1 h_S_

/-- A part of the reference's term. -/
def R9 (X0 : FVec Ideal S16384x1024 .f32) (X1 : FVec Ideal S4x1024x4096 .f32) (X2 : FVec Ideal S4x4096x1024 .f32) :=
  Host.divf (broadcastInDim S16384x1 ![0] bcast_S16384_S16384x1_0 (R8 X0 X1 X2)) (broadcastInDim S16384x1 ![] bcast_S_S16384x1 (constant S_ .f32 0x44800000#32))

/-- A part of the reference's term. -/
def R10 (X0 : FVec Ideal S16384x1024 .f32) (X1 : FVec Ideal S4x1024x4096 .f32) (X2 : FVec Ideal S4x4096x1024 .f32) :=
  broadcastInDim S16384x1024 ![0, 1] bcast_S16384x1_S16384x1024_0_1 (Host.rsqrt (addf (R9 X0 X1 X2) (broadcastInDim S16384x1 ![] bcast_S_S16384x1 (constant S_ .f32 0x3727C5AC#32))))

/-- A part of the reference's term. -/
def R11 (X0 : FVec Ideal S16384x1024 .f32) (X1 : FVec Ideal S4x1024x4096 .f32) (X2 : FVec Ideal S4x4096x1024 .f32) (X3 : FVec Ideal S4x1024 .f32) :=
  mulf (mulf (subf (R5 X0 X1 X2) (R7 X0 X1 X2)) (R10 X0 X1 X2)) (broadcastInDim S16384x1024 ![0, 1] bcast_S1x1024_S16384x1024_0_1 (R2 X3))

/-- A part of the reference's term. -/
def REF (X0 : FVec Ideal S16384x1024 .f32) (X1 : FVec Ideal S4x1024x4096 .f32) (X2 : FVec Ideal S4x4096x1024 .f32) (X3 : FVec Ideal S4x1024 .f32) (X4 : FVec Ideal S4x1024 .f32) (X5 : FVec Ideal S4x4x4096x256 .f32) (X6 : FVec Ideal S4x1024x1024 .f32) (X7 : FVec Ideal S4x256x1024 .f32) :=
  addf (addf (R11 X0 X1 X2 X3) (broadcastInDim S16384x1024 ![0, 1] bcast_S1x1024_S16384x1024_0_1 (R3 X4))) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (addf (R11 X0 X1 X2 X3) (broadcastInDim S16384x1024 ![0, 1] bcast_S1x1024_S16384x1024_0_1 (R3 X4))) (shapeCast _ (extractStridedSlice S1x1024x1024 ![1, 0, 0] X6 slices_S4x1024x1024_S1x1024x1024_1_0_0) shapeCasts_S1x1024x1024_S1024x1024)))))) (Host.dotGeneral dot_S16384x256_S256x1024_S16384x1024_1_0_0_1_n_n none (shapeCast _ (extractStridedSlice S1x16384x256 ![1, 0, 0] (shapeCast _ X5 shapeCasts_S4x4x4096x256_S4x16384x256) slices_S4x16384x256_S1x16384x256_1_0_0) shapeCasts_S1x16384x256_S16384x256) (shapeCast _ (extractStridedSlice S1x256x1024 ![1, 0, 0] X7 slices_S4x256x1024_S1x256x1024_1_0_0) shapeCasts_S1x256x1024_S256x1024)))

end Cert.MlpRefIdeal.Value

namespace Cert.MlpIdeal.Value

open Cert.MlpIdeal Cert.MlpIdeal.Gen

variable (m : (ℓ : Loc nD τ sig) → Buf (Elt Ideal) ℓ)

/-- The block each window holds at a grid point. -/
theorem idx_at : ∀ t : Fin cfg0.N, win0_0.index t = ![t.val / 4, 0] ∧ win0_1.index t = ![1, 0, t.val % 4] ∧ win0_2.index t = ![1, t.val % 4, 0]
    ∧ win0_3.index t = ![1, 0, 0] ∧ win0_4.index t = ![1, 0, 0] ∧ win0_5.index t = ![1, t.val / 4, 0] ∧ win0_6.index t = ![1, 0, 0]
    ∧ win0_7.index t = ![1, 0, 0] ∧ win0_8.index t = ![t.val / 4, 0] :=
  (by decide +kernel : ∀ t : Fin grid0.N, _)

/-- The first point of a row of points keeps a copy of the activations. -/
theorem s0A (c : Dev nD) (t : Fin cfg0.N) (h0 : t.val % 4 = 0) (y) : (outsAt0 m c t.val t.isLt).2.1 y = (iblk m c 0 t) y := by
  rw [outsAt0_A m c t h0 (by omega)]
  frame_out
  pointwise [k0_pay6]

/-- The others leave the copy. -/
theorem s0B (c : Dev nD) (t : Fin cfg0.N) (h0 : ¬ t.val % 4 = 0) (y) :
   (outsAt0 m c t.val t.isLt).2.1 y = (outsAt0 m c (t.val - 1) (by omega)).2.1 y := by
  by_cases h1 : t.val % 4 = 3
  · rw [outsAt0_C m c t h0 h1]
    rfl
  · rw [outsAt0_B m c t h0 h1]
    rfl

/-- What a grid point adds into the accumulator at a block index. -/
def part (H : FVec Ideal S1024x1024 .bf16) (U D : FVec Ideal S1x1024x1024 .bf16) (i : Fin 1024) (j : Fin 1024) : EReal :=
  ∑ k : Fin 1024, (max (∑ l : Fin 1024, H (ix2 i l) * U (ix3 0 l k)) 0 * max (∑ l : Fin 1024, H (ix2 i l) * U (ix3 0 l k)) 0) * D (ix3 0 k j)

/-- What a later point adds into the accumulator. -/
theorem s1B (c : Dev nD) (t : Fin cfg0.N) (h0 : ¬ t.val % 4 = 0) (y) : (outsAt0 m c t.val t.isLt).2.2 y
     = (outsAt0 m c (t.val - 1) (by omega)).2.2 y + part (outsAt0 m c (t.val - 1) (by omega)).2.1 (iblk m c 1 t) (iblk m c 2 t) (y 0) (y 1) := by
  by_cases h1 : t.val % 4 = 3
  · rw [outsAt0_C m c t h0 h1]
    frame_out
    simp only [read_unread_whole, part]
    canon_tiles x h
    all_goals (open_payloads; pointwise; blk_point [])
  · rw [outsAt0_B m c t h0 h1]
    frame_out
    simp only [read_unread_whole, part]
    canon_tiles x h
    all_goals (open_payloads; pointwise; blk_point [])

/-- Stores that cover an index hide the earlier stores there. -/
theorem canon_drop {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, h => absurd h (by simp)
  | p :: L, y, h => by
    by_cases hy : y ∈ p.1.set
    · obtain ⟨x, rfl⟩ := p.1.exists_idx_of_mem hy
      exact (View.canon_cons_emb p.1 p.2 _ x).trans (View.canon_cons_emb p.1 p.2 _ x).symm
    · rw [List.cons_append, View.canon_cons_of_not_mem _ _ hy, View.canon_cons_of_not_mem _ _ hy]
      refine canon_drop L' L y ?_
      obtain ⟨q, hq, hm⟩ := h
      rcases List.mem_cons.mp hq with rfl | hq
      · exact absurd hm hy
      · exact ⟨q, hq, hm⟩

/-- What the first point of a row leaves in the accumulator. -/
theorem s1A (c : Dev nD) (t : Fin cfg0.N) (h0 : t.val % 4 = 0) (y) : (outsAt0 m c t.val t.isLt).2.2 y
     = 0 + part (iblk m c 0 t) (iblk m c 1 t) (iblk m c 2 t) (y 0) (y 1) := by
  rw [outsAt0_A m c t h0 (by omega)]
  frame_open
  simp (disch := decide) only [↓ View.readCov_skip, ↓ View.readCov_cons_toLoadRect, ↓ View.readCov_fill]
  frame_out
  refine (canon_drop [_] [_, _, _, _] y (View.cover_of_tiledL _ ![1024, 256] (by sl_kernel_rfl) y)).trans ?_
  unfold part
  canon_tiles x h
  all_goals (open_payloads; pointwise; blk_point [])

/-- A load of the whole accumulator after the stores that tile it reads what they leave. -/
theorem load_whole (v : View sig .tc .vmem S1024x1024 .f32) (L : List (View.Piece (Elt Ideal) S1024x1024 .f32)) :
    v.readCov L (Rect.unit ![0, 0] ![1024, 1024] inb_S1024x1024_S1024x1024_0_0).toLoadRect = View.canon L := by
  rw [View.readCov_eq_canon']
  exact View.ld_unit_lit (S := S1024x1024) inb_S1024x1024_S1024x1024_0_0 (View.canon L) (by decide)

/-- What the last point of a row stores, over the accumulator. -/
theorem outC (c : Dev nD) (t : Fin cfg0.N) (h1 : t.val % 4 = 3) : (outsAt0 m c t.val t.isLt).1
     = k0_pay3 (k0_pay4 (iblk m c 0 t) (outsAt0 m c t.val t.isLt).2.2 (iblk m c 3 t) (iblk m c 4 t))
      (k0_pay5 (iblk m c 0 t) (outsAt0 m c t.val t.isLt).2.2 (iblk m c 3 t) (iblk m c 4 t) (iblk m c 6 t)) (iblk m c 5 t) (iblk m c 7 t) := by
  rw [outsAt0_C m c t (by omega) h1]
  frame_out
  simp only [load_whole]

/-- The kept copy of the activations. -/
theorem s0 (c : Dev nD) : ∀ (n : ℕ) (h : n < cfg0.N) (y), (outsAt0 m c n h).2.1 y = (iblk m c 0 ⟨n, h⟩) y := by
  intro n
  induction n with
  | zero => intro h y; exact s0A m c ⟨0, h⟩ rfl y
  | succ n ih =>
    intro h y
    by_cases h0 : (n + 1) % 4 = 0
    · exact s0A m c ⟨n + 1, h⟩ h0 y
    · refine (s0B m c ⟨n + 1, h⟩ h0 y).trans ((ih _ y).trans ?_)
      blk_ext [iblk, V, idx_at ⟨n, by omega⟩, idx_at ⟨n + 1, h⟩]

/-- What the accumulator holds at the last point of a row of points. -/
theorem acc_sum (c : Dev nD) (t : Fin cfg0.N) (h : t.val % 4 = 4 - 1) (y) : (outsAt0 m c t.val t.isLt).2.2 y
    = ∑ s : Fin 4, part (iblk m c 0 ⟨4 * (t.val / 4) + s.val, Pipeline.run_point_lt_of_flush t h s⟩) (iblk m c 1 ⟨4 * (t.val / 4) + s.val, Pipeline.run_point_lt_of_flush t h s⟩)
        (iblk m c 2 ⟨4 * (t.val / 4) + s.val, Pipeline.run_point_lt_of_flush t h s⟩) (y 0) (y 1) := by
  refine (Pipeline.eq_sum_fin_of_reset_step_apply_of_flush (fun n h => (outsAt0 m c n h).2.2) 4 (fun _ => (0 : EReal))
    (fun t y => part (iblk m c 0 t) (iblk m c 1 t) (iblk m c 2 t) (y 0) (y 1)) (fun t h y => s1A m c t h y) (fun t h y => ?_) t h y).trans ?_
  · refine (s1B m c t h y).trans ?_
    refine congrArg (fun H => (outsAt0 m c (t.val - 1) (by omega)).2.2 y + part H (iblk m c 1 t) (iblk m c 2 t) (y 0) (y 1)) (funext fun x => ?_)
    refine (s0 m c _ _ x).trans ?_
    blk_ext [iblk, V, idx_at ⟨t.val - 1, by omega⟩, idx_at t]
  · rw [zero_add]

open Cert.MlpRefIdeal.Value in
/-- The accumulator holds the reference's down projection. -/
theorem acc_at (c : Dev nD) (t : Fin cfg0.N) (h : t.val % 4 = 4 - 1) (y) : (outsAt0 m c t.val t.isLt).2.2 y
    = RD (m ((c : Thread nD τ).loc main_arg0)) (m ((c : Thread nD τ).loc main_arg1)) (m ((c : Thread nD τ).loc main_arg2)) (((cfg0.win 8).blk t).view.emb y) := by
  have ht : t.val < 64 := lt_of_lt_of_eq t.isLt N_0
  rw [acc_sum m c t h y]
  unfold part
  pointwise [RD, R4, R0, R1]
  refine Fin.sum_mul_add_congr fun s k hl => ?_
  blk_point [iblk, V, idx_at ⟨_, Pipeline.run_point_lt_of_flush t h s⟩, idx_at t]

open Cert.MlpRefIdeal.Value in
/-- What the last point of a row of points stores is the reference's value at the array index the block index sits at. -/
theorem stored_at (c : Dev nD) (t : Fin cfg0.N) (h : t.val % 4 = 4 - 1) (y) :
    (outsAt0 m c t.val t.isLt).1 y
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (((cfg0.win 8).blk t).view.emb y) := by
  have ht : t.val < 64 := lt_of_lt_of_eq t.isLt N_0
  rw [outC m c t h]
  have hacc := acc_at m c t h
  generalize (outsAt0 m c t.val t.isLt).2.2 = acc at hacc ⊢
  obtain rfl : acc = fun y => _ := funext hacc
  pointwise [REF, R11, R10, R9, R8, R7, R6, R5, R3, R2, k0_pay3, k0_pay4, k0_pay5]
  simp only [Cert.Sigmoid.half_tanh]
  blk_point [iblk, V, idx_at t]

/-- The result array after the run. -/
theorem final_array (c : Dev nD) : (dats m 0 c).arrAt 8 (cfgs 0).N
    = Cert.MlpRefIdeal.Value.REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t hf y => ?_
  blk_simp
  rw [after0_8]
  exact stored_at m c t ((flush0_8 t).mp hf) y

end Cert.MlpIdeal.Value

end
-- ==== Proof.MlpClaims.lean ====
/- The claims about the call `Mlp`: its reference ends without fault, and over the extended reals the kernel computes what the reference computes. -/
module

public import proofs.«01_k».proof.Defs
public import proofs.«01_k».proof.Proof.Gen.Mlp.Frame
public import proofs.«01_k».proof.Proof.MlpValue
public import proofs.«01_k».proof.Proof.Gen.MlpRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `Mlp` ends without fault, its arguments unchanged. -/
theorem quiescent_MlpRefIdeal : quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The call `Mlp` and its reference end with the same array. -/
theorem algebraic_MlpIdeal_MlpRefIdeal : algebraic_MlpIdeal_MlpRefIdeal := by
  intro m ρ m' ρ' _ hagree
  refine ⟨fun c => Cert.MlpRefIdeal.Value.REF (m (c.tc.loc Cert.MlpIdeal.main_arg0)) (m (c.tc.loc Cert.MlpIdeal.main_arg1)) (m (c.tc.loc Cert.MlpIdeal.main_arg2)) (m (c.tc.loc Cert.MlpIdeal.main_arg3)) (m (c.tc.loc Cert.MlpIdeal.main_arg4)) (m (c.tc.loc Cert.MlpIdeal.main_arg5)) (m (c.tc.loc Cert.MlpIdeal.main_arg6)) (m (c.tc.loc Cert.MlpIdeal.main_arg7)),
    (θ_run Cert.MlpIdeal.defs _ _).mono (fun r h c => ⟨(h c).1.trans (Cert.MlpIdeal.Value.final_array m c), (h c).2⟩)
      (Cert.MlpIdeal.Value.run_blocks (F := Ideal) m ρ), ?_⟩
  refine (θ_run Cert.MlpRefIdeal.defs _ _).mono (fun r h c => ⟨(h c).1.trans ?_, (h c).2⟩)
    (Cert.MlpRefIdeal.Value.run (F := Ideal) m' ρ')
  obtain ⟨h0, h1, h2, h3, h4, h5, h6, h7⟩ := hagree c
  refine Eq.trans (b := Cert.MlpRefIdeal.Value.REF (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) (m' (c.tc.loc Cert.MlpRefIdeal.main_arg6)) (m' (c.tc.loc Cert.MlpRefIdeal.main_arg7))) rfl ?_
  rw [h0, h1, h2, h3, h4, h5, h6, h7]

end Cert.Proof

end
-- ==== Proof.ProjLnValue.lean ====
/- The array the call `ProjLn` ends with is its reference's: the layer norm of the residual plus the product. -/
module

public import proofs.«01_k».proof.Proof.Gen.ProjLnIdeal.Value
public import proofs.«01_k».proof.Proof.Gen.ProjLnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjLnRefIdeal.Value

open Cert.ProjLnRefIdeal Cert.ProjLnRefIdeal.Gen

/-- The sum under the norm: the scaled residual plus the product. -/
def R0 (X0 : FVec Ideal S16384x1024 .bf16) (X1 : FVec Ideal S1024x1024 .f32) (X2 : FVec Ideal S16384x1024 .f32) :=
  addf (mulf (broadcastInDim S16384x1024 ![] bcast_S_S16384x1024 (constant S_ .f32 0x3FD744FD#32)) X2) (Host.dotGeneral dot_S16384x1024_S1024x1024_S16384x1024_1_0_0_1_n_n none (extf .f32 X0 bitsLt_bf16_f32) X1)

/-- Its row sums. -/
def R1 (X0 : FVec Ideal S16384x1024 .bf16) (X1 : FVec Ideal S1024x1024 .f32) (X2 : FVec Ideal S16384x1024 .f32) :=
  broadcastInDim S16384x1 ![0] bcast_S16384_S16384x1_0 (Host.reduceAdd (R0 X0 X1 X2) (constant S_ .f32 0x00000000#32) reducesTo_S16384x1024_S16384_d1 h_S_)

/-- Its row means, one per element. -/
def R2 (X0 : FVec Ideal S16384x1024 .bf16) (X1 : FVec Ideal S1024x1024 .f32) (X2 : FVec Ideal S16384x1024 .f32) :=
  broadcastInDim S16384x1024 ![0, 1] bcast_S16384x1_S16384x1024_0_1 (Host.divf (R1 X0 X1 X2) (broadcastInDim S16384x1 ![] bcast_S_S16384x1 (constant S_ .f32 0x44800000#32)))

/-- The reference's term: the layer norm of that sum. -/
def REF (X0 : FVec Ideal S16384x1024 .bf16) (X1 : FVec Ideal S1024x1024 .f32) (X2 : FVec Ideal S16384x1024 .f32) (X3 : FVec Ideal S1024 .f32) (X4 : FVec Ideal S1024 .f32) :=
  addf (mulf (mulf (subf (R0 X0 X1 X2) (R2 X0 X1 X2)) (broadcastInDim S16384x1024 ![0, 1] bcast_S16384x1_S16384x1024_0_1 (Host.rsqrt (addf (Host.divf (broadcastInDim S16384x1 ![0] bcast_S16384_S16384x1_0 (Host.reduceAdd (mulf (subf (R0 X0 X1 X2) (R2 X0 X1 X2)) (subf (R0 X0 X1 X2) (R2 X0 X1 X2))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 X3))) (broadcastInDim S16384x1024 ![0, 1] bcast_S1x1024_S16384x1024_0_1 (broadcastInDim S1x1024 ![1] bcast_S1024_S1x1024_1 X4))

end Cert.ProjLnRefIdeal.Value

namespace Cert.ProjLnIdeal.Value

open Cert.ProjLnIdeal Cert.ProjLnIdeal.Gen

variable (m : (ℓ : Loc nD τ sig) → Buf (Elt Ideal) ℓ)

/-- The block each window holds at a grid point. -/
theorem idx_at : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

open Cert.ProjLnRefIdeal.Value in
/-- What a grid point stores is the reference's value at the array index the block index sits at. -/
theorem stored_at (c : Dev nD) (t : Fin cfg0.N) (y) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  have ht : t.val < 16 := lt_of_lt_of_eq t.isLt N_0
  unfold out0_5
  canon_tiles x h
  all_goals (open_payloads; pointwise [REF, R0, R1, R2]; blk_point [iblk, V, idx_at t])

/-- The result array after the run. -/
theorem final_array (c : Dev nD) : (dats m 0 c).arrAt 5 (cfgs 0).N
    = Cert.ProjLnRefIdeal.Value.REF (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact stored_at m c t y

end Cert.ProjLnIdeal.Value

end
-- ==== Proof.ProjLnClaims.lean ====
/- The claims about the call `ProjLn`: its reference ends without fault, and over the extended reals the kernel computes what the reference computes. -/
module

public import proofs.«01_k».proof.Defs
public import proofs.«01_k».proof.Proof.Gen.ProjLn.Frame
public import proofs.«01_k».proof.Proof.ProjLnValue
public import proofs.«01_k».proof.Proof.Gen.ProjLnRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `ProjLn` ends without fault, its arguments unchanged. -/
theorem quiescent_ProjLnRefIdeal : quiescent_ProjLnRefIdeal := fun m ρ _ =>
  (θ_run Cert.ProjLnRefIdeal.defs _ _).mono (fun r h => ⟨fun c => (h c).2, sem_eq_zero_of_no_sems (by decide) r.2⟩)
    (Cert.ProjLnRefIdeal.Value.run (F := Ideal) m ρ)

/-- The call `ProjLn` and its reference end with the same array. -/
theorem algebraic_ProjLnIdeal_ProjLnRefIdeal : algebraic_ProjLnIdeal_ProjLnRefIdeal := by
  intro m ρ m' ρ' _ hagree
  refine ⟨fun c => Cert.ProjLnRefIdeal.Value.REF (m (c.tc.loc Cert.ProjLnIdeal.main_arg0)) (m (c.tc.loc Cert.ProjLnIdeal.main_arg1)) (m (c.tc.loc Cert.ProjLnIdeal.main_arg2)) (m (c.tc.loc Cert.ProjLnIdeal.main_arg3)) (m (c.tc.loc Cert.ProjLnIdeal.main_arg4)),
    (θ_run Cert.ProjLnIdeal.defs _ _).mono (fun r h c => ⟨(h c).1.trans (Cert.ProjLnIdeal.Value.final_array m c), (h c).2⟩)
      (Cert.ProjLnIdeal.Value.run_blocks (F := Ideal) m ρ), ?_⟩
  refine (θ_run Cert.ProjLnRefIdeal.defs _ _).mono (fun r h c => ⟨(h c).1.trans ?_, (h c).2⟩)
    (Cert.ProjLnRefIdeal.Value.run (F := Ideal) m' ρ')
  obtain ⟨h0, h1, h2, h3, h4⟩ := hagree c
  refine Eq.trans (b := Cert.ProjLnRefIdeal.Value.REF (m' (c.tc.loc Cert.ProjLnRefIdeal.main_arg0)) (m' (c.tc.loc Cert.ProjLnRefIdeal.main_arg1)) (m' (c.tc.loc Cert.ProjLnRefIdeal.main_arg2)) (m' (c.tc.loc Cert.ProjLnRefIdeal.main_arg3)) (m' (c.tc.loc Cert.ProjLnRefIdeal.main_arg4))) rfl ?_
  rw [h0, h1, h2, h3, h4]

end Cert.Proof

end
-- ==== Proof.ProjValue.lean ====
/- The array the call `Proj` ends with is its reference's product. -/
module

public import proofs.«01_k».proof.Proof.Gen.ProjIdeal.Value
public import proofs.«01_k».proof.Proof.Gen.ProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjRefIdeal.Value

open Cert.ProjRefIdeal Cert.ProjRefIdeal.Gen

/-- The reference's term: the product of the activations and the weights, rounded. -/
def REF (X : FVec Ideal S16384x1024 .f32) (W : FVec Ideal S1024x3072 .f32) : FVec Ideal S16384x3072 .bf16 :=
  truncf .bf16 (Host.dotGeneral dot_S16384x1024_S1024x3072_S16384x3072_1_0_0_1_n_n none X W) bitsLt_bf16_f32

end Cert.ProjRefIdeal.Value

namespace Cert.ProjIdeal.Value

open Cert.ProjIdeal Cert.ProjIdeal.Gen

variable (m : (ℓ : Loc nD τ sig) → Buf (Elt Ideal) ℓ)

/-- The block each window holds at a grid point. -/
theorem idx_at : ∀ t : Fin cfg0.N, win0_0.index t = ![t.val, 0] ∧ win0_1.index t = ![0, 0] ∧ win0_2.index t = ![t.val, 0] :=
  (by decide +kernel : ∀ t : Fin grid0.N, _)

open Cert.ProjRefIdeal.Value in
/-- What a grid point stores is the reference's product at the array index the block index sits at. -/
theorem stored_at (c : Dev nD) (t : Fin cfg0.N) (y) : out0_2 (iblk m c 0 t) (iblk m c 1 t) y
    = Cert.ProjRefIdeal.Value.REF (m ((c : Thread nD τ).loc main_arg0)) (m ((c : Thread nD τ).loc main_arg1)) (((cfg0.win 2).blk t).view.emb y) := by
  have ht : t.val < 16 := lt_of_lt_of_eq t.isLt N_0
  unfold out0_2
  canon_tiles x h
  all_goals (open_payloads; pointwise [REF]; blk_point [iblk, V, idx_at t])

/-- The result array after the run. -/
theorem final_array (c : Dev nD) : (dats m 0 c).arrAt 2 (cfgs 0).N
    = Cert.ProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  exact stored_at m c t y

end Cert.ProjIdeal.Value

end
-- ==== Proof.ProjClaims.lean ====
/- The claims about the call `Proj`: its reference ends without fault, and over the extended reals the kernel computes what the reference computes. -/
module

public import proofs.«01_k».proof.Defs
public import proofs.«01_k».proof.Proof.Gen.Proj.Frame
public import proofs.«01_k».proof.Proof.ProjValue
public import proofs.«01_k».proof.Proof.Gen.ProjRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `Proj` ends without fault, its arguments unchanged. -/
theorem quiescent_ProjRefIdeal : quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The call `Proj` and its reference end with the same array. -/
theorem algebraic_ProjIdeal_ProjRefIdeal : algebraic_ProjIdeal_ProjRefIdeal := by
  intro m ρ m' ρ' _ hagree
  refine ⟨fun c => Cert.ProjRefIdeal.Value.REF (m (c.tc.loc Cert.ProjIdeal.main_arg0)) (m (c.tc.loc Cert.ProjIdeal.main_arg1)),
    (θ_run Cert.ProjIdeal.defs _ _).mono (fun r h c => ⟨(h c).1.trans (Cert.ProjIdeal.Value.final_array m c), (h c).2⟩)
      (Cert.ProjIdeal.Value.run_blocks (F := Ideal) m ρ), ?_⟩
  refine (θ_run Cert.ProjRefIdeal.defs _ _).mono (fun r h c => ⟨(h c).1.trans ?_, (h c).2⟩)
    (Cert.ProjRefIdeal.Value.run (F := Ideal) m' ρ')
  obtain ⟨h0, h1⟩ := hagree c
  refine Eq.trans (b := Cert.ProjRefIdeal.Value.REF (m' (c.tc.loc Cert.ProjRefIdeal.main_arg0)) (m' (c.tc.loc Cert.ProjRefIdeal.main_arg1))) rfl ?_
  rw [h0, h1]

end Cert.Proof

end
-- ==== Proof.QkvValue.lean ====
/- The array the call `Qkv` ends with is its reference's: the product with its first third scaled. -/
module

public import proofs.«01_k».proof.Proof.Gen.QkvIdeal.Value
public import proofs.«01_k».proof.Proof.Gen.QkvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvRefIdeal.Value

open Cert.QkvRefIdeal Cert.QkvRefIdeal.Gen

/-- The reference's term: the product, its first third scaled, rounded. -/
def REF (X0 : FVec Ideal S16384x1024 .f32) (X1 : FVec Ideal S1024x3072 .f32) :=
  truncf .bf16 ((concatenate S16384x3072 1 [⟨S16384x1024, ((mulf (extractStridedSlice S16384x1024 ![0, 0] (Host.dotGeneral dot_S16384x1024_S1024x3072_S16384x3072_1_0_0_1_n_n none X0 X1) slices_S16384x3072_S16384x1024_0_0) (broadcastInDim S16384x1024 ![] bcast_S_S16384x1024 (constant S_ .f32 0x3E38AA3B#32))) : FVec Ideal S16384x1024 .f32)⟩, ⟨S16384x1024, ((extractStridedSlice S16384x1024 ![0, 1024] (Host.dotGeneral dot_S16384x1024_S1024x3072_S16384x3072_1_0_0_1_n_n none X0 X1) slices_S16384x3072_S16384x1024_0_1024) : FVec Ideal S16384x1024 .f32)⟩, ⟨S16384x1024, ((extractStridedSlice S16384x1024 ![0, 2048] (Host.dotGeneral dot_S16384x1024_S1024x3072_S16384x3072_1_0_0_1_n_n none X0 X1) slices_S16384x3072_S16384x1024_0_2048) : FVec Ideal S16384x1024 .f32)⟩] concatenates_S16384x1024_S16384x1024_S16384x1024_S16384x3072_d1 : FVec Ideal S16384x3072 .f32)) bitsLt_bf16_f32

end Cert.QkvRefIdeal.Value

namespace Cert.QkvIdeal.Value

open Cert.QkvIdeal Cert.QkvIdeal.Gen

variable (m : (ℓ : Loc nD τ sig) → Buf (Elt Ideal) ℓ)

/-- The block each window holds at a grid point. -/
theorem idx_at : ∀ t : Fin cfg0.N, win0_0.index t = ![t.val, 0] ∧ win0_1.index t = ![0, 0] ∧ win0_2.index t = ![t.val, 0] :=
  (by decide +kernel : ∀ t : Fin grid0.N, _)

open Cert.QkvRefIdeal.Value in
/-- What a grid point stores is the reference's value at the array index the block index sits at. -/
theorem stored_at (c : Dev nD) (t : Fin cfg0.N) (y) : out0_2 (iblk m c 0 t) (iblk m c 1 t) y
    = REF (m ((c : Thread nD τ).loc main_arg0)) (m ((c : Thread nD τ).loc main_arg1)) (((cfg0.win 2).blk t).view.emb y) := by
  have ht : t.val < 16 := lt_of_lt_of_eq t.isLt N_0
  unfold out0_2
  canon_tiles x h
  all_goals (open_payloads; pointwise [REF]; blk_simp [idx_at t]; pointwise [h0, h1]; blk_point [iblk, V, idx_at t] <;> (exfalso; omega))

/-- The result array after the run. -/
theorem final_array (c : Dev nD) : (dats m 0 c).arrAt 2 (cfgs 0).N
    = Cert.QkvRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  exact stored_at m c t y

end Cert.QkvIdeal.Value

end
-- ==== Proof.QkvClaims.lean ====
/- The claims about the call `Qkv`: its reference ends without fault, and over the extended reals the kernel computes what the reference computes. -/
module

public import proofs.«01_k».proof.Defs
public import proofs.«01_k».proof.Proof.Gen.Qkv.Frame
public import proofs.«01_k».proof.Proof.QkvValue
public import proofs.«01_k».proof.Proof.Gen.QkvRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `Qkv` ends without fault, its arguments unchanged. -/
theorem quiescent_QkvRefIdeal : quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The call `Qkv` and its reference end with the same array. -/
theorem algebraic_QkvIdeal_QkvRefIdeal : algebraic_QkvIdeal_QkvRefIdeal := by
  intro m ρ m' ρ' _ hagree
  refine ⟨fun c => Cert.QkvRefIdeal.Value.REF (m (c.tc.loc Cert.QkvIdeal.main_arg0)) (m (c.tc.loc Cert.QkvIdeal.main_arg1)),
    (θ_run Cert.QkvIdeal.defs _ _).mono (fun r h c => ⟨(h c).1.trans (Cert.QkvIdeal.Value.final_array m c), (h c).2⟩)
      (Cert.QkvIdeal.Value.run_blocks (F := Ideal) m ρ), ?_⟩
  refine (θ_run Cert.QkvRefIdeal.defs _ _).mono (fun r h c => ⟨(h c).1.trans ?_, (h c).2⟩)
    (Cert.QkvRefIdeal.Value.run (F := Ideal) m' ρ')
  obtain ⟨h0, h1⟩ := hagree c
  refine Eq.trans (b := Cert.QkvRefIdeal.Value.REF (m' (c.tc.loc Cert.QkvRefIdeal.main_arg0)) (m' (c.tc.loc Cert.QkvRefIdeal.main_arg1))) rfl ?_
  rw [h0, h1]

end Cert.Proof

end
-- ==== Proof.RwProjValue.lean ====
/- The six arrays the call `RwProj` ends with are its reference's. -/
module

public import proofs.«01_k».proof.Proof.Gen.RwProjIdeal.Value
public import proofs.«01_k».proof.Proof.Gen.RwProjRefIdeal.Run
public import Idealize.ShloMosaic.Lib.Pipeline.ValueKit
public import Idealize.ShloMosaic.Lib.Pipeline.ReadBack
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.RwProjRefIdeal.Value

open Cert.RwProjRefIdeal Cert.RwProjRefIdeal.Gen

/-- The previous token minus the token: zero stands before each sequence. -/
def DIFF (X0 : FVec Ideal S16384x1024 .f32) : FVec Ideal S4x4096x1024 .f32 :=
  subf (extractStridedSlice S4x4096x1024 ![0, 0, 0] (pad S4x4097x1024 ![0, 1, 0] ![0, 0, 0] ![0, 0, 0] (shapeCast _ X0 shapeCasts_S16384x1024_S4x4096x1024) (sitofp .f32 (constantI S_ 32 0#32)) pads_S4x4096x1024_S4x4097x1024_000_100_000 h_S_) slices_S4x4097x1024_S4x4096x1024_0_0_0) (shapeCast _ X0 shapeCasts_S16384x1024_S4x4096x1024)

/-- The six mixtures of a token with the one before it. -/
def MIX (X0 : FVec Ideal S16384x1024 .f32) (X1 : FVec Ideal S6x1024 .f32) : FVec Ideal S4x4096x6x1024 .f32 :=
  addf (broadcastInDim S4x4096x6x1024 ![0, 1, 2, 3] bcast_S4x4096x1x1024_S4x4096x6x1024_0_1_2_3 (broadcastInDim S4x4096x1x1024 ![0, 1, 3] bcast_S4x4096x1024_S4x4096x1x1024_0_1_3 (shapeCast _ X0 shapeCasts_S16384x1024_S4x4096x1024))) (mulf (broadcastInDim S4x4096x6x1024 ![0, 1, 2, 3] bcast_S4x4096x1x1024_S4x4096x6x1024_0_1_2_3 (broadcastInDim S4x4096x1x1024 ![0, 1, 3] bcast_S4x4096x1024_S4x4096x1x1024_0_1_3 (DIFF X0))) (broadcastInDim S4x4096x6x1024 ![0, 1, 2, 3] bcast_S1x1x6x1024_S4x4096x6x1024_0_1_2_3 (broadcastInDim S1x1x6x1024 ![2, 3] bcast_S6x1024_S1x1x6x1024_2_3 X1)))

/-- The argument of the decay. -/
def LW (X0 : FVec Ideal S16384x1024 .f32) (X1 : FVec Ideal S6x1024 .f32) (X3 : FVec Ideal S1024 .f32) (X4 : FVec Ideal S1024x64 .f32) (X5 : FVec Ideal S64x1024 .f32) : FVec Ideal S4x4096x1024 .f32 :=
  addf (broadcastInDim S4x4096x1024 ![0, 1, 2] bcast_S1x1x1024_S4x4096x1024_0_1_2 (broadcastInDim S1x1x1024 ![2] bcast_S1024_S1x1x1024_2 X3)) (Host.dotGeneral dot_S4x4096x64_S64x1024_S4x4096x1024_2_0_01_1_n_n none (Host.tanh (Host.dotGeneral dot_S4x4096x1024_S1024x64_S4x4096x64_2_0_01_1_n_n none (shapeCast _ (extractStridedSlice S4x4096x1x1024 ![0, 0, 3, 0] (MIX X0 X1) slices_S4x4096x6x1024_S4x4096x1x1024_0_0_3_0) shapeCasts_S4x4096x1x1024_S4x4096x1024) X4)) X5)

/-- The reference's receptance. -/
def REF0 (X0 : FVec Ideal S16384x1024 .f32) (X1 : FVec Ideal S6x1024 .f32) (X2 : FVec Ideal S3x1024x1024 .f32) : FVec Ideal S16384x1024 .bf16 :=
  truncf .bf16 (shapeCast _ (shapeCast _ (extractStridedSlice S4x4096x1x1024 ![0, 0, 0, 0] (transpose S4x4096x3x1024 [2, 3, 0, 1] (Host.dotGeneral dot_S3x1024x1024_S4x4096x3x1024_S3x1024x4x4096_1_3_2_01_0_2 none X2 (extractStridedSlice S4x4096x3x1024 ![0, 0, 0, 0] (MIX X0 X1) slices_S4x4096x6x1024_S4x4096x3x1024_0_0_0_0)) transposes_S3x1024x4x4096_S4x4096x3x1024_2_3_0_1) slices_S4x4096x3x1024_S4x4096x1x1024_0_0_0_0) shapeCasts_S4x4096x1x1024_S4x4096x1024) shapeCasts_S4x4096x1024_S16384x1024) bitsLt_bf16_f32

/-- The reference's key. -/
def REF1 (X0 : FVec Ideal S16384x1024 .f32) (X1 : FVec Ideal S6x1024 .f32) (X2 : FVec Ideal S3x1024x1024 .f32) : FVec Ideal S16384x1024 .bf16 :=
  truncf .bf16 (shapeCast _ (shapeCast _ (extractStridedSlice S4x4096x1x1024 ![0, 0, 1, 0] (transpose S4x4096x3x1024 [2, 3, 0, 1] (Host.dotGeneral dot_S3x1024x1024_S4x4096x3x1024_S3x1024x4x4096_1_3_2_01_0_2 none X2 (extractStridedSlice S4x4096x3x1024 ![0, 0, 0, 0] (MIX X0 X1) slices_S4x4096x6x1024_S4x4096x3x1024_0_0_0_0)) transposes_S3x1024x4x4096_S4x4096x3x1024_2_3_0_1) slices_S4x4096x3x1024_S4x4096x1x1024_0_0_1_0) shapeCasts_S4x4096x1x1024_S4x4096x1024) shapeCasts_S4x4096x1024_S16384x1024) bitsLt_bf16_f32

/-- The reference's value. -/
def REF2 (X0 : FVec Ideal S16384x1024 .f32) (X1 : FVec Ideal S6x1024 .f32) (X2 : FVec Ideal S3x1024x1024 .f32) : FVec Ideal S16384x1024 .bf16 :=
  truncf .bf16 (shapeCast _ (shapeCast _ (extractStridedSlice S4x4096x1x1024 ![0, 0, 2, 0] (transpose S4x4096x3x1024 [2, 3, 0, 1] (Host.dotGeneral dot_S3x1024x1024_S4x4096x3x1024_S3x1024x4x4096_1_3_2_01_0_2 none X2 (extractStridedSlice S4x4096x3x1024 ![0, 0, 0, 0] (MIX X0 X1) slices_S4x4096x6x1024_S4x4096x3x1024_0_0_0_0)) transposes_S3x1024x4x4096_S4x4096x3x1024_2_3_0_1) slices_S4x4096x3x1024_S4x4096x1x1024_0_0_2_0) shapeCasts_S4x4096x1x1024_S4x4096x1024) shapeCasts_S4x4096x1024_S16384x1024) bitsLt_bf16_f32

/-- The reference's log decay. -/
def REF3 (X0 : FVec Ideal S16384x1024 .f32) (X1 : FVec Ideal S6x1024 .f32) (X3 : FVec Ideal S1024 .f32) (X4 : FVec Ideal S1024x64 .f32) (X5 : FVec Ideal S64x1024 .f32) : FVec Ideal S16384x1024 .f32 :=
  shapeCast _ (Host.negf (Host.exp (subf (Host.negf (select (cmpf .une (subf (Host.negf (LW X0 X1 X3 X4 X5)) (broadcastInDim S4x4096x1024 ![] bcast_S_S4x4096x1024 (constant S_ .f32 0x00000000#32))) (subf (Host.negf (LW X0 X1 X3 X4 X5)) (broadcastInDim S4x4096x1024 ![] bcast_S_S4x4096x1024 (constant S_ .f32 0x00000000#32)))) (addf (Host.negf (LW X0 X1 X3 X4 X5)) (broadcastInDim S4x4096x1024 ![] bcast_S_S4x4096x1024 (constant S_ .f32 0x00000000#32))) (addf (maximumf (Host.negf (LW X0 X1 X3 X4 X5)) (broadcastInDim S4x4096x1024 ![] bcast_S_S4x4096x1024 (constant S_ .f32 0x00000000#32))) (Host.log1p (Host.exp (Host.negf (Host.absf (subf (Host.negf (LW X0 X1 X3 X4 X5)) (broadcastInDim S4x4096x1024 ![] bcast_S_S4x4096x1024 (constant S_ .f32 0x00000000#32)))))))))) (broadcastInDim S4x4096x1024 ![] bcast_S_S4x4096x1024 (constant S_ .f32 0x3F000000#32))))) shapeCasts_S4x4096x1024_S16384x1024

/-- The reference's in-context rate. -/
def REF4 (X0 : FVec Ideal S16384x1024 .f32) (X1 : FVec Ideal S6x1024 .f32) (X6 : FVec Ideal S1024 .f32) (X7 : FVec Ideal S1024x64 .f32) (X8 : FVec Ideal S64x1024 .f32) : FVec Ideal S16384x1024 .f32 :=
  shapeCast _ (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (addf (broadcastInDim S4x4096x1024 ![0, 1, 2] bcast_S1x1x1024_S4x4096x1024_0_1_2 (broadcastInDim S1x1x1024 ![2] bcast_S1024_S1x1x1024_2 X6)) (Host.dotGeneral dot_S4x4096x64_S64x1024_S4x4096x1024_2_0_01_1_n_n none (Host.dotGeneral dot_S4x4096x1024_S1024x64_S4x4096x64_2_0_01_1_n_n none (shapeCast _ (extractStridedSlice S4x4096x1x1024 ![0, 0, 4, 0] (MIX X0 X1) slices_S4x4096x6x1024_S4x4096x1x1024_0_0_4_0) shapeCasts_S4x4096x1x1024_S4x4096x1024) X7) X8)))))) shapeCasts_S4x4096x1024_S16384x1024

/-- The reference's gate. -/
def REF5 (X0 : FVec Ideal S16384x1024 .f32) (X1 : FVec Ideal S6x1024 .f32) (X9 : FVec Ideal S1024x128 .f32) (X10 : FVec Ideal S128x1024 .f32) : FVec Ideal S16384x1024 .bf16 :=
  truncf .bf16 (shapeCast _ (Host.dotGeneral dot_S4x4096x128_S128x1024_S4x4096x1024_2_0_01_1_n_n none (Host.divf (broadcastInDim S4x4096x128 ![] bcast_S_S4x4096x128 (constant S_ .f32 0x3F800000#32)) (addf (broadcastInDim S4x4096x128 ![] bcast_S_S4x4096x128 (constant S_ .f32 0x3F800000#32)) (Host.exp (Host.negf (Host.dotGeneral dot_S4x4096x1024_S1024x128_S4x4096x128_2_0_01_1_n_n none (shapeCast _ (extractStridedSlice S4x4096x1x1024 ![0, 0, 5, 0] (MIX X0 X1) slices_S4x4096x6x1024_S4x4096x1x1024_0_0_5_0) shapeCasts_S4x4096x1x1024_S4x4096x1024) X9))))) X10) shapeCasts_S4x4096x1024_S16384x1024) bitsLt_bf16_f32

end Cert.RwProjRefIdeal.Value

namespace Cert.RwProjIdeal.Value

open Cert.RwProjIdeal Cert.RwProjIdeal.Gen

variable (m : (ℓ : Loc nD τ sig) → Buf (Elt Ideal) ℓ)

/-- The block each window holds at a grid point. -/
theorem idx_at : ∀ t : Fin cfg0.N, win0_0.index t = ![t.val, 0] ∧ win0_1.index t = ![64 * t.val - 1, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

/-- The first grid coordinate is the point. -/
theorem coord_at : ∀ t : Fin cfg0.N, (grid0.coords t 0).val = t.val := (by decide +kernel : ∀ t : Fin grid0.N, _)

/-- The kernel's test for a sequence's first block, as words. -/
def atStart (n : ℕ) : BitVec 1 :=
  Scalar.cmpi .eq (Scalar.select (Scalar.andi (Scalar.xori (Scalar.cmpi .slt (Scalar.remsi (Scalar.muli (BitVec.ofNat 32 n) 512#32) (Scalar.select (Scalar.cmpi .eq 4096#32 0#32) 1#32 4096#32)) 0#32) (Scalar.cmpi .slt (Scalar.select (Scalar.cmpi .eq 4096#32 0#32) 1#32 4096#32) 0#32)) (Scalar.cmpi .ne (Scalar.remsi (Scalar.muli (BitVec.ofNat 32 n) 512#32) (Scalar.select (Scalar.cmpi .eq 4096#32 0#32) 1#32 4096#32)) 0#32))
    (Scalar.addi (Scalar.remsi (Scalar.muli (BitVec.ofNat 32 n) 512#32) (Scalar.select (Scalar.cmpi .eq 4096#32 0#32) 1#32 4096#32)) (Scalar.select (Scalar.cmpi .eq 4096#32 0#32) 1#32 4096#32))
    (Scalar.remsi (Scalar.muli (BitVec.ofNat 32 n) 512#32) (Scalar.select (Scalar.cmpi .eq 4096#32 0#32) 1#32 4096#32))) 0#32

/-- It holds at every eighth block. -/
theorem atStart_eq : ∀ n : Fin 32, atStart n.val = BitVec.ofBool (decide (n.val % 8 = 0)) := by decide +kernel

/-- The kernel's difference with the previous token, its first-block test named. -/
theorem pay3_eq (i : grid0.Coords) (v0 : Vec Ideal S512x1024 .f32) (v13 : Vec Ideal S1x1024 .f32) : k0_pay3 (F := Ideal) i v0 v13
    = subf (select (cmpi .eq (iota .tc S512x1024 32 [0] iota_S512x1024_d0_w32) (broadcast S512x1024 0#32))
        (broadcastTo S512x1024 (shapeCast S1x1024 (Scalar.select (atStart (i 0).val) (broadcast S1x1024 (Scalar.ofBits .f32 0x00000000#32)) v13) shapeCasts_S1x1024_S1x1024) broadcasts_S1x1024_S512x1024)
        (dynamicRotate 0 1#32 none v0 rotates_S512x1024_d0)) v0 := rfl

/-- The test for a block's first row. -/
theorem row_test : ∀ r : Fin 512, IntOp.cmpi .eq (BitVec.ofNat 32 r.val) 0#32 = BitVec.ofBool (decide (r.val = 0)) := by decide +kernel

/-- The padding value is zero. -/
theorem pad_zero : (FloatOps.sitofp FTy.f32 0#32 : Ideal .f32) = 0 := by
  show ((((0#32 : BitVec 32).toInt : ℝ)) : EReal) = 0
  simp

open Cert.RwProjRefIdeal.Value in
/-- The kernel's difference with the previous token is the reference's. -/
theorem diff_at (c : Dev nD) (t : Fin cfg0.N) (r : Fin 512) (d : Fin 1024) :
    k0_pay3 (grid0.coords t) (View.ld (iblk m c 0 t) r0_0) (View.ld (iblk m c 1 t) r0_1) (ix2 r d)
    = DIFF (m ((c : Thread nD τ).loc main_arg0)) (ix3 ⟨(t.val * 512 + r.val) / 4096, by
        have ht : t.val < 32 := lt_of_lt_of_eq t.isLt N_0
        omega⟩ ⟨(t.val * 512 + r.val) % 4096, by omega⟩ d) := by
  have ht : t.val < 32 := lt_of_lt_of_eq t.isLt N_0
  have hs := atStart_eq ⟨t.val, ht⟩
  rw [pay3_eq, coord_at t, hs]
  pointwise [DIFF]
  rw [row_test, pad_zero]
  by_cases hr : r.val = 0 <;> by_cases h8 : t.val % 8 = 0
  · rw [dif_neg (by omega)]
    simp only [hr, h8, if_true, decide_true]
    pointwise []
    blk_point [iblk, V, idx_at t]
  · rw [dif_pos (by omega)]
    simp only [hr, h8, if_false, decide_true]
    pointwise []
    blk_point [iblk, V, idx_at t]
  · rw [dif_pos (by omega)]
    simp only [hr, h8, if_true, decide_false]
    pointwise []
    blk_point [iblk, V, idx_at t] <;> contradiction
  · rw [dif_pos (by omega)]
    simp only [hr, h8, if_false, decide_false]
    pointwise []
    blk_point [iblk, V, idx_at t] <;> contradiction

/-- The token a block row is. -/
abbrev tok (t : Fin cfg0.N) (r : Fin 512) : Fin 16384 := ⟨t.val * 512 + r.val, by
  have ht : t.val < 32 := lt_of_lt_of_eq t.isLt N_0
  omega⟩

/-- Where a block element of result 0 sits in its array. -/
theorem emb12 (t : Fin cfg0.N) (r : Fin 512) (d : Fin 1024) : ((cfg0.win 12).blk t).view.emb (ix2 r d) = ix2 (tok t r) d := by
  blk_ext [idx_at t]

/-- Where a block element of result 1 sits in its array. -/
theorem emb13 (t : Fin cfg0.N) (r : Fin 512) (d : Fin 1024) : ((cfg0.win 13).blk t).view.emb (ix2 r d) = ix2 (tok t r) d := by
  blk_ext [idx_at t]

/-- Where a block element of result 2 sits in its array. -/
theorem emb14 (t : Fin cfg0.N) (r : Fin 512) (d : Fin 1024) : ((cfg0.win 14).blk t).view.emb (ix2 r d) = ix2 (tok t r) d := by
  blk_ext [idx_at t]

/-- Where a block element of result 3 sits in its array. -/
theorem emb15 (t : Fin cfg0.N) (r : Fin 512) (d : Fin 1024) : ((cfg0.win 15).blk t).view.emb (ix2 r d) = ix2 (tok t r) d := by
  blk_ext [idx_at t]

/-- Where a block element of result 4 sits in its array. -/
theorem emb16 (t : Fin cfg0.N) (r : Fin 512) (d : Fin 1024) : ((cfg0.win 16).blk t).view.emb (ix2 r d) = ix2 (tok t r) d := by
  blk_ext [idx_at t]

/-- Where a block element of result 5 sits in its array. -/
theorem emb17 (t : Fin cfg0.N) (r : Fin 512) (d : Fin 1024) : ((cfg0.win 17).blk t).view.emb (ix2 r d) = ix2 (tok t r) d := by
  blk_ext [idx_at t]

/-- Argument 0 as the block read of window 0. -/
theorem in0 (c : Dev nD) (t : Fin cfg0.N) (r : Fin 512) (d : Fin 1024) : iblk m c 0 t (ix2 r d) = m ((c : Thread nD τ).loc main_arg0) (ix2 (tok t r) d) := by
  have ht : t.val < 32 := lt_of_lt_of_eq t.isLt N_0
  blk_point [iblk, V, idx_at t]

/-- Argument 1 as the block read of window 2. -/
theorem in2 (c : Dev nD) (t : Fin cfg0.N) (g : Fin 6) (d : Fin 1024) : iblk m c 2 t (ix2 g d) = m ((c : Thread nD τ).loc main_arg1) (ix2 g d) := by
  have ht : t.val < 32 := lt_of_lt_of_eq t.isLt N_0
  blk_point [iblk, V, idx_at t]

/-- Argument 2 as the block read of window 3. -/
theorem in3 (c : Dev nD) (t : Fin cfg0.N) (g : Fin 3) (e d : Fin 1024) : iblk m c 3 t (ix3 g e d) = m ((c : Thread nD τ).loc main_arg2) (ix3 g e d) := by
  have ht : t.val < 32 := lt_of_lt_of_eq t.isLt N_0
  blk_point [iblk, V, idx_at t]

/-- Argument 3 as the block read of window 4. -/
theorem in4 (c : Dev nD) (t : Fin cfg0.N) (d : Fin 1024) : iblk m c 4 t (ix2 0 d) = m ((c : Thread nD τ).loc main_arg3) (ix1 d) := by
  have ht : t.val < 32 := lt_of_lt_of_eq t.isLt N_0
  blk_point [iblk, V, idx_at t]

/-- Argument 4 as the block read of window 5. -/
theorem in5 (c : Dev nD) (t : Fin cfg0.N) (e : Fin 1024) (d : Fin 64) : iblk m c 5 t (ix2 e d) = m ((c : Thread nD τ).loc main_arg4) (ix2 e d) := by
  have ht : t.val < 32 := lt_of_lt_of_eq t.isLt N_0
  blk_point [iblk, V, idx_at t]

/-- Argument 5 as the block read of window 6. -/
theorem in6 (c : Dev nD) (t : Fin cfg0.N) (e : Fin 64) (d : Fin 1024) : iblk m c 6 t (ix2 e d) = m ((c : Thread nD τ).loc main_arg5) (ix2 e d) := by
  have ht : t.val < 32 := lt_of_lt_of_eq t.isLt N_0
  blk_point [iblk, V, idx_at t]

/-- Argument 6 as the block read of window 7. -/
theorem in7 (c : Dev nD) (t : Fin cfg0.N) (d : Fin 1024) : iblk m c 7 t (ix2 0 d) = m ((c : Thread nD τ).loc main_arg6) (ix1 d) := by
  have ht : t.val < 32 := lt_of_lt_of_eq t.isLt N_0
  blk_point [iblk, V, idx_at t]

/-- Argument 7 as the block read of window 8. -/
theorem in8 (c : Dev nD) (t : Fin cfg0.N) (e : Fin 1024) (d : Fin 64) : iblk m c 8 t (ix2 e d) = m ((c : Thread nD τ).loc main_arg7) (ix2 e d) := by
  have ht : t.val < 32 := lt_of_lt_of_eq t.isLt N_0
  blk_point [iblk, V, idx_at t]

/-- Argument 8 as the block read of window 9. -/
theorem in9 (c : Dev nD) (t : Fin cfg0.N) (e : Fin 64) (d : Fin 1024) : iblk m c 9 t (ix2 e d) = m ((c : Thread nD τ).loc main_arg8) (ix2 e d) := by
  have ht : t.val < 32 := lt_of_lt_of_eq t.isLt N_0
  blk_point [iblk, V, idx_at t]

/-- Argument 9 as the block read of window 10. -/
theorem in10 (c : Dev nD) (t : Fin cfg0.N) (e : Fin 1024) (d : Fin 128) : iblk m c 10 t (ix2 e d) = m ((c : Thread nD τ).loc main_arg9) (ix2 e d) := by
  have ht : t.val < 32 := lt_of_lt_of_eq t.isLt N_0
  blk_point [iblk, V, idx_at t]

/-- Argument 10 as the block read of window 11. -/
theorem in11 (c : Dev nD) (t : Fin cfg0.N) (e : Fin 128) (d : Fin 1024) : iblk m c 11 t (ix2 e d) = m ((c : Thread nD τ).loc main_arg10) (ix2 e d) := by
  have ht : t.val < 32 := lt_of_lt_of_eq t.isLt N_0
  blk_point [iblk, V, idx_at t]

/-- One store over the whole block leaves its payload. -/
theorem canon0 {φ : EltTy} (p : Vec Ideal S512x1024 φ) : View.canon [⟨r0_0, p⟩] = p :=
  View.canon_unit_zero (by funext i; fin_cases i <;> rfl) _ p

open Cert.RwProjRefIdeal.Value in
/-- The kernel's receptance at a block element is the reference's. -/
theorem stored12 (c : Dev nD) (t : Fin cfg0.N) (r : Fin 512) (d : Fin 1024) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = REF0 (m ((c : Thread nD τ).loc main_arg0)) (m ((c : Thread nD τ).loc main_arg1)) (m ((c : Thread nD τ).loc main_arg2)) (ix2 (tok t r) d) := by
  have ht : t.val < 32 := lt_of_lt_of_eq t.isLt N_0
  rw [show out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon [⟨r0_0, k0_pay5 (View.ld (iblk m c 0 t) r0_0) (k0_pay3 (grid0.coords t) (View.ld (iblk m c 0 t) r0_0) (View.ld (iblk m c 1 t) r0_1)) (View.ld (iblk m c 2 t) r0_2) (View.ld (iblk m c 3 t) r0_3)⟩] from rfl]
  rw [canon0]
  generalize hD : k0_pay3 (grid0.coords t) (View.ld (iblk m c 0 t) r0_0) (View.ld (iblk m c 1 t) r0_1) = D
  have hD' : ∀ (r : Fin 512) (d : Fin 1024), D (ix2 r d) = DIFF (m ((c : Thread nD τ).loc main_arg0)) (ix3 ⟨(t.val * 512 + r.val) / 4096, by omega⟩ ⟨(t.val * 512 + r.val) % 4096, by omega⟩ d) := fun r d => by rw [← hD]; exact diff_at m c t r d
  pointwise [REF0, MIX, LW, k0_pay5]
  have hI : ∀ h, (⟨(t.val * 512 + r.val) / 4096 * 4096 + (t.val * 512 + r.val) % 4096, h⟩ : Fin 16384) = tok t r := fun h => Fin.ext (by show (t.val * 512 + r.val) / 4096 * 4096 + (t.val * 512 + r.val) % 4096 = t.val * 512 + r.val; omega)
  simp only [hD', hI, in0, in2, in3]
  exact Finset.sum_congr rfl fun k _ => mul_comm _ _

open Cert.RwProjRefIdeal.Value in
/-- The kernel's key at a block element is the reference's. -/
theorem stored13 (c : Dev nD) (t : Fin cfg0.N) (r : Fin 512) (d : Fin 1024) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = REF1 (m ((c : Thread nD τ).loc main_arg0)) (m ((c : Thread nD τ).loc main_arg1)) (m ((c : Thread nD τ).loc main_arg2)) (ix2 (tok t r) d) := by
  have ht : t.val < 32 := lt_of_lt_of_eq t.isLt N_0
  rw [show out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon [⟨r0_0, k0_pay5 (View.ld (iblk m c 0 t) r0_0) (k0_pay3 (grid0.coords t) (View.ld (iblk m c 0 t) r0_0) (View.ld (iblk m c 1 t) r0_1)) (View.ld (iblk m c 2 t) r0_4) (View.ld (iblk m c 3 t) r0_5)⟩] from rfl]
  rw [canon0]
  generalize hD : k0_pay3 (grid0.coords t) (View.ld (iblk m c 0 t) r0_0) (View.ld (iblk m c 1 t) r0_1) = D
  have hD' : ∀ (r : Fin 512) (d : Fin 1024), D (ix2 r d) = DIFF (m ((c : Thread nD τ).loc main_arg0)) (ix3 ⟨(t.val * 512 + r.val) / 4096, by omega⟩ ⟨(t.val * 512 + r.val) % 4096, by omega⟩ d) := fun r d => by rw [← hD]; exact diff_at m c t r d
  pointwise [REF1, MIX, LW, k0_pay5]
  have hI : ∀ h, (⟨(t.val * 512 + r.val) / 4096 * 4096 + (t.val * 512 + r.val) % 4096, h⟩ : Fin 16384) = tok t r := fun h => Fin.ext (by show (t.val * 512 + r.val) / 4096 * 4096 + (t.val * 512 + r.val) % 4096 = t.val * 512 + r.val; omega)
  simp only [hD', hI, in0, in2, in3]
  exact Finset.sum_congr rfl fun k _ => mul_comm _ _

open Cert.RwProjRefIdeal.Value in
/-- The kernel's value at a block element is the reference's. -/
theorem stored14 (c : Dev nD) (t : Fin cfg0.N) (r : Fin 512) (d : Fin 1024) :
    out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = REF2 (m ((c : Thread nD τ).loc main_arg0)) (m ((c : Thread nD τ).loc main_arg1)) (m ((c : Thread nD τ).loc main_arg2)) (ix2 (tok t r) d) := by
  have ht : t.val < 32 := lt_of_lt_of_eq t.isLt N_0
  rw [show out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon [⟨r0_0, k0_pay6 (View.ld (iblk m c 0 t) r0_0) (k0_pay3 (grid0.coords t) (View.ld (iblk m c 0 t) r0_0) (View.ld (iblk m c 1 t) r0_1)) (View.ld (iblk m c 2 t) r0_6) (View.ld (iblk m c 3 t) r0_7)⟩] from rfl]
  rw [canon0]
  generalize hD : k0_pay3 (grid0.coords t) (View.ld (iblk m c 0 t) r0_0) (View.ld (iblk m c 1 t) r0_1) = D
  have hD' : ∀ (r : Fin 512) (d : Fin 1024), D (ix2 r d) = DIFF (m ((c : Thread nD τ).loc main_arg0)) (ix3 ⟨(t.val * 512 + r.val) / 4096, by omega⟩ ⟨(t.val * 512 + r.val) % 4096, by omega⟩ d) := fun r d => by rw [← hD]; exact diff_at m c t r d
  pointwise [REF2, MIX, LW, k0_pay6]
  have hI : ∀ h, (⟨(t.val * 512 + r.val) / 4096 * 4096 + (t.val * 512 + r.val) % 4096, h⟩ : Fin 16384) = tok t r := fun h => Fin.ext (by show (t.val * 512 + r.val) / 4096 * 4096 + (t.val * 512 + r.val) % 4096 = t.val * 512 + r.val; omega)
  simp only [hD', hI, in0, in2, in3]
  exact Finset.sum_congr rfl fun k _ => mul_comm _ _

open Cert.RwProjRefIdeal.Value in
/-- The kernel's log decay at a block element is the reference's. -/
theorem stored15 (c : Dev nD) (t : Fin cfg0.N) (r : Fin 512) (d : Fin 1024) :
    out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = REF3 (m ((c : Thread nD τ).loc main_arg0)) (m ((c : Thread nD τ).loc main_arg1)) (m ((c : Thread nD τ).loc main_arg3)) (m ((c : Thread nD τ).loc main_arg4)) (m ((c : Thread nD τ).loc main_arg5)) (ix2 (tok t r) d) := by
  have ht : t.val < 32 := lt_of_lt_of_eq t.isLt N_0
  rw [show out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon [⟨r0_0, k0_pay10 (k0_pay7 (View.ld (iblk m c 4 t) r0_8)) (k0_pay8 (View.ld (iblk m c 0 t) r0_0) (k0_pay3 (grid0.coords t) (View.ld (iblk m c 0 t) r0_0) (View.ld (iblk m c 1 t) r0_1)) (View.ld (iblk m c 2 t) r0_9) (View.ld (iblk m c 5 t) r0_10)) (k0_pay9 (View.ld (iblk m c 6 t) r0_11))⟩] from rfl]
  rw [canon0]
  generalize hD : k0_pay3 (grid0.coords t) (View.ld (iblk m c 0 t) r0_0) (View.ld (iblk m c 1 t) r0_1) = D
  have hD' : ∀ (r : Fin 512) (d : Fin 1024), D (ix2 r d) = DIFF (m ((c : Thread nD τ).loc main_arg0)) (ix3 ⟨(t.val * 512 + r.val) / 4096, by omega⟩ ⟨(t.val * 512 + r.val) % 4096, by omega⟩ d) := fun r d => by rw [← hD]; exact diff_at m c t r d
  pointwise [REF3, MIX, LW, k0_pay10, k0_pay7, k0_pay8, k0_pay9]
  have hI : ∀ h, (⟨(t.val * 512 + r.val) / 4096 * 4096 + (t.val * 512 + r.val) % 4096, h⟩ : Fin 16384) = tok t r := fun h => Fin.ext (by show (t.val * 512 + r.val) / 4096 * 4096 + (t.val * 512 + r.val) % 4096 = t.val * 512 + r.val; omega)
  simp only [hD', hI, in0, in2, in4, in5, in6, zero_sub, Cert.Sigmoid.softplus_eq]

open Cert.RwProjRefIdeal.Value in
/-- The kernel's in-context rate at a block element is the reference's. -/
theorem stored16 (c : Dev nD) (t : Fin cfg0.N) (r : Fin 512) (d : Fin 1024) :
    out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = REF4 (m ((c : Thread nD τ).loc main_arg0)) (m ((c : Thread nD τ).loc main_arg1)) (m ((c : Thread nD τ).loc main_arg6)) (m ((c : Thread nD τ).loc main_arg7)) (m ((c : Thread nD τ).loc main_arg8)) (ix2 (tok t r) d) := by
  have ht : t.val < 32 := lt_of_lt_of_eq t.isLt N_0
  rw [show out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon [⟨r0_0, k0_pay1 (k0_pay11 (View.ld (iblk m c 0 t) r0_0) (k0_pay3 (grid0.coords t) (View.ld (iblk m c 0 t) r0_0) (View.ld (iblk m c 1 t) r0_1)) (View.ld (iblk m c 7 t) r0_8) (View.ld (iblk m c 2 t) r0_12) (View.ld (iblk m c 8 t) r0_10) (View.ld (iblk m c 9 t) r0_11))⟩] from rfl]
  rw [canon0]
  generalize hD : k0_pay3 (grid0.coords t) (View.ld (iblk m c 0 t) r0_0) (View.ld (iblk m c 1 t) r0_1) = D
  have hD' : ∀ (r : Fin 512) (d : Fin 1024), D (ix2 r d) = DIFF (m ((c : Thread nD τ).loc main_arg0)) (ix3 ⟨(t.val * 512 + r.val) / 4096, by omega⟩ ⟨(t.val * 512 + r.val) % 4096, by omega⟩ d) := fun r d => by rw [← hD]; exact diff_at m c t r d
  pointwise [REF4, MIX, LW, k0_pay1, k0_pay11]
  have hI : ∀ h, (⟨(t.val * 512 + r.val) / 4096 * 4096 + (t.val * 512 + r.val) % 4096, h⟩ : Fin 16384) = tok t r := fun h => Fin.ext (by show (t.val * 512 + r.val) / 4096 * 4096 + (t.val * 512 + r.val) % 4096 = t.val * 512 + r.val; omega)
  simp only [hD', hI, in0, in2, in7, in8, in9, Cert.Sigmoid.half_tanh]

open Cert.RwProjRefIdeal.Value in
/-- The kernel's gate at a block element is the reference's. -/
theorem stored17 (c : Dev nD) (t : Fin cfg0.N) (r : Fin 512) (d : Fin 1024) :
    out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = REF5 (m ((c : Thread nD τ).loc main_arg0)) (m ((c : Thread nD τ).loc main_arg1)) (m ((c : Thread nD τ).loc main_arg9)) (m ((c : Thread nD τ).loc main_arg10)) (ix2 (tok t r) d) := by
  have ht : t.val < 32 := lt_of_lt_of_eq t.isLt N_0
  rw [show out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon [⟨r0_0, k0_pay2 (View.ld (iblk m c 0 t) r0_0) (k0_pay3 (grid0.coords t) (View.ld (iblk m c 0 t) r0_0) (View.ld (iblk m c 1 t) r0_1)) (View.ld (iblk m c 2 t) r0_13) (View.ld (iblk m c 10 t) r0_14) (View.ld (iblk m c 11 t) r0_15)⟩] from rfl]
  rw [canon0]
  generalize hD : k0_pay3 (grid0.coords t) (View.ld (iblk m c 0 t) r0_0) (View.ld (iblk m c 1 t) r0_1) = D
  have hD' : ∀ (r : Fin 512) (d : Fin 1024), D (ix2 r d) = DIFF (m ((c : Thread nD τ).loc main_arg0)) (ix3 ⟨(t.val * 512 + r.val) / 4096, by omega⟩ ⟨(t.val * 512 + r.val) % 4096, by omega⟩ d) := fun r d => by rw [← hD]; exact diff_at m c t r d
  pointwise [REF5, MIX, LW, k0_pay2]
  have hI : ∀ h, (⟨(t.val * 512 + r.val) / 4096 * 4096 + (t.val * 512 + r.val) % 4096, h⟩ : Fin 16384) = tok t r := fun h => Fin.ext (by show (t.val * 512 + r.val) / 4096 * 4096 + (t.val * 512 + r.val) % 4096 = t.val * 512 + r.val; omega)
  simp only [hD', hI, in0, in2, in10, in11, Cert.Sigmoid.half_tanh]

/-- The receptance array after the run. -/
theorem final_array0 (c : Dev nD) : (dats m 0 c).arrAt 12 (cfgs 0).N
    = Cert.RwProjRefIdeal.Value.REF0 (m ((c : Thread nD τ).loc main_arg0)) (m ((c : Thread nD τ).loc main_arg1)) (m ((c : Thread nD τ).loc main_arg2)) := by
  refine (dats m 0 c).arrAt_eq_of_covers 12 _ (by decide +kernel) fun t _ y => ?_
  obtain ⟨r, d, rfl⟩ : ∃ (r : Fin 512) (d : Fin 1024), y = ix2 r d := ⟨y 0, y 1, by funext i; fin_cases i <;> rfl⟩
  rw [emb12]
  blk_simp
  rw [after0_12]
  exact stored12 m c t r d

/-- The key array after the run. -/
theorem final_array1 (c : Dev nD) : (dats m 0 c).arrAt 13 (cfgs 0).N
    = Cert.RwProjRefIdeal.Value.REF1 (m ((c : Thread nD τ).loc main_arg0)) (m ((c : Thread nD τ).loc main_arg1)) (m ((c : Thread nD τ).loc main_arg2)) := by
  refine (dats m 0 c).arrAt_eq_of_covers 13 _ (by decide +kernel) fun t _ y => ?_
  obtain ⟨r, d, rfl⟩ : ∃ (r : Fin 512) (d : Fin 1024), y = ix2 r d := ⟨y 0, y 1, by funext i; fin_cases i <;> rfl⟩
  rw [emb13]
  blk_simp
  rw [after0_13]
  exact stored13 m c t r d

/-- The value array after the run. -/
theorem final_array2 (c : Dev nD) : (dats m 0 c).arrAt 14 (cfgs 0).N
    = Cert.RwProjRefIdeal.Value.REF2 (m ((c : Thread nD τ).loc main_arg0)) (m ((c : Thread nD τ).loc main_arg1)) (m ((c : Thread nD τ).loc main_arg2)) := by
  refine (dats m 0 c).arrAt_eq_of_covers 14 _ (by decide +kernel) fun t _ y => ?_
  obtain ⟨r, d, rfl⟩ : ∃ (r : Fin 512) (d : Fin 1024), y = ix2 r d := ⟨y 0, y 1, by funext i; fin_cases i <;> rfl⟩
  rw [emb14]
  blk_simp
  rw [after0_14]
  exact stored14 m c t r d

/-- The log decay array after the run. -/
theorem final_array3 (c : Dev nD) : (dats m 0 c).arrAt 15 (cfgs 0).N
    = Cert.RwProjRefIdeal.Value.REF3 (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 15 _ (by decide +kernel) fun t _ y => ?_
  obtain ⟨r, d, rfl⟩ : ∃ (r : Fin 512) (d : Fin 1024), y = ix2 r d := ⟨y 0, y 1, by funext i; fin_cases i <;> rfl⟩
  rw [emb15]
  blk_simp
  rw [after0_15]
  exact stored15 m c t r d

/-- The in-context rate array after the run. -/
theorem final_array4 (c : Dev nD) : (dats m 0 c).arrAt 16 (cfgs 0).N
    = Cert.RwProjRefIdeal.Value.REF4 (m ((c : Thread nD τ).loc main_arg0)) (m ((c : Thread nD τ).loc main_arg1)) (m ((c : Thread nD τ).loc main_arg6)) (m ((c : Thread nD τ).loc main_arg7)) (m ((c : Thread nD τ).loc main_arg8)) := by
  refine (dats m 0 c).arrAt_eq_of_covers 16 _ (by decide +kernel) fun t _ y => ?_
  obtain ⟨r, d, rfl⟩ : ∃ (r : Fin 512) (d : Fin 1024), y = ix2 r d := ⟨y 0, y 1, by funext i; fin_cases i <;> rfl⟩
  rw [emb16]
  blk_simp
  rw [after0_16]
  exact stored16 m c t r d

/-- The gate array after the run. -/
theorem final_array5 (c : Dev nD) : (dats m 0 c).arrAt 17 (cfgs 0).N
    = Cert.RwProjRefIdeal.Value.REF5 (m ((c : Thread nD τ).loc main_arg0)) (m ((c : Thread nD τ).loc main_arg1)) (m ((c : Thread nD τ).loc main_arg9)) (m ((c : Thread nD τ).loc main_arg10)) := by
  refine (dats m 0 c).arrAt_eq_of_covers 17 _ (by decide +kernel) fun t _ y => ?_
  obtain ⟨r, d, rfl⟩ : ∃ (r : Fin 512) (d : Fin 1024), y = ix2 r d := ⟨y 0, y 1, by funext i; fin_cases i <;> rfl⟩
  rw [emb17]
  blk_simp
  rw [after0_17]
  exact stored17 m c t r d

end Cert.RwProjIdeal.Value

end
-- ==== Proof.RwProjClaims.lean ====
/- The claims about the call `RwProj`: its reference ends without fault, and over the extended reals the kernel computes what the reference computes. -/
module

public import proofs.«01_k».proof.Defs
public import proofs.«01_k».proof.Proof.Gen.RwProj.Frame
public import proofs.«01_k».proof.Proof.RwProjValue
public import proofs.«01_k».proof.Proof.Gen.RwProjRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `RwProj` ends without fault, its arguments unchanged. -/
theorem quiescent_RwProjRefIdeal : quiescent_RwProjRefIdeal := fun m ρ _ =>
  (θ_run Cert.RwProjRefIdeal.defs _ _).mono (fun r h => ⟨fun c => (h c).2.2.2.2.2.2, sem_eq_zero_of_no_sems (by decide) r.2⟩)
    (Cert.RwProjRefIdeal.Value.run (F := Ideal) m ρ)

/-- The call `RwProj` and its reference end with the same six arrays. -/
theorem algebraic_RwProjIdeal_RwProjRefIdeal : algebraic_RwProjIdeal_RwProjRefIdeal := by
  intro m ρ m' ρ' _ hagree
  refine ⟨fun c => Cert.RwProjRefIdeal.Value.REF0 (m (c.tc.loc Cert.RwProjIdeal.main_arg0)) (m (c.tc.loc Cert.RwProjIdeal.main_arg1)) (m (c.tc.loc Cert.RwProjIdeal.main_arg2)),
    fun c => Cert.RwProjRefIdeal.Value.REF1 (m (c.tc.loc Cert.RwProjIdeal.main_arg0)) (m (c.tc.loc Cert.RwProjIdeal.main_arg1)) (m (c.tc.loc Cert.RwProjIdeal.main_arg2)),
    fun c => Cert.RwProjRefIdeal.Value.REF2 (m (c.tc.loc Cert.RwProjIdeal.main_arg0)) (m (c.tc.loc Cert.RwProjIdeal.main_arg1)) (m (c.tc.loc Cert.RwProjIdeal.main_arg2)),
    fun c => Cert.RwProjRefIdeal.Value.REF3 (m (c.tc.loc Cert.RwProjIdeal.main_arg0)) (m (c.tc.loc Cert.RwProjIdeal.main_arg1)) (m (c.tc.loc Cert.RwProjIdeal.main_arg3)) (m (c.tc.loc Cert.RwProjIdeal.main_arg4)) (m (c.tc.loc Cert.RwProjIdeal.main_arg5)),
    fun c => Cert.RwProjRefIdeal.Value.REF4 (m (c.tc.loc Cert.RwProjIdeal.main_arg0)) (m (c.tc.loc Cert.RwProjIdeal.main_arg1)) (m (c.tc.loc Cert.RwProjIdeal.main_arg6)) (m (c.tc.loc Cert.RwProjIdeal.main_arg7)) (m (c.tc.loc Cert.RwProjIdeal.main_arg8)),
    fun c => Cert.RwProjRefIdeal.Value.REF5 (m (c.tc.loc Cert.RwProjIdeal.main_arg0)) (m (c.tc.loc Cert.RwProjIdeal.main_arg1)) (m (c.tc.loc Cert.RwProjIdeal.main_arg9)) (m (c.tc.loc Cert.RwProjIdeal.main_arg10)),
    (θ_run Cert.RwProjIdeal.defs _ _).mono (fun r h c => ⟨(h c).1.trans (Cert.RwProjIdeal.Value.final_array0 m c), (h c).2.1.trans (Cert.RwProjIdeal.Value.final_array1 m c), (h c).2.2.1.trans (Cert.RwProjIdeal.Value.final_array2 m c), (h c).2.2.2.1.trans (Cert.RwProjIdeal.Value.final_array3 m c), (h c).2.2.2.2.1.trans (Cert.RwProjIdeal.Value.final_array4 m c), (h c).2.2.2.2.2.1.trans (Cert.RwProjIdeal.Value.final_array5 m c), (h c).2.2.2.2.2.2⟩)
      (Cert.RwProjIdeal.Value.run_blocks (F := Ideal) m ρ), ?_⟩
  refine (θ_run Cert.RwProjRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.RwProjRefIdeal.Value.run (F := Ideal) m' ρ')
  all_goals obtain ⟨h0, h1, h2, h3, h4, h5, h6, h7, h8, h9, h10⟩ := hagree c
  · refine Eq.trans (b := Cert.RwProjRefIdeal.Value.REF0 (m' (c.tc.loc Cert.RwProjRefIdeal.main_arg0)) (m' (c.tc.loc Cert.RwProjRefIdeal.main_arg1)) (m' (c.tc.loc Cert.RwProjRefIdeal.main_arg2))) rfl ?_
    rw [h0, h1, h2]
  · refine Eq.trans (b := Cert.RwProjRefIdeal.Value.REF1 (m' (c.tc.loc Cert.RwProjRefIdeal.main_arg0)) (m' (c.tc.loc Cert.RwProjRefIdeal.main_arg1)) (m' (c.tc.loc Cert.RwProjRefIdeal.main_arg2))) rfl ?_
    rw [h0, h1, h2]
  · refine Eq.trans (b := Cert.RwProjRefIdeal.Value.REF2 (m' (c.tc.loc Cert.RwProjRefIdeal.main_arg0)) (m' (c.tc.loc Cert.RwProjRefIdeal.main_arg1)) (m' (c.tc.loc Cert.RwProjRefIdeal.main_arg2))) rfl ?_
    rw [h0, h1, h2]
  · refine Eq.trans (b := Cert.RwProjRefIdeal.Value.REF3 (m' (c.tc.loc Cert.RwProjRefIdeal.main_arg0)) (m' (c.tc.loc Cert.RwProjRefIdeal.main_arg1)) (m' (c.tc.loc Cert.RwProjRefIdeal.main_arg3)) (m' (c.tc.loc Cert.RwProjRefIdeal.main_arg4)) (m' (c.tc.loc Cert.RwProjRefIdeal.main_arg5))) rfl ?_
    rw [h0, h1, h3, h4, h5]
  · refine Eq.trans (b := Cert.RwProjRefIdeal.Value.REF4 (m' (c.tc.loc Cert.RwProjRefIdeal.main_arg0)) (m' (c.tc.loc Cert.RwProjRefIdeal.main_arg1)) (m' (c.tc.loc Cert.RwProjRefIdeal.main_arg6)) (m' (c.tc.loc Cert.RwProjRefIdeal.main_arg7)) (m' (c.tc.loc Cert.RwProjRefIdeal.main_arg8))) rfl ?_
    rw [h0, h1, h6, h7, h8]
  · refine Eq.trans (b := Cert.RwProjRefIdeal.Value.REF5 (m' (c.tc.loc Cert.RwProjRefIdeal.main_arg0)) (m' (c.tc.loc Cert.RwProjRefIdeal.main_arg1)) (m' (c.tc.loc Cert.RwProjRefIdeal.main_arg9)) (m' (c.tc.loc Cert.RwProjRefIdeal.main_arg10))) rfl ?_
    rw [h0, h1, h9, h10]

end Cert.Proof

end
-- ==== Proof.GateProjValue.lean ====
/- The array the call `GateProj` ends with is its reference's product. -/
module

public import proofs.«01_k».proof.Proof.Gen.GateProjIdeal.Value
public import proofs.«01_k».proof.Proof.Gen.GateProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateProjRefIdeal.Value

open Cert.GateProjRefIdeal Cert.GateProjRefIdeal.Gen

/-- The reference's term: the product of the activations and the sixteen-column weight, rounded, with zero columns after it. -/
def REF (X : FVec Ideal S16384x1024 .f32) (W : FVec Ideal S1024x16 .f32) : FVec Ideal S16384x128 .bf16 :=
  pad S16384x128 ![0, 0] ![0, 112] ![0, 0] (truncf .bf16 (Host.dotGeneral dot_S16384x1024_S1024x16_S16384x16_1_0_0_1_n_n none X W) bitsLt_bf16_f32) (sitofp .bf16 (constantI S_ 32 0#32)) pads_S16384x16_S16384x128_000_01120 h_S_

/-- The padding is zero. -/
theorem pad_zero : (FloatOps.sitofp FTy.bf16 0#32 : Ideal .bf16) = 0 := by
  show ((((0#32 : BitVec 32).toInt : ℝ)) : EReal) = 0
  simp

/-- One of the first sixteen columns of the reference is an entry of the product. -/
theorem REF_lt (X : FVec Ideal S16384x1024 .f32) (W : FVec Ideal S1024x16 .f32) (i : Fin 16384) (j : Fin 128) (hj : j.val < 16) :
    REF X W (ix2 i j) = ∑ k : Fin 1024, (X (ix2 i k) * W (ix2 k ⟨j.val, hj⟩) : EReal) := by
  pointwise [REF]
  rw [dif_pos hj]

/-- Every later column of the reference is zero. -/
theorem REF_ge (X : FVec Ideal S16384x1024 .f32) (W : FVec Ideal S1024x16 .f32) (i : Fin 16384) (j : Fin 128) (hj : ¬ j.val < 16) :
    REF X W (ix2 i j) = (0 : EReal) := by
  pointwise [REF]
  rw [dif_neg hj]
  exact pad_zero

end Cert.GateProjRefIdeal.Value

namespace Cert.GateProjIdeal.Value

open Cert.GateProjIdeal Cert.GateProjIdeal.Gen

variable (m : (ℓ : Loc nD τ sig) → Buf (Elt Ideal) ℓ)

/-- The block each window holds at a grid point. -/
theorem idx_at : ∀ t : Fin cfg0.N, win0_0.index t = ![t.val, 0] ∧ win0_1.index t = ![0, 0] ∧ win0_2.index t = ![t.val, 0] :=
  (by decide +kernel : ∀ t : Fin grid0.N, _)

/-- The weight the call is given. -/
theorem V_w (c : Dev nD) : V m c main_v1 = (truncf .bf16 (pad S1024x128 ![0, 0] ![0, 112] ![0, 0] (m ((c : Thread nD τ).loc main_arg1)) (sitofp .f32 (constantI S_ 32 0#32)) pads_S1024x16_S1024x128_000_01120 h_S_) bitsLt_bf16_f32 : FVec Ideal S1024x128 .bf16) := by
  unfold V
  simp only [List.flatten_cons, List.flatten_nil, List.append_nil, List.cons_append, List.nil_append]
  after_reads_simp
  rfl

/-- Where the weight's block lies. -/
theorem emb1 (t : Fin cfg0.N) (k : Fin 1024) (x : Fin 128) : (win0_1.blk t).view.emb (ix2 k x) = ix2 k x := by
  blk_ext [idx_at t]

/-- The padding is zero. -/
theorem pad_zero : (FloatOps.sitofp FTy.f32 0#32 : Ideal .f32) = 0 := by
  show ((((0#32 : BitVec 32).toInt : ℝ)) : EReal) = 0
  simp

/-- The weight with zero columns after it. -/
def WP (w : FVec Ideal S1024x16 .f32) (k : Fin 1024) (x : Fin 128) : EReal := if h : x.val < 16 then w (ix2 k ⟨x.val, h⟩) else 0

/-- The block of the weight. -/
theorem in1 (c : Dev nD) (t : Fin cfg0.N) (k : Fin 1024) (x : Fin 128) : iblk m c 1 t (ix2 k x) = WP (m ((c : Thread nD τ).loc main_arg1)) k x := by
  refine Eq.trans (b := V m c main_v1 ((win0_1.blk t).view.emb (ix2 k x))) rfl ?_
  rw [emb1, V_w]
  pointwise
  unfold WP
  by_cases hk : x.val < 16
  · rw [dif_pos hk, dif_pos]
    intro a
    fin_cases a
    · exact ⟨Nat.zero_le _, Nat.mod_one _, by simp⟩
    · exact ⟨Nat.zero_le _, Nat.mod_one _, by simpa using hk⟩
  · rw [dif_neg hk, dif_neg (fun h => hk (by simpa using (h 1).2.2))]
    exact pad_zero

/-- The block of the activations. -/
theorem in0 (c : Dev nD) (t : Fin cfg0.N) (ht : t.val < 16) (r : Fin 1024) (k : Fin 1024) : iblk m c 0 t (ix2 r k) = m ((c : Thread nD τ).loc main_arg0) (ix2 ⟨t.val * 1024 + r.val, by omega⟩ k) := by
  blk_point [iblk, V, idx_at t]

/-- Where the result's block lies. -/
theorem emb2 (t : Fin cfg0.N) (ht : t.val < 16) (r : Fin 1024) (x : Fin 128) : (win0_2.blk t).view.emb (ix2 r x) = ix2 ⟨t.val * 1024 + r.val, by omega⟩ x := by
  blk_ext [idx_at t]

/-- An entry of the block stored is a sum of products. -/
theorem pay_at (x0 : FVec Ideal S1024x1024 .f32) (x1 : FVec Ideal S1024x128 .bf16) (r : Fin 1024) (x : Fin 128) :
    k0_pay1 (F := Ideal) (View.ld x0 r0_0) (View.ld x1 r0_1) (ix2 r x) = ∑ k : Fin 1024, (x0 (ix2 r k) * x1 (ix2 k x) : EReal) := by
  pointwise [k0_pay1]

/-- The product with the widened weight is the reference's entry. -/
theorem sum_ref (X : FVec Ideal S16384x1024 .f32) (W : FVec Ideal S1024x16 .f32) (i : Fin 16384) (x : Fin 128) :
    ∑ k : Fin 1024, (X (ix2 i k) * WP W k x : EReal) = Cert.GateProjRefIdeal.Value.REF X W (ix2 i x) := by
  by_cases hx : x.val < 16
  · rw [Cert.GateProjRefIdeal.Value.REF_lt X W i x hx]
    exact Finset.sum_congr rfl fun k _ => congrArg (fun z : EReal => (X (ix2 i k) : EReal) * z) (dif_pos hx)
  · rw [Cert.GateProjRefIdeal.Value.REF_ge X W i x hx]
    exact Finset.sum_eq_zero fun k _ => (congrArg (fun z : EReal => (X (ix2 i k) : EReal) * z) (dif_neg hx)).trans (mul_zero (M₀ := EReal) _)

/-- What a grid point stores is the reference's entry at the array index the block index sits at. -/
theorem stored_at (c : Dev nD) (t : Fin cfg0.N) (y) : out0_2 (iblk m c 0 t) (iblk m c 1 t) y
    = Cert.GateProjRefIdeal.Value.REF (m ((c : Thread nD τ).loc main_arg0)) (m ((c : Thread nD τ).loc main_arg1)) (((cfg0.win 2).blk t).view.emb y) := by
  have ht : t.val < 16 := lt_of_lt_of_eq t.isLt N_0
  unfold out0_2
  canon_tiles x h
  obtain rfl : x = y := by
    funext a
    fin_cases a
    · exact Fin.ext h0.symm
    · exact Fin.ext h1.symm
  obtain ⟨r, z, rfl⟩ : ∃ (r : Fin 1024) (z : Fin 128), x = ix2 r z := ⟨x 0, x 1, by funext i; fin_cases i <;> rfl⟩
  rw [emb2 t ht, ← sum_ref]
  refine (pay_at (iblk m c 0 t) (iblk m c 1 t) r z).trans (Finset.sum_congr rfl fun k _ => ?_)
  rw [in0 m c t ht, in1 m c t]

/-- The result array after the run. -/
theorem final_array (c : Dev nD) : (dats m 0 c).arrAt 2 (cfgs 0).N
    = Cert.GateProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  exact stored_at m c t y

end Cert.GateProjIdeal.Value

end
-- ==== Proof.GateProjClaims.lean ====
/- The claims about the call `GateProj`: its reference ends without fault, and over the extended reals the kernel computes what the reference computes. -/
module

public import proofs.«01_k».proof.Defs
public import proofs.«01_k».proof.Proof.Gen.GateProj.Frame
public import proofs.«01_k».proof.Proof.GateProjValue
public import proofs.«01_k».proof.Proof.Gen.GateProjRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `GateProj` ends without fault, its arguments unchanged. -/
theorem quiescent_GateProjRefIdeal : quiescent_GateProjRefIdeal := fun m ρ _ =>
  (θ_run Cert.GateProjRefIdeal.defs _ _).mono (fun r h => ⟨fun c => (h c).2, sem_eq_zero_of_no_sems (by decide) r.2⟩)
    (Cert.GateProjRefIdeal.Value.run (F := Ideal) m ρ)

/-- The call `GateProj` and its reference end with the same array. -/
theorem algebraic_GateProjIdeal_GateProjRefIdeal : algebraic_GateProjIdeal_GateProjRefIdeal := by
  intro m ρ m' ρ' _ hagree
  refine ⟨fun c => Cert.GateProjRefIdeal.Value.REF (m (c.tc.loc Cert.GateProjIdeal.main_arg0)) (m (c.tc.loc Cert.GateProjIdeal.main_arg1)),
    (θ_run Cert.GateProjIdeal.defs _ _).mono (fun r h c => ⟨(h c).1.trans (Cert.GateProjIdeal.Value.final_array m c), (h c).2⟩)
      (Cert.GateProjIdeal.Value.run_blocks (F := Ideal) m ρ), ?_⟩
  refine (θ_run Cert.GateProjRefIdeal.defs _ _).mono (fun r h c => ⟨(h c).1.trans ?_, (h c).2⟩)
    (Cert.GateProjRefIdeal.Value.run (F := Ideal) m' ρ')
  obtain ⟨h0, h1⟩ := hagree c
  refine Eq.trans (b := Cert.GateProjRefIdeal.Value.REF (m' (c.tc.loc Cert.GateProjRefIdeal.main_arg0)) (m' (c.tc.loc Cert.GateProjRefIdeal.main_arg1))) rfl ?_
  rw [h0, h1]

end Cert.Proof

end
-- ==== Proof.BiasLog.lean ====
/- The reference's bucket of a relative position, read off the thresholds of its logarithm. -/
module

public import Mathlib.Analysis.SpecialFunctions.Log.Basic
public import Idealize.ShloMosaic.Lib.Pipeline.ValueKit

@[expose] public section

noncomputable section

namespace Cert.BiasLog

open Idealize.ShloMosaic

/-- The bucket of a distance below 1024. -/
def bk (n : ℕ) : ℕ :=
  bif Nat.blt n 16 then n else bif Nat.blt n 19 then 16 else bif Nat.blt n 21 then 17 else bif Nat.blt n 24 then 18 else
  bif Nat.blt n 27 then 19 else bif Nat.blt n 31 then 20 else bif Nat.blt n 35 then 21 else bif Nat.blt n 40 then 22 else
  bif Nat.blt n 46 then 23 else bif Nat.blt n 52 then 24 else bif Nat.blt n 59 then 25 else bif Nat.blt n 67 then 26 else
  bif Nat.blt n 77 then 27 else bif Nat.blt n 87 then 28 else bif Nat.blt n 99 then 29 else bif Nat.blt n 113 then 30 else 31

/-- The reference's scaled logarithm of a distance. -/
def v (n : ℕ) : ℝ := Real.log ((n : ℝ) / 16) / (8721810 / 4194304) * 16

/-- The logarithm of two from below. -/
theorem two_lo : (0.69277 : ℝ) ≤ Real.log 2 := by
  have h1 : Real.log ((((1000677 : ℝ) / 1000000) ^ 32) ^ 32) ≤ Real.log 2 := Real.log_le_log (by positivity) (by norm_num)
  rw [Real.log_pow, Real.log_pow] at h1
  have h2 := Real.one_sub_inv_le_log_of_pos (show (0 : ℝ) < 1000677 / 1000000 by norm_num)
  norm_num at h1 h2 ⊢
  linarith

/-- The logarithm of two from above. -/
theorem two_hi : Real.log 2 ≤ (0.69346 : ℝ) := by
  have h1 : Real.log 2 ≤ Real.log ((((10006772 : ℝ) / 10000000) ^ 32) ^ 32) := Real.log_le_log (by positivity) (by norm_num)
  rw [Real.log_pow, Real.log_pow] at h1
  have h2 := Real.log_le_sub_one_of_pos (show (0 : ℝ) < 10006772 / 10000000 by norm_num)
  norm_num at h1 h2 ⊢
  linarith

/-- The scaled logarithm is at least `k` from a distance on. -/
theorem lo (k q n : ℕ) (h : (8 : ℝ) ^ k * 16 ^ 16 ≤ (q : ℝ) ^ 16 * (1 - k * (12 / 10000))) (hq : 0 < q) (hn : q ≤ n) : (k : ℝ) ≤ v n := by
  have hq' : (0 : ℝ) < q := by exact_mod_cast hq
  have hqn : (q : ℝ) ≤ n := by exact_mod_cast hn
  have h1 : Real.log ((q : ℝ) / 16) ≤ Real.log ((n : ℝ) / 16) := Real.log_le_log (by positivity) (by gcongr)
  have hx : (0 : ℝ) < ((q : ℝ) / 16) ^ 16 / 8 ^ k := by positivity
  have h2 := Real.one_sub_inv_le_log_of_pos hx
  have h3 : Real.log (((q : ℝ) / 16) ^ 16 / 8 ^ k) = 16 * Real.log ((q : ℝ) / 16) - k * (3 * Real.log 2) := by
    rw [Real.log_div (by positivity) (by positivity), Real.log_pow, Real.log_pow, show (8 : ℝ) = 2 ^ 3 by norm_num, Real.log_pow]
    push_cast; ring
  have h4 : (((q : ℝ) / 16) ^ 16 / 8 ^ k)⁻¹ ≤ 1 - (k : ℝ) * (12 / 10000) := by
    rw [inv_div, div_pow, div_div_eq_mul_div, div_le_iff₀ (by positivity), mul_comm (1 - _)]
    exact h
  have h5 : (8721810 / 4194304 : ℝ) ≤ 3 * Real.log 2 + 12 / 10000 := by
    have := two_lo
    norm_num at this ⊢; linarith
  have hk : (0 : ℝ) ≤ k := Nat.cast_nonneg k
  have h6 := mul_le_mul_of_nonneg_left h5 hk
  unfold v
  rw [div_mul_eq_mul_div, le_div_iff₀ (by norm_num)]
  linarith

/-- The scaled logarithm is below `k` up to a distance. -/
theorem hi (k q n : ℕ) (h : (q : ℝ) ^ 16 < (8 : ℝ) ^ k * 16 ^ 16 * (1 - k * (1 / 1000))) (hn0 : 0 < n) (hn : n ≤ q) : v n < k := by
  have hn' : (0 : ℝ) < n := by exact_mod_cast hn0
  have hqn : (n : ℝ) ≤ q := by exact_mod_cast hn
  have hq' : (0 : ℝ) < q := lt_of_lt_of_le hn' hqn
  have h1 : Real.log ((n : ℝ) / 16) ≤ Real.log ((q : ℝ) / 16) := Real.log_le_log (by positivity) (by gcongr)
  have hx : (0 : ℝ) < ((q : ℝ) / 16) ^ 16 / 8 ^ k := by positivity
  have h2 := Real.log_le_sub_one_of_pos hx
  have h3 : Real.log (((q : ℝ) / 16) ^ 16 / 8 ^ k) = 16 * Real.log ((q : ℝ) / 16) - k * (3 * Real.log 2) := by
    rw [Real.log_div (by positivity) (by positivity), Real.log_pow, Real.log_pow, show (8 : ℝ) = 2 ^ 3 by norm_num, Real.log_pow]
    push_cast; ring
  have h4 : ((q : ℝ) / 16) ^ 16 / 8 ^ k < 1 - (k : ℝ) * (1 / 1000) := by
    rw [div_pow, div_div, div_lt_iff₀ (by positivity)]
    linarith
  have h5 : 3 * Real.log 2 ≤ (8721810 / 4194304 : ℝ) + 1 / 1000 := by
    have := two_hi
    norm_num at this ⊢; linarith
  have hk : (0 : ℝ) ≤ k := Nat.cast_nonneg k
  have h6 := mul_le_mul_of_nonneg_left h5 hk
  unfold v
  rw [div_mul_eq_mul_div, div_lt_iff₀ (by norm_num)]
  linarith

/-- Between two thresholds the scaled logarithm rounds down to the lower one. -/
theorem fl (k q q' n : ℕ) (h : (8 : ℝ) ^ k * 16 ^ 16 ≤ (q : ℝ) ^ 16 * (1 - k * (12 / 10000))) (h' : (q' : ℝ) ^ 16 < (8 : ℝ) ^ (k + 1) * 16 ^ 16 * (1 - ((k + 1 : ℕ) : ℝ) * (1 / 1000)))
    (hq : 0 < q) (hn : q ≤ n) (hn' : n ≤ q') : ⌊v n⌋ = (k : ℤ) := by
  rw [Int.floor_eq_iff]
  refine ⟨by exact_mod_cast lo k q n h hq hn, ?_⟩
  have := hi (k + 1) q' n h' (by omega) hn'
  push_cast at this ⊢; exact this

/-- Sixteen more than the rounded logarithm, at most thirty-one, is the bucket. -/
theorem bucket (n : ℕ) (h0 : 16 ≤ n) (h1 : n < 1024) : min (16 + ⌊v n⌋) 31 = (bk n : ℤ) ∧ 0 ≤ ⌊v n⌋ ∧ ⌊v n⌋ ≤ 40 := by
  have e : (⌊v n⌋ = 0 ∧ bk n = 16) ∨ (⌊v n⌋ = 1 ∧ bk n = 17) ∨ (⌊v n⌋ = 2 ∧ bk n = 18) ∨ (⌊v n⌋ = 3 ∧ bk n = 19) ∨ (⌊v n⌋ = 4 ∧ bk n = 20) ∨
      (⌊v n⌋ = 5 ∧ bk n = 21) ∨ (⌊v n⌋ = 6 ∧ bk n = 22) ∨ (⌊v n⌋ = 7 ∧ bk n = 23) ∨ (⌊v n⌋ = 8 ∧ bk n = 24) ∨ (⌊v n⌋ = 9 ∧ bk n = 25) ∨
      (⌊v n⌋ = 10 ∧ bk n = 26) ∨ (⌊v n⌋ = 11 ∧ bk n = 27) ∨ (⌊v n⌋ = 12 ∧ bk n = 28) ∨ (⌊v n⌋ = 13 ∧ bk n = 29) ∨ (⌊v n⌋ = 14 ∧ bk n = 30) ∨
      (15 ≤ ⌊v n⌋ ∧ ⌊v n⌋ ≤ 40 ∧ bk n = 31) := by
    by_cases a16 : n < 19
    · exact Or.inl ⟨by exact_mod_cast fl 0 16 18 n (by norm_num) (by norm_num) (by norm_num) h0 (by omega), by
        interval_cases n <;> rfl⟩
    by_cases a17 : n < 21
    · exact Or.inr (Or.inl ⟨by exact_mod_cast fl 1 19 20 n (by norm_num) (by norm_num) (by norm_num) (by omega) (by omega), by
        interval_cases n <;> rfl⟩)
    by_cases a18 : n < 24
    · iterate 2 right
      exact Or.inl ⟨by exact_mod_cast fl 2 21 23 n (by norm_num) (by norm_num) (by norm_num) (by omega) (by omega), by interval_cases n <;> rfl⟩
    by_cases a19 : n < 27
    · iterate 3 right
      exact Or.inl ⟨by exact_mod_cast fl 3 24 26 n (by norm_num) (by norm_num) (by norm_num) (by omega) (by omega), by interval_cases n <;> rfl⟩
    by_cases a20 : n < 31
    · iterate 4 right
      exact Or.inl ⟨by exact_mod_cast fl 4 27 30 n (by norm_num) (by norm_num) (by norm_num) (by omega) (by omega), by interval_cases n <;> rfl⟩
    by_cases a21 : n < 35
    · iterate 5 right
      exact Or.inl ⟨by exact_mod_cast fl 5 31 34 n (by norm_num) (by norm_num) (by norm_num) (by omega) (by omega), by interval_cases n <;> rfl⟩
    by_cases a22 : n < 40
    · iterate 6 right
      exact Or.inl ⟨by exact_mod_cast fl 6 35 39 n (by norm_num) (by norm_num) (by norm_num) (by omega) (by omega), by interval_cases n <;> rfl⟩
    by_cases a23 : n < 46
    · iterate 7 right
      exact Or.inl ⟨by exact_mod_cast fl 7 40 45 n (by norm_num) (by norm_num) (by norm_num) (by omega) (by omega), by interval_cases n <;> rfl⟩
    by_cases a24 : n < 52
    · iterate 8 right
      exact Or.inl ⟨by exact_mod_cast fl 8 46 51 n (by norm_num) (by norm_num) (by norm_num) (by omega) (by omega), by interval_cases n <;> rfl⟩
    by_cases a25 : n < 59
    · iterate 9 right
      exact Or.inl ⟨by exact_mod_cast fl 9 52 58 n (by norm_num) (by norm_num) (by norm_num) (by omega) (by omega), by interval_cases n <;> rfl⟩
    by_cases a26 : n < 67
    · iterate 10 right
      exact Or.inl ⟨by exact_mod_cast fl 10 59 66 n (by norm_num) (by norm_num) (by norm_num) (by omega) (by omega), by interval_cases n <;> rfl⟩
    by_cases a27 : n < 77
    · iterate 11 right
      exact Or.inl ⟨by exact_mod_cast fl 11 67 76 n (by norm_num) (by norm_num) (by norm_num) (by omega) (by omega), by interval_cases n <;> rfl⟩
    by_cases a28 : n < 87
    · iterate 12 right
      exact Or.inl ⟨by exact_mod_cast fl 12 77 86 n (by norm_num) (by norm_num) (by norm_num) (by omega) (by omega), by interval_cases n <;> rfl⟩
    by_cases a29 : n < 99
    · iterate 13 right
      exact Or.inl ⟨by exact_mod_cast fl 13 87 98 n (by norm_num) (by norm_num) (by norm_num) (by omega) (by omega), by interval_cases n <;> rfl⟩
    by_cases a30 : n < 113
    · iterate 14 right
      exact Or.inl ⟨by exact_mod_cast fl 14 99 112 n (by norm_num) (by norm_num) (by norm_num) (by omega) (by omega), by interval_cases n <;> rfl⟩
    · iterate 15 right
      refine ⟨?_, ?_, ?_⟩
      · rw [Int.le_floor]
        exact_mod_cast lo 15 113 n (by norm_num) (by norm_num) (by omega)
      · have h := hi 40 1023 n (by norm_num) (by omega) (by omega)
        have h' : ⌊v n⌋ < 40 := by rw [Int.floor_lt]; exact_mod_cast h
        omega
      · have g : ∀ k, k ≤ 113 → Nat.blt n k = false := fun k hk => by
          rw [Bool.eq_false_iff]; intro hb; have := Nat.blt_eq.mp hb; omega
        unfold bk
        rw [g 16 (by omega), g 19 (by omega), g 21 (by omega), g 24 (by omega), g 27 (by omega), g 31 (by omega), g 35 (by omega), g 40 (by omega), g 46 (by omega), g 52 (by omega), g 59 (by omega), g 67 (by omega), g 77 (by omega), g 87 (by omega), g 99 (by omega), g 113 (by omega)]
        rfl
  omega

end Cert.BiasLog

end
-- ==== Proof.BiasBk.lean ====
/- The table of buckets as a function of the position in it. -/
module

public import proofs.«01_k».proof.Proof.BiasLog

@[expose] public section

namespace Cert.BiasLog

/-- Entry `i` of the table of buckets, row by row: the bucket of the distance below the diagonal, all ones above it. -/
def tb (i : ℕ) : ℕ := bif Nat.blt (i / 512) (i % 512) then 4294967295 else bk (i / 512 - i % 512)

/-- A bucket is below thirty-two. -/
theorem bk_lt (n : ℕ) : bk n < 32 := by
  unfold bk
  by_cases h : Nat.blt n 16 = true
  · have := Nat.blt_eq.mp h
    rw [h]; simp only [cond_true]; omega
  · rw [Bool.not_eq_true] at h
    rw [h]
    simp only [cond_false]
    repeat' first
      | (norm_num; done)
      | (cases Nat.blt n _ <;> simp only [cond_true, cond_false])

/-- An entry of the table is a word. -/
theorem tb_lt (i : ℕ) : tb i < 2 ^ 32 := by
  unfold tb
  cases Nat.blt (i / 512) (i % 512)
  · have := bk_lt (i / 512 - i % 512)
    simp only [cond_false]; omega
  · simp only [cond_true]; norm_num

/-- A word that reads as an entry of the table is that entry. -/
theorem word_eq (w : BitVec 32) (i : ℕ) (h : Nat.beq w.toNat (tb i) = true) : w = BitVec.ofNat 32 (tb i) := by
  apply BitVec.eq_of_toNat_eq
  rw [BitVec.toNat_ofNat, Nat.mod_eq_of_lt (tb_lt i)]
  exact Nat.eq_of_beq_eq_true h

/-- An entry of the table by its row and column. -/
theorem tb_at (a c : ℕ) (hc : c < 512) : tb (a * 512 + c) = bif Nat.blt a c then 4294967295 else bk (a - c) := by
  unfold tb
  rw [show (a * 512 + c) / 512 = a by omega, show (a * 512 + c) % 512 = c by omega]

/-- A statement holds at every number below a bound. -/
def allLt (n : ℕ) (p : ℕ → Bool) : Bool := Nat.rec true (fun k r => p k && r) n

/-- What holds at every number below a bound holds at each. -/
theorem allLt_spec (p : ℕ → Bool) : ∀ n : ℕ, allLt n p = true → ∀ k, k < n → p k = true
  | 0, _, k, hk => absurd hk (Nat.not_lt_zero k)
  | n + 1, h, k, hk => by
    have h' : (p n && allLt n p) = true := h
    rw [Bool.and_eq_true] at h'
    rcases Nat.lt_succ_iff_lt_or_eq.mp hk with h1 | h1
    · exact allLt_spec p n h'.2 k h1
    · exact h1 ▸ h'.1

end Cert.BiasLog

end
-- ==== Proof.BiasRef.lean ====
/- The reference of the relative-position tiles, read one entry at a time. -/
module

public import proofs.«01_k».proof.Proof.Gen.BiasTilesRefIdeal.Run
public import proofs.«01_k».proof.Proof.BiasBk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BiasTilesRefIdeal.Value

open Cert.BiasTilesRefIdeal Cert.BiasTilesRefIdeal.Gen Cert.BiasLog

/-- The relative positions. -/
def REL : IVec S2x512x512 32 :=
  (subi (broadcastInDim S2x512x512 ![0, 1, 2] bcast_S2x512x1_S2x512x512_0_1_2 (addi (broadcastInDim S2x512x1 ![0, 1, 2] bcast_S2x1x1_S2x512x1_0_1_2 (muli (broadcastInDim S2x1x1 ![0] bcast_S2_S2x1x1_0 (iotaInDim S2 32 0)) (broadcastInDim S2x1x1 ![] bcast_S_S2x1x1 (constantI S_ 32 512#32)))) (broadcastInDim S2x512x1 ![0, 1, 2] bcast_S1x512x1_S2x512x1_0_1_2 (broadcastInDim S1x512x1 ![1] bcast_S512_S1x512x1_1 (iotaInDim S512 32 0))))) (broadcastInDim S2x512x512 ![0, 1, 2] bcast_S1x1x512_S2x512x512_0_1_2 (broadcastInDim S1x1x512 ![2] bcast_S512_S1x1x512_2 (iotaInDim S512 32 0))))

/-- The distances: the relative positions, at least zero. -/
def NN : IVec S2x512x512 32 := (maxsi REL (broadcastInDim S2x512x512 ![] bcast_S_S2x512x512 (constantI S_ 32 0#32)))

/-- The rounded logarithms of the distances. -/
def LG : IVec S2x512x512 32 := (fptosi 32 (mulf (Host.divf (Host.log (Host.divf (sitofp .f32 (maxsi NN (broadcastInDim S2x512x512 ![] bcast_S_S2x512x512 (constantI S_ 32 1#32)))) (broadcastInDim S2x512x512 ![] bcast_S_S2x512x512 (constant S_ .f32 0x41800000#32)))) (broadcastInDim S2x512x512 ![] bcast_S_S2x512x512 (constant S_ .f32 0x40051592#32))) (broadcastInDim S2x512x512 ![] bcast_S_S2x512x512 (constant S_ .f32 0x41800000#32)) : FVec Ideal S2x512x512 .f32))

/-- The buckets. -/
def BKT : IVec S2x512x512 32 := (select (cmpi .slt NN (broadcastInDim S2x512x512 ![] bcast_S_S2x512x512 (constantI S_ 32 16#32))) NN (minsi (addi (broadcastInDim S2x512x512 ![] bcast_S_S2x512x512 (constantI S_ 32 16#32)) LG) (broadcastInDim S2x512x512 ![] bcast_S_S2x512x512 (constantI S_ 32 31#32))))

/-- The rows of the table to take. -/
def IDX : IVec S2x512x512 32 := (select (cmpi .slt BKT (broadcastInDim S2x512x512 ![] bcast_S_S2x512x512 (constantI S_ 32 0#32))) (addi BKT (broadcastInDim S2x512x512 ![] bcast_S_S2x512x512 (constantI S_ 32 32#32))) BKT)

/-- The reference's term. -/
def REF (X : FVec Ideal S32x8 .f32) : FVec Ideal S8x2x512x512 .f32 :=
  select (broadcastInDim S8x2x512x512 ![1, 2, 3] bcast_S2x512x512_S8x2x512x512_1_2_3 (cmpi .sge REL (broadcastInDim S2x512x512 ![] bcast_S_S2x512x512 (constantI S_ 32 0#32)))) (mulf (transpose S8x2x512x512 [3, 0, 1, 2] (Host.gather gather_S32x8_S2x512x512x1_S2x512x512x8_3_0_n_n_0_3_18 (subf X (broadcastInDim S32x8 ![0, 1] bcast_S1x8_S32x8_0_1 (broadcastInDim S1x8 ![1] bcast_S8_S1x8_1 (shapeCast _ (extractStridedSlice S1x8 ![31, 0] X slices_S32x8_S1x8_31_0) shapeCasts_S1x8_S8)))) (broadcastInDim S2x512x512x1 ![0, 1, 2] bcast_S2x512x512_S2x512x512x1_0_1_2 IDX)) transposes_S2x512x512x8_S8x2x512x512_3_0_1_2) (broadcastInDim S8x2x512x512 ![] bcast_S_S8x2x512x512 (constant S_ .f32 0x3FB8AA3B#32))) (broadcastInDim S8x2x512x512 ![] bcast_S_S8x2x512x512 (id (constant S_ .f32 0xFF800000#32)))

/-- The reference's result is this term. -/
theorem res_eq (m : (ℓ : Loc nD τ sig) → Buf (Elt Ideal) ℓ) (c : Dev nD) : res_main_v50 m c = REF (m ((c.tc : Thread nD τ).loc main_arg0)) := rfl

/-- Below its diagonal a relative position is the difference of the two positions. -/
theorem sub_le (a c : ℕ) (ha : a < 1024) (hc : c < 512) (h : c ≤ a) : IntOp.subi (BitVec.ofNat 32 a) (BitVec.ofNat 32 c) = BitVec.ofNat 32 (a - c) := by
  unfold IntOp.subi
  apply BitVec.eq_of_toNat_eq
  rw [BitVec.toNat_sub, BitVec.toNat_ofNat, BitVec.toNat_ofNat, BitVec.toNat_ofNat]
  omega

/-- Above its diagonal a relative position is negative. -/
theorem sub_neg (a c : ℕ) (ha : a < 1024) (hc : c < 512) (h : a < c) : (IntOp.subi (BitVec.ofNat 32 a) (BitVec.ofNat 32 c)).toInt < 0 := by
  unfold IntOp.subi
  rw [BitVec.toInt_eq_toNat_cond, BitVec.toNat_sub, BitVec.toNat_ofNat, BitVec.toNat_ofNat]
  split <;> omega

/-- A small number's signed reading. -/
theorem toInt_small (n : ℕ) (hn : n < 1024) : (BitVec.ofNat 32 n).toInt = n := by
  rw [BitVec.toInt_eq_toNat_cond, BitVec.toNat_ofNat]
  split <;> omega

/-- A relative position. -/
theorem REL_at (d : Fin 2) (r c : Fin 512) : REL (ix3 d r c) = IntOp.subi (BitVec.ofNat 32 (d.val * 512 + r.val)) (BitVec.ofNat 32 c.val) := by
  pointwise [REL]
  congr 1
  unfold IntOp.addi IntOp.muli
  apply BitVec.eq_of_toNat_eq
  rw [BitVec.toNat_add, BitVec.toNat_mul, BitVec.toNat_ofNat, BitVec.toNat_ofNat, BitVec.toNat_ofNat, BitVec.toNat_ofNat]
  have h1 := d.isLt
  have h2 := r.isLt
  omega

/-- A distance. -/
theorem NN_at (d : Fin 2) (r c : Fin 512) : NN (ix3 d r c) = BitVec.ofNat 32 (d.val * 512 + r.val - c.val) := by
  have h1 := d.isLt
  have h2 := r.isLt
  have h3 := c.isLt
  pointwise [NN]
  rw [REL_at]
  unfold IntOp.maxsi
  by_cases h : c.val ≤ d.val * 512 + r.val
  · rw [sub_le _ _ (by omega) h3 h]
    by_cases h0 : d.val * 512 + r.val - c.val = 0
    · rw [h0]; rfl
    · rw [if_pos]
      rw [BitVec.slt, toInt_small (d.val * 512 + r.val - c.val) (by omega), decide_eq_true_eq]
      show (0 : ℤ) < _
      omega
  · have hs := sub_neg _ _ (by omega) h3 (by omega : d.val * 512 + r.val < c.val)
    rw [if_neg, show d.val * 512 + r.val - c.val = 0 by omega]
    rw [BitVec.slt, decide_eq_true_eq]
    show ¬ ((0 : ℤ) < _)
    omega

/-- The word of sixteen. -/
theorem c16 : Ideal.ofBits FTy.f32 1098907648#32 = ((16 : ℝ) : EReal) := by
  simp [Ideal.ofBits, Ideal.ieee]
  rw [← EReal.coe_mul]
  norm_num

/-- The word of the logarithm of eight. -/
theorem c8 : Ideal.ofBits FTy.f32 1074075026#32 = ((8721810 / 4194304 : ℝ) : EReal) := by
  simp [Ideal.ofBits, Ideal.ieee]
  rw [← EReal.coe_mul]
  norm_num

/-- A rounded logarithm of a distance of at least sixteen. -/
theorem LG_at (d : Fin 2) (r c : Fin 512) (h : 16 ≤ d.val * 512 + r.val - c.val) : LG (ix3 d r c) = BitVec.ofInt 32 ⌊v (d.val * 512 + r.val - c.val)⌋ := by
  have h1 := d.isLt
  have h2 := r.isLt
  have h3 := c.isLt
  pointwise [LG]
  rw [NN_at]
  generalize hn : d.val * 512 + r.val - c.val = n at h ⊢
  have hm : IntOp.maxsi (BitVec.ofNat 32 n) 1#32 = BitVec.ofNat 32 n := by
    unfold IntOp.maxsi
    rw [if_pos]
    rw [BitVec.slt, toInt_small n (by omega), decide_eq_true_eq]
    show (1 : ℤ) < _
    omega
  have hp : (0 : ℝ) < n := by exact_mod_cast (by omega : 0 < n)
  have hx : (FloatOps.sitofp FTy.f32 (BitVec.ofNat 32 n) : Ideal FTy.f32) = ((n : ℝ) : EReal) := by
    show (((BitVec.ofNat 32 n).toInt : ℝ) : EReal) = _
    rw [toInt_small _ (by omega)]; rfl
  have b := bucket n h (by omega)
  rw [hm, hx, c16, c8]
  have hd : Ideal.div ((n : ℝ) : EReal) ((16 : ℝ) : EReal) = (((n : ℝ) / 16 : ℝ) : EReal) := by
    unfold Ideal.div
    rw [if_neg (by exact_mod_cast (by norm_num : (16 : ℝ) ≠ 0)), ← EReal.coe_inv, ← EReal.coe_mul, div_eq_mul_inv]
  have hl : Ideal.log (((n : ℝ) / 16 : ℝ) : EReal) = ((Real.log ((n : ℝ) / 16) : ℝ) : EReal) := by
    show (if (n : ℝ) / 16 ≤ 0 then (⊥ : EReal) else _) = _
    rw [if_neg (by push Not; positivity)]
  have hd2 : Ideal.div ((Real.log ((n : ℝ) / 16) : ℝ) : EReal) ((8721810 / 4194304 : ℝ) : EReal) = ((Real.log ((n : ℝ) / 16) / (8721810 / 4194304) : ℝ) : EReal) := by
    unfold Ideal.div
    rw [if_neg (by exact_mod_cast (by norm_num : (8721810 / 4194304 : ℝ) ≠ 0)), ← EReal.coe_inv, ← EReal.coe_mul]
    exact congrArg _ (div_eq_mul_inv _ _).symm
  rw [hd, hl, hd2, ← EReal.coe_mul]
  show Ideal.fptosi 32 ((v n : ℝ) : EReal) = _
  unfold Ideal.fptosi
  rw [Ideal.toIntClamped_coe, if_pos (by have := b.2.1; rw [Int.le_floor] at this; exact_mod_cast this)]
  congr 1
  have b1 := b.2.1
  have b2 := b.2.2
  norm_num
  omega

/-- An entry's bucket. -/
theorem BKT_at (d : Fin 2) (r c : Fin 512) : BKT (ix3 d r c) = BitVec.ofNat 32 (bk (d.val * 512 + r.val - c.val)) := by
  have h1 := d.isLt
  have h2 := r.isLt
  have h3 := c.isLt
  have hn := NN_at d r c
  have hl := LG_at d r c
  have hN : d.val * 512 + r.val - c.val < 1024 := by omega
  pointwise [BKT]
  rw [hn]
  generalize d.val * 512 + r.val - c.val = n at hl hN ⊢
  unfold Scalar.select IntOp.cmpi
  by_cases h : n < 16
  · have hs : (BitVec.ofNat 32 n).slt 16#32 = true := by
      rw [BitVec.slt, toInt_small _ (by omega), decide_eq_true_eq]
      show _ < (16 : ℤ)
      omega
    have hb : Nat.blt n 16 = true := Nat.blt_eq.mpr h
    rw [if_pos (by simp only [hs]; rfl)]
    unfold bk
    rw [hb]; rfl
  · have hs : (BitVec.ofNat 32 n).slt 16#32 = false := by
      rw [BitVec.slt, toInt_small _ (by omega), decide_eq_false_iff_not]
      show ¬ (_ < (16 : ℤ))
      omega
    rw [if_neg (by simp only [hs]; decide), hl (by omega)]
    obtain ⟨b0, b1, b2⟩ := bucket n (by omega) hN
    generalize ⌊v n⌋ = k at b0 b1 b2
    obtain ⟨k', rfl⟩ := Int.eq_ofNat_of_zero_le b1
    rw [show BitVec.ofInt 32 (k' : ℤ) = BitVec.ofNat 32 k' from BitVec.ofInt_natCast 32 k']
    have ha : IntOp.addi 16#32 (BitVec.ofNat 32 k') = BitVec.ofNat 32 (16 + k') := by
      unfold IntOp.addi
      apply BitVec.eq_of_toNat_eq
      rw [BitVec.toNat_add, BitVec.toNat_ofNat, BitVec.toNat_ofNat, BitVec.toNat_ofNat]
      omega
    rw [ha]
    unfold IntOp.minsi
    by_cases hk : 16 + k' < 31
    · rw [if_pos]
      · congr 1; omega
      · rw [BitVec.slt, toInt_small _ (by omega), decide_eq_true_eq]
        show _ < (31 : ℤ)
        omega
    · rw [if_neg]
      · congr 1; omega
      · rw [BitVec.slt, toInt_small _ (by omega), decide_eq_true_eq]
        show ¬ (_ < (31 : ℤ))
        omega

/-- The row an entry takes is its bucket. -/
theorem IDX_at (d : Fin 2) (r c : Fin 512) : IDX (ix3 d r c) = BitVec.ofNat 32 (bk (d.val * 512 + r.val - c.val)) := by
  have hb := BKT_at d r c
  have hl := bk_lt (d.val * 512 + r.val - c.val)
  pointwise [IDX]
  rw [hb]
  generalize bk (d.val * 512 + r.val - c.val) = b at hl ⊢
  unfold Scalar.select IntOp.cmpi
  have hs : (BitVec.ofNat 32 b).slt 0#32 = false := by
    rw [BitVec.slt, toInt_small _ (by omega), decide_eq_false_iff_not]
    show ¬ (_ < (0 : ℤ))
    omega
  rw [if_neg (by simp only [hs]; decide)]

/-- A row of the table taken by its number. -/
theorem gather_at (x : FVec Ideal S32x8 .f32) (idx : IVec S2x512x512x1 32) (d : Fin 2) (r c : Fin 512) (h : Fin 8) :
    Host.gather gather_S32x8_S2x512x512x1_S2x512x512x8_3_0_n_n_0_3_18 x idx (ix4 d r c h) = x (ix2 ⟨min (idx (ix4 d r c (0 : Fin 1))).toInt.toNat 31, by omega⟩ h) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2x512x512x1_S2x512x512x8_3_0_n_n_0_3_18.startIndexMap from List.mem_singleton.mpr rfl)]
    have hsi : gather_S32x8_S2x512x512x1_S2x512x512x8_3_0_n_n_0_3_18.siIdx (ix4 d r c h) ⟨List.idxOf (0 : Fin 2) gather_S32x8_S2x512x512x1_S2x512x512x8_3_0_n_n_0_3_18.startIndexMap,
        List.idxOf_lt_length_iff.2 (List.mem_singleton.mpr rfl)⟩ = ix4 d r c (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (by decide)]
    simp only [Nat.add_zero, Nat.zero_add]
    rfl

/-- An entry of the reference: the table's row of the bucket less its last row, scaled, below the diagonal; minus infinity above. -/
theorem REF_at (X : FVec Ideal S32x8 .f32) (h : Fin 8) (d : Fin 2) (r c : Fin 512) :
    REF X (ix4 h d r c) = (if c.val ≤ d.val * 512 + r.val then
      ((X (ix2 ⟨bk (d.val * 512 + r.val - c.val), bk_lt _⟩ h) - X (ix2 (31 : Fin 32) h)) * Ideal.ofBits FTy.f32 1069066811#32 : EReal) else ⊥) := by
  have h1 := d.isLt
  have h2 := r.isLt
  have h3 := c.isLt
  pointwise [REF]
  rw [REL_at, gather_at]
  unfold Scalar.select IntOp.cmpi
  by_cases hc : c.val ≤ d.val * 512 + r.val
  · have hs : (0#32 : BitVec 32).sle (IntOp.subi (BitVec.ofNat 32 (d.val * 512 + r.val)) (BitVec.ofNat 32 c.val)) = true := by
      rw [sub_le _ _ (by omega) h3 hc, BitVec.sle, toInt_small (d.val * 512 + r.val - c.val) (by omega), decide_eq_true_eq]
      show (0 : ℤ) ≤ _
      omega
    rw [if_pos (by simp only [hs]; rfl), if_pos hc]
    have hi : (broadcastInDim S2x512x512x1 ![0, 1, 2] bcast_S2x512x512_S2x512x512x1_0_1_2 IDX) (ix4 d r c (0 : Fin 1)) = BitVec.ofNat 32 (bk (d.val * 512 + r.val - c.val)) := by
      rw [← IDX_at]
      pointwise
    have hl := bk_lt (d.val * 512 + r.val - c.val)
    have hf : (⟨min ((broadcastInDim S2x512x512x1 ![0, 1, 2] bcast_S2x512x512_S2x512x512x1_0_1_2 IDX) (ix4 d r c (0 : Fin 1))).toInt.toNat 31, by omega⟩ : Fin 32) = ⟨bk (d.val * 512 + r.val - c.val), bk_lt _⟩ := by
      apply Fin.ext
      show min _ 31 = bk (d.val * 512 + r.val - c.val)
      rw [hi, toInt_small _ (by omega)]
      omega
    rw [hf]
    pointwise
  · have hs := sub_neg _ _ (by omega) h3 (by omega : d.val * 512 + r.val < c.val)
    have hs' : (0#32 : BitVec 32).sle (IntOp.subi (BitVec.ofNat 32 (d.val * 512 + r.val)) (BitVec.ofNat 32 c.val)) = false := by
      rw [BitVec.sle, decide_eq_false_iff_not]
      show ¬ ((0 : ℤ) ≤ _)
      omega
    rw [if_neg (by simp only [hs']; decide), if_neg hc]
    show Ideal.ofBits FTy.f32 4286578688#32 = ⊥
    simp [Ideal.ofBits, Ideal.ieee]

end Cert.BiasTilesRefIdeal.Value

end
-- ==== Proof.BiasChain.lean ====
/- What a chain of selections by bucket leaves. -/
module

public import proofs.«01_k».proof.Proof.BiasBk
public import Idealize.ShloMosaic.Lib.Pipeline.ValueKit

@[expose] public section

set_option maxRecDepth 16384

namespace Cert.BiasLog

open Idealize.ShloMosaic

/-- The chain of a tile on the diagonal. -/
def chD {α : Type} (f : Fin 32 → α) (M z : α) (w : BitVec 32) : α :=
  Scalar.select (IntOp.cmpi .slt w 0#32) M (Scalar.select (IntOp.cmpi .eq w 30#32) (f 30) (Scalar.select (IntOp.cmpi .eq w 29#32) (f 29) (Scalar.select (IntOp.cmpi .eq w 28#32) (f 28) (Scalar.select (IntOp.cmpi .eq w 27#32) (f 27) (Scalar.select (IntOp.cmpi .eq w 26#32) (f 26) (Scalar.select (IntOp.cmpi .eq w 25#32) (f 25) (Scalar.select (IntOp.cmpi .eq w 24#32) (f 24) (Scalar.select (IntOp.cmpi .eq w 23#32) (f 23) (Scalar.select (IntOp.cmpi .eq w 22#32) (f 22) (Scalar.select (IntOp.cmpi .eq w 21#32) (f 21) (Scalar.select (IntOp.cmpi .eq w 20#32) (f 20) (Scalar.select (IntOp.cmpi .eq w 19#32) (f 19) (Scalar.select (IntOp.cmpi .eq w 18#32) (f 18) (Scalar.select (IntOp.cmpi .eq w 17#32) (f 17) (Scalar.select (IntOp.cmpi .eq w 16#32) (f 16) (Scalar.select (IntOp.cmpi .eq w 15#32) (f 15) (Scalar.select (IntOp.cmpi .eq w 14#32) (f 14) (Scalar.select (IntOp.cmpi .eq w 13#32) (f 13) (Scalar.select (IntOp.cmpi .eq w 12#32) (f 12) (Scalar.select (IntOp.cmpi .eq w 11#32) (f 11) (Scalar.select (IntOp.cmpi .eq w 10#32) (f 10) (Scalar.select (IntOp.cmpi .eq w 9#32) (f 9) (Scalar.select (IntOp.cmpi .eq w 8#32) (f 8) (Scalar.select (IntOp.cmpi .eq w 7#32) (f 7) (Scalar.select (IntOp.cmpi .eq w 6#32) (f 6) (Scalar.select (IntOp.cmpi .eq w 5#32) (f 5) (Scalar.select (IntOp.cmpi .eq w 4#32) (f 4) (Scalar.select (IntOp.cmpi .eq w 3#32) (f 3) (Scalar.select (IntOp.cmpi .eq w 2#32) (f 2) (Scalar.select (IntOp.cmpi .eq w 1#32) (f 1) (Scalar.select (IntOp.cmpi .eq w 0#32) (f 0) (z))))))))))))))))))))))))))))))))

/-- The chain of a tile below the diagonal. -/
def chS {α : Type} (f : Fin 32 → α) (z : α) (w : BitVec 32) : α :=
  Scalar.select (IntOp.cmpi .eq w 30#32) (f 30) (Scalar.select (IntOp.cmpi .eq w 29#32) (f 29) (Scalar.select (IntOp.cmpi .eq w 28#32) (f 28) (Scalar.select (IntOp.cmpi .eq w 27#32) (f 27) (Scalar.select (IntOp.cmpi .eq w 26#32) (f 26) (Scalar.select (IntOp.cmpi .eq w 25#32) (f 25) (Scalar.select (IntOp.cmpi .eq w 24#32) (f 24) (Scalar.select (IntOp.cmpi .eq w 23#32) (f 23) (Scalar.select (IntOp.cmpi .eq w 22#32) (f 22) (Scalar.select (IntOp.cmpi .eq w 21#32) (f 21) (Scalar.select (IntOp.cmpi .eq w 20#32) (f 20) (Scalar.select (IntOp.cmpi .eq w 19#32) (f 19) (Scalar.select (IntOp.cmpi .eq w 18#32) (f 18) (Scalar.select (IntOp.cmpi .eq w 17#32) (f 17) (Scalar.select (IntOp.cmpi .eq w 16#32) (f 16) (Scalar.select (IntOp.cmpi .eq w 15#32) (f 15) (Scalar.select (IntOp.cmpi .eq w 14#32) (f 14) (Scalar.select (IntOp.cmpi .eq w 13#32) (f 13) (Scalar.select (IntOp.cmpi .eq w 12#32) (f 12) (Scalar.select (IntOp.cmpi .eq w 11#32) (f 11) (Scalar.select (IntOp.cmpi .eq w 10#32) (f 10) (Scalar.select (IntOp.cmpi .eq w 9#32) (f 9) (Scalar.select (IntOp.cmpi .eq w 8#32) (f 8) (Scalar.select (IntOp.cmpi .eq w 7#32) (f 7) (Scalar.select (IntOp.cmpi .eq w 6#32) (f 6) (Scalar.select (IntOp.cmpi .eq w 5#32) (f 5) (Scalar.select (IntOp.cmpi .eq w 4#32) (f 4) (Scalar.select (IntOp.cmpi .eq w 3#32) (f 3) (Scalar.select (IntOp.cmpi .eq w 2#32) (f 2) (Scalar.select (IntOp.cmpi .eq w 1#32) (f 1) (z))))))))))))))))))))))))))))))

/-- At a bucket the first chain leaves the bucket's value. -/
theorem chD_bk {α : Type} (f : Fin 32 → α) (M z : α) (hz : f 31 = z) (k : Fin 32) : chD f M z (BitVec.ofNat 32 k.val) = f k := by
  unfold chD
  fin_cases k
  case «31» => exact hz.symm
  all_goals rfl

/-- At all ones the first chain leaves the mask. -/
theorem chD_mask {α : Type} (f : Fin 32 → α) (M z : α) : chD f M z 4294967295#32 = M := rfl

/-- At a bucket other than the first the second chain leaves the bucket's value. -/
theorem chS_bk {α : Type} (f : Fin 32 → α) (z : α) (hz : f 31 = z) (k : Fin 32) (hk : k.val ≠ 0) : chS f z (BitVec.ofNat 32 k.val) = f k := by
  unfold chS
  fin_cases k
  case «0» => exact absurd rfl hk
  case «31» => exact hz.symm
  all_goals rfl

/-- A tile on the diagonal. -/
theorem tileD {α : Type} (f : Fin 32 → α) (M z : α) (hz : f 31 = z) (w : BitVec 32) (a c : ℕ) (hc : c < 512) (hw : w = BitVec.ofNat 32 (tb (a * 512 + c))) :
    chD f M z w = if c ≤ a then f ⟨bk (a - c), bk_lt _⟩ else M := by
  rw [hw, tb_at a c hc]
  by_cases h : a < c
  · rw [Nat.blt_eq.mpr h, if_neg (by omega)]
    exact chD_mask f M z
  · have hb : Nat.blt a c = false := by rw [Bool.eq_false_iff]; intro hb; exact h (Nat.blt_eq.mp hb)
    rw [hb, if_pos (by omega)]
    exact chD_bk f M z hz ⟨bk (a - c), bk_lt _⟩

/-- A positive distance's bucket is positive. -/
theorem bk_pos (n : ℕ) (h : 0 < n) : bk n ≠ 0 := by
  unfold bk
  by_cases h' : Nat.blt n 16 = true
  · rw [h']; simp only [cond_true]; omega
  · rw [Bool.not_eq_true] at h'
    rw [h']
    simp only [cond_false]
    repeat' first
      | (norm_num; done)
      | (cases Nat.blt n _ <;> simp only [cond_true, cond_false])

/-- A far distance's bucket is the last. -/
theorem bk_far (n : ℕ) (h : 113 ≤ n) : bk n = 31 := by
  have g : ∀ k, k ≤ 113 → Nat.blt n k = false := fun k hk => by
    rw [Bool.eq_false_iff]; intro hb; have := Nat.blt_eq.mp hb; omega
  unfold bk
  rw [g 16 (by omega), g 19 (by omega), g 21 (by omega), g 24 (by omega), g 27 (by omega), g 31 (by omega), g 35 (by omega), g 40 (by omega), g 46 (by omega), g 52 (by omega), g 59 (by omega), g 67 (by omega), g 77 (by omega), g 87 (by omega), g 99 (by omega), g 113 (by omega)]
  rfl

/-- A tile below the diagonal. -/
theorem tileS {α : Type} (f : Fin 32 → α) (M z : α) (hz : f 31 = z) (w : BitVec 32) (a c : ℕ) (hc : c < 512) (h : c < a) (hw : w = BitVec.ofNat 32 (tb (a * 512 + c))) :
    chS f z w = if c ≤ a then f ⟨bk (a - c), bk_lt _⟩ else M := by
  rw [hw, tb_at a c hc]
  have hb : Nat.blt a c = false := by rw [Bool.eq_false_iff]; intro hb; have := Nat.blt_eq.mp hb; omega
  rw [hb, if_pos (by omega)]
  exact chS_bk f z hz ⟨bk (a - c), bk_lt _⟩ (bk_pos _ (by omega))

/-- A tile above the diagonal. -/
theorem tileU {α : Type} (f : Fin 32 → α) (M : α) (a c : ℕ) (h : a < c) : M = if c ≤ a then f ⟨bk (a - c), bk_lt _⟩ else M := by
  rw [if_neg (by omega)]

/-- A tile far below the diagonal. -/
theorem tileZ {α : Type} (f : Fin 32 → α) (M z : α) (hz : f 31 = z) (a c : ℕ) (h : c + 113 ≤ a) : z = if c ≤ a then f ⟨bk (a - c), bk_lt _⟩ else M := by
  rw [if_pos (by omega), ← hz]
  congr 1
  exact Fin.ext (bk_far _ (by omega)).symm

end Cert.BiasLog
-- ==== Proof.BiasTable.lean ====
/- The line of buckets, by relative position, read entry by entry. -/
module

public import proofs.«01_k».proof.Proof.BiasBk
public import proofs.«01_k».proof.BiasTilesIdeal

@[expose] public section

set_option maxRecDepth 100000

noncomputable section

namespace Cert.BiasTilesIdeal

open Idealize.ShloMosaic Cert.BiasLog

/-- Every entry of the line is the table's entry of its relative position: a row at most, or a column. -/
theorem line_all : allLt 1535 (fun n => Nat.beq (lit0t n).toNat (tb ((n - 511) * 512 + (511 - n)))) = true := by decide +kernel

/-- An entry of the line by its relative position. -/
theorem line_at (n : ℕ) (h : n < 1535) : lit0t n = BitVec.ofNat 32 (tb ((n - 511) * 512 + (511 - n))) :=
  word_eq _ _ (allLt_spec _ _ line_all n h)

/-- The line of buckets at a position. -/
def LT (n : ℕ) : BitVec 32 := lit0t n

/-- The line of buckets at a position is the printed one. -/
theorem LT_eq (n : ℕ) : lit0t n = LT n := rfl

/-- A word of the constant at a position. -/
theorem lit0_LT (i : ℕ) (h : i < 1535) : lit0 ⟨i, h⟩ = LT i := by
  delta lit0
  exact LT_eq i

/-- A word of the constant at an index. -/
theorem lit0_at (j : Fin 1535) : lit0 j = LT j.val := by
  obtain ⟨i, h⟩ := j
  exact lit0_LT i h

attribute [irreducible] LT

/-- The line's entry of two positions is the table's entry of their row and column. -/
theorem LT_at (a c : ℕ) (ha : a < 1024) (hc : c < 512) : LT (a + 511 - c) = BitVec.ofNat 32 (tb (a * 512 + c)) := by
  refine ((LT_eq (a + 511 - c)).symm.trans (line_at (a + 511 - c) (by omega))).trans (congrArg (BitVec.ofNat 32) ?_)
  rw [tb_at _ _ hc, tb_at _ _ (by omega)]
  by_cases h : a < c
  · rw [Nat.blt_eq.mpr h, Nat.blt_eq.mpr (by omega)]
    rfl
  · have h1 : Nat.blt a c = false := by rw [Bool.eq_false_iff]; intro hb; exact h (Nat.blt_eq.mp hb)
    have h2 : Nat.blt (a + 511 - c - 511) (511 - (a + 511 - c)) = false := by rw [Bool.eq_false_iff]; intro hb; have := Nat.blt_eq.mp hb; omega
    rw [h1, h2, show a + 511 - c - 511 - (511 - (a + 511 - c)) = a - c by omega]

end Cert.BiasTilesIdeal

end
-- ==== Proof.BiasTilesValue.lean ====
/- The array the call `BiasTiles` ends with is its reference's. -/
module

public import proofs.«01_k».proof.Proof.Gen.BiasTilesIdeal.Value
public import proofs.«01_k».proof.Proof.BiasRef
public import proofs.«01_k».proof.Proof.BiasChain
public import proofs.«01_k».proof.Proof.BiasTable
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BiasTilesIdeal.Value

open Cert.BiasTilesIdeal Cert.BiasTilesIdeal.Gen Cert.BiasLog

variable (m : (ℓ : Loc nD τ sig) → Buf (Elt Ideal) ℓ)

/-- Two coordinates make the index. -/
theorem ix_of {f : Fin 2 → ℕ} {a b : ℕ} (h : f 0 = a ∧ f 1 = b) (h0 : f 0 < 32) (h1 : f 1 < 8) (ha : a < 32) (hb : b < 8) : (ix2 ⟨f 0, h0⟩ ⟨f 1, h1⟩ : (⟨2, ![32, 8]⟩ : Shape).Idx) = ix2 ⟨a, ha⟩ ⟨b, hb⟩ :=
  congrArg₂ (fun u v => (ix2 u v : (⟨2, ![32, 8]⟩ : Shape).Idx)) (Fin.ext h.1) (Fin.ext h.2)

/-- Where a word of the bias table is read. -/
theorem off1 (t : Fin cfg0.N) (h0 : k0_off1 (grid0.coords t) 0 < 32) (h1 : k0_off1 (grid0.coords t) 1 < 8) : (ix2 ⟨k0_off1 (grid0.coords t) 0, h0⟩ ⟨k0_off1 (grid0.coords t) 1, h1⟩ : (⟨2, ![32, 8]⟩ : Shape).Idx) = ix2 (31 : Fin 32) (⟨t.val, lt_of_lt_of_eq t.isLt N_0⟩ : Fin 8) :=
  ix_of ((by decide +kernel : ∀ t : Fin grid0.N, k0_off1 (grid0.coords t) 0 = 31 ∧ k0_off1 (grid0.coords t) 1 = t.val) t) h0 h1 (by decide) _

/-- Where a word of the bias table is read. -/
theorem off2 (t : Fin cfg0.N) (h0 : k0_off2 (grid0.coords t) 0 < 32) (h1 : k0_off2 (grid0.coords t) 1 < 8) : (ix2 ⟨k0_off2 (grid0.coords t) 0, h0⟩ ⟨k0_off2 (grid0.coords t) 1, h1⟩ : (⟨2, ![32, 8]⟩ : Shape).Idx) = ix2 (0 : Fin 32) (⟨t.val, lt_of_lt_of_eq t.isLt N_0⟩ : Fin 8) :=
  ix_of ((by decide +kernel : ∀ t : Fin grid0.N, k0_off2 (grid0.coords t) 0 = 0 ∧ k0_off2 (grid0.coords t) 1 = t.val) t) h0 h1 (by decide) _

/-- Where a word of the bias table is read. -/
theorem off3 (t : Fin cfg0.N) (h0 : k0_off3 (grid0.coords t) 0 < 32) (h1 : k0_off3 (grid0.coords t) 1 < 8) : (ix2 ⟨k0_off3 (grid0.coords t) 0, h0⟩ ⟨k0_off3 (grid0.coords t) 1, h1⟩ : (⟨2, ![32, 8]⟩ : Shape).Idx) = ix2 (1 : Fin 32) (⟨t.val, lt_of_lt_of_eq t.isLt N_0⟩ : Fin 8) :=
  ix_of ((by decide +kernel : ∀ t : Fin grid0.N, k0_off3 (grid0.coords t) 0 = 1 ∧ k0_off3 (grid0.coords t) 1 = t.val) t) h0 h1 (by decide) _

/-- Where a word of the bias table is read. -/
theorem off4 (t : Fin cfg0.N) (h0 : k0_off4 (grid0.coords t) 0 < 32) (h1 : k0_off4 (grid0.coords t) 1 < 8) : (ix2 ⟨k0_off4 (grid0.coords t) 0, h0⟩ ⟨k0_off4 (grid0.coords t) 1, h1⟩ : (⟨2, ![32, 8]⟩ : Shape).Idx) = ix2 (2 : Fin 32) (⟨t.val, lt_of_lt_of_eq t.isLt N_0⟩ : Fin 8) :=
  ix_of ((by decide +kernel : ∀ t : Fin grid0.N, k0_off4 (grid0.coords t) 0 = 2 ∧ k0_off4 (grid0.coords t) 1 = t.val) t) h0 h1 (by decide) _

/-- Where a word of the bias table is read. -/
theorem off5 (t : Fin cfg0.N) (h0 : k0_off5 (grid0.coords t) 0 < 32) (h1 : k0_off5 (grid0.coords t) 1 < 8) : (ix2 ⟨k0_off5 (grid0.coords t) 0, h0⟩ ⟨k0_off5 (grid0.coords t) 1, h1⟩ : (⟨2, ![32, 8]⟩ : Shape).Idx) = ix2 (3 : Fin 32) (⟨t.val, lt_of_lt_of_eq t.isLt N_0⟩ : Fin 8) :=
  ix_of ((by decide +kernel : ∀ t : Fin grid0.N, k0_off5 (grid0.coords t) 0 = 3 ∧ k0_off5 (grid0.coords t) 1 = t.val) t) h0 h1 (by decide) _

/-- Where a word of the bias table is read. -/
theorem off6 (t : Fin cfg0.N) (h0 : k0_off6 (grid0.coords t) 0 < 32) (h1 : k0_off6 (grid0.coords t) 1 < 8) : (ix2 ⟨k0_off6 (grid0.coords t) 0, h0⟩ ⟨k0_off6 (grid0.coords t) 1, h1⟩ : (⟨2, ![32, 8]⟩ : Shape).Idx) = ix2 (4 : Fin 32) (⟨t.val, lt_of_lt_of_eq t.isLt N_0⟩ : Fin 8) :=
  ix_of ((by decide +kernel : ∀ t : Fin grid0.N, k0_off6 (grid0.coords t) 0 = 4 ∧ k0_off6 (grid0.coords t) 1 = t.val) t) h0 h1 (by decide) _

/-- Where a word of the bias table is read. -/
theorem off7 (t : Fin cfg0.N) (h0 : k0_off7 (grid0.coords t) 0 < 32) (h1 : k0_off7 (grid0.coords t) 1 < 8) : (ix2 ⟨k0_off7 (grid0.coords t) 0, h0⟩ ⟨k0_off7 (grid0.coords t) 1, h1⟩ : (⟨2, ![32, 8]⟩ : Shape).Idx) = ix2 (5 : Fin 32) (⟨t.val, lt_of_lt_of_eq t.isLt N_0⟩ : Fin 8) :=
  ix_of ((by decide +kernel : ∀ t : Fin grid0.N, k0_off7 (grid0.coords t) 0 = 5 ∧ k0_off7 (grid0.coords t) 1 = t.val) t) h0 h1 (by decide) _

/-- Where a word of the bias table is read. -/
theorem off8 (t : Fin cfg0.N) (h0 : k0_off8 (grid0.coords t) 0 < 32) (h1 : k0_off8 (grid0.coords t) 1 < 8) : (ix2 ⟨k0_off8 (grid0.coords t) 0, h0⟩ ⟨k0_off8 (grid0.coords t) 1, h1⟩ : (⟨2, ![32, 8]⟩ : Shape).Idx) = ix2 (6 : Fin 32) (⟨t.val, lt_of_lt_of_eq t.isLt N_0⟩ : Fin 8) :=
  ix_of ((by decide +kernel : ∀ t : Fin grid0.N, k0_off8 (grid0.coords t) 0 = 6 ∧ k0_off8 (grid0.coords t) 1 = t.val) t) h0 h1 (by decide) _

/-- Where a word of the bias table is read. -/
theorem off9 (t : Fin cfg0.N) (h0 : k0_off9 (grid0.coords t) 0 < 32) (h1 : k0_off9 (grid0.coords t) 1 < 8) : (ix2 ⟨k0_off9 (grid0.coords t) 0, h0⟩ ⟨k0_off9 (grid0.coords t) 1, h1⟩ : (⟨2, ![32, 8]⟩ : Shape).Idx) = ix2 (7 : Fin 32) (⟨t.val, lt_of_lt_of_eq t.isLt N_0⟩ : Fin 8) :=
  ix_of ((by decide +kernel : ∀ t : Fin grid0.N, k0_off9 (grid0.coords t) 0 = 7 ∧ k0_off9 (grid0.coords t) 1 = t.val) t) h0 h1 (by decide) _

/-- Where a word of the bias table is read. -/
theorem off10 (t : Fin cfg0.N) (h0 : k0_off10 (grid0.coords t) 0 < 32) (h1 : k0_off10 (grid0.coords t) 1 < 8) : (ix2 ⟨k0_off10 (grid0.coords t) 0, h0⟩ ⟨k0_off10 (grid0.coords t) 1, h1⟩ : (⟨2, ![32, 8]⟩ : Shape).Idx) = ix2 (8 : Fin 32) (⟨t.val, lt_of_lt_of_eq t.isLt N_0⟩ : Fin 8) :=
  ix_of ((by decide +kernel : ∀ t : Fin grid0.N, k0_off10 (grid0.coords t) 0 = 8 ∧ k0_off10 (grid0.coords t) 1 = t.val) t) h0 h1 (by decide) _

/-- Where a word of the bias table is read. -/
theorem off11 (t : Fin cfg0.N) (h0 : k0_off11 (grid0.coords t) 0 < 32) (h1 : k0_off11 (grid0.coords t) 1 < 8) : (ix2 ⟨k0_off11 (grid0.coords t) 0, h0⟩ ⟨k0_off11 (grid0.coords t) 1, h1⟩ : (⟨2, ![32, 8]⟩ : Shape).Idx) = ix2 (9 : Fin 32) (⟨t.val, lt_of_lt_of_eq t.isLt N_0⟩ : Fin 8) :=
  ix_of ((by decide +kernel : ∀ t : Fin grid0.N, k0_off11 (grid0.coords t) 0 = 9 ∧ k0_off11 (grid0.coords t) 1 = t.val) t) h0 h1 (by decide) _

/-- Where a word of the bias table is read. -/
theorem off12 (t : Fin cfg0.N) (h0 : k0_off12 (grid0.coords t) 0 < 32) (h1 : k0_off12 (grid0.coords t) 1 < 8) : (ix2 ⟨k0_off12 (grid0.coords t) 0, h0⟩ ⟨k0_off12 (grid0.coords t) 1, h1⟩ : (⟨2, ![32, 8]⟩ : Shape).Idx) = ix2 (10 : Fin 32) (⟨t.val, lt_of_lt_of_eq t.isLt N_0⟩ : Fin 8) :=
  ix_of ((by decide +kernel : ∀ t : Fin grid0.N, k0_off12 (grid0.coords t) 0 = 10 ∧ k0_off12 (grid0.coords t) 1 = t.val) t) h0 h1 (by decide) _

/-- Where a word of the bias table is read. -/
theorem off13 (t : Fin cfg0.N) (h0 : k0_off13 (grid0.coords t) 0 < 32) (h1 : k0_off13 (grid0.coords t) 1 < 8) : (ix2 ⟨k0_off13 (grid0.coords t) 0, h0⟩ ⟨k0_off13 (grid0.coords t) 1, h1⟩ : (⟨2, ![32, 8]⟩ : Shape).Idx) = ix2 (11 : Fin 32) (⟨t.val, lt_of_lt_of_eq t.isLt N_0⟩ : Fin 8) :=
  ix_of ((by decide +kernel : ∀ t : Fin grid0.N, k0_off13 (grid0.coords t) 0 = 11 ∧ k0_off13 (grid0.coords t) 1 = t.val) t) h0 h1 (by decide) _

/-- Where a word of the bias table is read. -/
theorem off14 (t : Fin cfg0.N) (h0 : k0_off14 (grid0.coords t) 0 < 32) (h1 : k0_off14 (grid0.coords t) 1 < 8) : (ix2 ⟨k0_off14 (grid0.coords t) 0, h0⟩ ⟨k0_off14 (grid0.coords t) 1, h1⟩ : (⟨2, ![32, 8]⟩ : Shape).Idx) = ix2 (12 : Fin 32) (⟨t.val, lt_of_lt_of_eq t.isLt N_0⟩ : Fin 8) :=
  ix_of ((by decide +kernel : ∀ t : Fin grid0.N, k0_off14 (grid0.coords t) 0 = 12 ∧ k0_off14 (grid0.coords t) 1 = t.val) t) h0 h1 (by decide) _

/-- Where a word of the bias table is read. -/
theorem off15 (t : Fin cfg0.N) (h0 : k0_off15 (grid0.coords t) 0 < 32) (h1 : k0_off15 (grid0.coords t) 1 < 8) : (ix2 ⟨k0_off15 (grid0.coords t) 0, h0⟩ ⟨k0_off15 (grid0.coords t) 1, h1⟩ : (⟨2, ![32, 8]⟩ : Shape).Idx) = ix2 (13 : Fin 32) (⟨t.val, lt_of_lt_of_eq t.isLt N_0⟩ : Fin 8) :=
  ix_of ((by decide +kernel : ∀ t : Fin grid0.N, k0_off15 (grid0.coords t) 0 = 13 ∧ k0_off15 (grid0.coords t) 1 = t.val) t) h0 h1 (by decide) _

/-- Where a word of the bias table is read. -/
theorem off16 (t : Fin cfg0.N) (h0 : k0_off16 (grid0.coords t) 0 < 32) (h1 : k0_off16 (grid0.coords t) 1 < 8) : (ix2 ⟨k0_off16 (grid0.coords t) 0, h0⟩ ⟨k0_off16 (grid0.coords t) 1, h1⟩ : (⟨2, ![32, 8]⟩ : Shape).Idx) = ix2 (14 : Fin 32) (⟨t.val, lt_of_lt_of_eq t.isLt N_0⟩ : Fin 8) :=
  ix_of ((by decide +kernel : ∀ t : Fin grid0.N, k0_off16 (grid0.coords t) 0 = 14 ∧ k0_off16 (grid0.coords t) 1 = t.val) t) h0 h1 (by decide) _

/-- Where a word of the bias table is read. -/
theorem off17 (t : Fin cfg0.N) (h0 : k0_off17 (grid0.coords t) 0 < 32) (h1 : k0_off17 (grid0.coords t) 1 < 8) : (ix2 ⟨k0_off17 (grid0.coords t) 0, h0⟩ ⟨k0_off17 (grid0.coords t) 1, h1⟩ : (⟨2, ![32, 8]⟩ : Shape).Idx) = ix2 (15 : Fin 32) (⟨t.val, lt_of_lt_of_eq t.isLt N_0⟩ : Fin 8) :=
  ix_of ((by decide +kernel : ∀ t : Fin grid0.N, k0_off17 (grid0.coords t) 0 = 15 ∧ k0_off17 (grid0.coords t) 1 = t.val) t) h0 h1 (by decide) _

/-- Where a word of the bias table is read. -/
theorem off18 (t : Fin cfg0.N) (h0 : k0_off18 (grid0.coords t) 0 < 32) (h1 : k0_off18 (grid0.coords t) 1 < 8) : (ix2 ⟨k0_off18 (grid0.coords t) 0, h0⟩ ⟨k0_off18 (grid0.coords t) 1, h1⟩ : (⟨2, ![32, 8]⟩ : Shape).Idx) = ix2 (16 : Fin 32) (⟨t.val, lt_of_lt_of_eq t.isLt N_0⟩ : Fin 8) :=
  ix_of ((by decide +kernel : ∀ t : Fin grid0.N, k0_off18 (grid0.coords t) 0 = 16 ∧ k0_off18 (grid0.coords t) 1 = t.val) t) h0 h1 (by decide) _

/-- Where a word of the bias table is read. -/
theorem off19 (t : Fin cfg0.N) (h0 : k0_off19 (grid0.coords t) 0 < 32) (h1 : k0_off19 (grid0.coords t) 1 < 8) : (ix2 ⟨k0_off19 (grid0.coords t) 0, h0⟩ ⟨k0_off19 (grid0.coords t) 1, h1⟩ : (⟨2, ![32, 8]⟩ : Shape).Idx) = ix2 (17 : Fin 32) (⟨t.val, lt_of_lt_of_eq t.isLt N_0⟩ : Fin 8) :=
  ix_of ((by decide +kernel : ∀ t : Fin grid0.N, k0_off19 (grid0.coords t) 0 = 17 ∧ k0_off19 (grid0.coords t) 1 = t.val) t) h0 h1 (by decide) _

/-- Where a word of the bias table is read. -/
theorem off20 (t : Fin cfg0.N) (h0 : k0_off20 (grid0.coords t) 0 < 32) (h1 : k0_off20 (grid0.coords t) 1 < 8) : (ix2 ⟨k0_off20 (grid0.coords t) 0, h0⟩ ⟨k0_off20 (grid0.coords t) 1, h1⟩ : (⟨2, ![32, 8]⟩ : Shape).Idx) = ix2 (18 : Fin 32) (⟨t.val, lt_of_lt_of_eq t.isLt N_0⟩ : Fin 8) :=
  ix_of ((by decide +kernel : ∀ t : Fin grid0.N, k0_off20 (grid0.coords t) 0 = 18 ∧ k0_off20 (grid0.coords t) 1 = t.val) t) h0 h1 (by decide) _

/-- Where a word of the bias table is read. -/
theorem off21 (t : Fin cfg0.N) (h0 : k0_off21 (grid0.coords t) 0 < 32) (h1 : k0_off21 (grid0.coords t) 1 < 8) : (ix2 ⟨k0_off21 (grid0.coords t) 0, h0⟩ ⟨k0_off21 (grid0.coords t) 1, h1⟩ : (⟨2, ![32, 8]⟩ : Shape).Idx) = ix2 (19 : Fin 32) (⟨t.val, lt_of_lt_of_eq t.isLt N_0⟩ : Fin 8) :=
  ix_of ((by decide +kernel : ∀ t : Fin grid0.N, k0_off21 (grid0.coords t) 0 = 19 ∧ k0_off21 (grid0.coords t) 1 = t.val) t) h0 h1 (by decide) _

/-- Where a word of the bias table is read. -/
theorem off22 (t : Fin cfg0.N) (h0 : k0_off22 (grid0.coords t) 0 < 32) (h1 : k0_off22 (grid0.coords t) 1 < 8) : (ix2 ⟨k0_off22 (grid0.coords t) 0, h0⟩ ⟨k0_off22 (grid0.coords t) 1, h1⟩ : (⟨2, ![32, 8]⟩ : Shape).Idx) = ix2 (20 : Fin 32) (⟨t.val, lt_of_lt_of_eq t.isLt N_0⟩ : Fin 8) :=
  ix_of ((by decide +kernel : ∀ t : Fin grid0.N, k0_off22 (grid0.coords t) 0 = 20 ∧ k0_off22 (grid0.coords t) 1 = t.val) t) h0 h1 (by decide) _

/-- Where a word of the bias table is read. -/
theorem off23 (t : Fin cfg0.N) (h0 : k0_off23 (grid0.coords t) 0 < 32) (h1 : k0_off23 (grid0.coords t) 1 < 8) : (ix2 ⟨k0_off23 (grid0.coords t) 0, h0⟩ ⟨k0_off23 (grid0.coords t) 1, h1⟩ : (⟨2, ![32, 8]⟩ : Shape).Idx) = ix2 (21 : Fin 32) (⟨t.val, lt_of_lt_of_eq t.isLt N_0⟩ : Fin 8) :=
  ix_of ((by decide +kernel : ∀ t : Fin grid0.N, k0_off23 (grid0.coords t) 0 = 21 ∧ k0_off23 (grid0.coords t) 1 = t.val) t) h0 h1 (by decide) _

/-- Where a word of the bias table is read. -/
theorem off24 (t : Fin cfg0.N) (h0 : k0_off24 (grid0.coords t) 0 < 32) (h1 : k0_off24 (grid0.coords t) 1 < 8) : (ix2 ⟨k0_off24 (grid0.coords t) 0, h0⟩ ⟨k0_off24 (grid0.coords t) 1, h1⟩ : (⟨2, ![32, 8]⟩ : Shape).Idx) = ix2 (22 : Fin 32) (⟨t.val, lt_of_lt_of_eq t.isLt N_0⟩ : Fin 8) :=
  ix_of ((by decide +kernel : ∀ t : Fin grid0.N, k0_off24 (grid0.coords t) 0 = 22 ∧ k0_off24 (grid0.coords t) 1 = t.val) t) h0 h1 (by decide) _

/-- Where a word of the bias table is read. -/
theorem off25 (t : Fin cfg0.N) (h0 : k0_off25 (grid0.coords t) 0 < 32) (h1 : k0_off25 (grid0.coords t) 1 < 8) : (ix2 ⟨k0_off25 (grid0.coords t) 0, h0⟩ ⟨k0_off25 (grid0.coords t) 1, h1⟩ : (⟨2, ![32, 8]⟩ : Shape).Idx) = ix2 (23 : Fin 32) (⟨t.val, lt_of_lt_of_eq t.isLt N_0⟩ : Fin 8) :=
  ix_of ((by decide +kernel : ∀ t : Fin grid0.N, k0_off25 (grid0.coords t) 0 = 23 ∧ k0_off25 (grid0.coords t) 1 = t.val) t) h0 h1 (by decide) _

/-- Where a word of the bias table is read. -/
theorem off26 (t : Fin cfg0.N) (h0 : k0_off26 (grid0.coords t) 0 < 32) (h1 : k0_off26 (grid0.coords t) 1 < 8) : (ix2 ⟨k0_off26 (grid0.coords t) 0, h0⟩ ⟨k0_off26 (grid0.coords t) 1, h1⟩ : (⟨2, ![32, 8]⟩ : Shape).Idx) = ix2 (24 : Fin 32) (⟨t.val, lt_of_lt_of_eq t.isLt N_0⟩ : Fin 8) :=
  ix_of ((by decide +kernel : ∀ t : Fin grid0.N, k0_off26 (grid0.coords t) 0 = 24 ∧ k0_off26 (grid0.coords t) 1 = t.val) t) h0 h1 (by decide) _

/-- Where a word of the bias table is read. -/
theorem off27 (t : Fin cfg0.N) (h0 : k0_off27 (grid0.coords t) 0 < 32) (h1 : k0_off27 (grid0.coords t) 1 < 8) : (ix2 ⟨k0_off27 (grid0.coords t) 0, h0⟩ ⟨k0_off27 (grid0.coords t) 1, h1⟩ : (⟨2, ![32, 8]⟩ : Shape).Idx) = ix2 (25 : Fin 32) (⟨t.val, lt_of_lt_of_eq t.isLt N_0⟩ : Fin 8) :=
  ix_of ((by decide +kernel : ∀ t : Fin grid0.N, k0_off27 (grid0.coords t) 0 = 25 ∧ k0_off27 (grid0.coords t) 1 = t.val) t) h0 h1 (by decide) _

/-- Where a word of the bias table is read. -/
theorem off28 (t : Fin cfg0.N) (h0 : k0_off28 (grid0.coords t) 0 < 32) (h1 : k0_off28 (grid0.coords t) 1 < 8) : (ix2 ⟨k0_off28 (grid0.coords t) 0, h0⟩ ⟨k0_off28 (grid0.coords t) 1, h1⟩ : (⟨2, ![32, 8]⟩ : Shape).Idx) = ix2 (26 : Fin 32) (⟨t.val, lt_of_lt_of_eq t.isLt N_0⟩ : Fin 8) :=
  ix_of ((by decide +kernel : ∀ t : Fin grid0.N, k0_off28 (grid0.coords t) 0 = 26 ∧ k0_off28 (grid0.coords t) 1 = t.val) t) h0 h1 (by decide) _

/-- Where a word of the bias table is read. -/
theorem off29 (t : Fin cfg0.N) (h0 : k0_off29 (grid0.coords t) 0 < 32) (h1 : k0_off29 (grid0.coords t) 1 < 8) : (ix2 ⟨k0_off29 (grid0.coords t) 0, h0⟩ ⟨k0_off29 (grid0.coords t) 1, h1⟩ : (⟨2, ![32, 8]⟩ : Shape).Idx) = ix2 (27 : Fin 32) (⟨t.val, lt_of_lt_of_eq t.isLt N_0⟩ : Fin 8) :=
  ix_of ((by decide +kernel : ∀ t : Fin grid0.N, k0_off29 (grid0.coords t) 0 = 27 ∧ k0_off29 (grid0.coords t) 1 = t.val) t) h0 h1 (by decide) _

/-- Where a word of the bias table is read. -/
theorem off30 (t : Fin cfg0.N) (h0 : k0_off30 (grid0.coords t) 0 < 32) (h1 : k0_off30 (grid0.coords t) 1 < 8) : (ix2 ⟨k0_off30 (grid0.coords t) 0, h0⟩ ⟨k0_off30 (grid0.coords t) 1, h1⟩ : (⟨2, ![32, 8]⟩ : Shape).Idx) = ix2 (28 : Fin 32) (⟨t.val, lt_of_lt_of_eq t.isLt N_0⟩ : Fin 8) :=
  ix_of ((by decide +kernel : ∀ t : Fin grid0.N, k0_off30 (grid0.coords t) 0 = 28 ∧ k0_off30 (grid0.coords t) 1 = t.val) t) h0 h1 (by decide) _

/-- Where a word of the bias table is read. -/
theorem off31 (t : Fin cfg0.N) (h0 : k0_off31 (grid0.coords t) 0 < 32) (h1 : k0_off31 (grid0.coords t) 1 < 8) : (ix2 ⟨k0_off31 (grid0.coords t) 0, h0⟩ ⟨k0_off31 (grid0.coords t) 1, h1⟩ : (⟨2, ![32, 8]⟩ : Shape).Idx) = ix2 (29 : Fin 32) (⟨t.val, lt_of_lt_of_eq t.isLt N_0⟩ : Fin 8) :=
  ix_of ((by decide +kernel : ∀ t : Fin grid0.N, k0_off31 (grid0.coords t) 0 = 29 ∧ k0_off31 (grid0.coords t) 1 = t.val) t) h0 h1 (by decide) _

/-- Where a word of the bias table is read. -/
theorem off32 (t : Fin cfg0.N) (h0 : k0_off32 (grid0.coords t) 0 < 32) (h1 : k0_off32 (grid0.coords t) 1 < 8) : (ix2 ⟨k0_off32 (grid0.coords t) 0, h0⟩ ⟨k0_off32 (grid0.coords t) 1, h1⟩ : (⟨2, ![32, 8]⟩ : Shape).Idx) = ix2 (30 : Fin 32) (⟨t.val, lt_of_lt_of_eq t.isLt N_0⟩ : Fin 8) :=
  ix_of ((by decide +kernel : ∀ t : Fin grid0.N, k0_off32 (grid0.coords t) 0 = 30 ∧ k0_off32 (grid0.coords t) 1 = t.val) t) h0 h1 (by decide) _

/-- The scaled difference between a bucket's bias and the last bucket's, for one head. -/
def sd (X : FVec Ideal S32x8 .f32) (h : Fin 8) (b : Fin 32) : EReal := (X (ix2 b h) - X (ix2 (31 : Fin 32) h)) * Ideal.ofBits FTy.f32 1069066811#32

set_option maxHeartbeats 2000000 in
/-- What a grid point stores: one head's tiles. -/
theorem stored_at (c : Dev nD) (t : Fin cfg0.N)
    (kB : ∀ (d : Fin 2) (r z : Fin 512) (n : ℕ), (d.val * 512 + r.val) * 512 + z.val = n → iblk m c 1 t (ix3 d r z) = BitVec.ofNat 32 (tb n))
    (kz : sd (iblk m c 0 t) ⟨t.val, lt_of_lt_of_eq t.isLt N_0⟩ 31 = 0) (d : Fin 2) (r z : Fin 512) :
    outsAt0 m c t (ix4 (0 : Fin 1) d r z) = if z.val ≤ d.val * 512 + r.val then sd (iblk m c 0 t) ⟨t.val, lt_of_lt_of_eq t.isLt N_0⟩ ⟨bk (d.val * 512 + r.val - z.val), bk_lt _⟩ else ⊥ := by
  unfold outsAt0
  unfold out0_A_2
  frame_open
  frame_out
  generalize iblk m c 0 t = X at kz ⊢
  generalize iblk m c 1 t = B at kB ⊢
  canon_tiles x h
  all_goals obtain ⟨p, q, rfl⟩ : ∃ (p q : Fin 128), x = ix4 (0 : Fin 1) (0 : Fin 1) p q := ⟨x 2, x 3, by funext i; fin_cases i <;> first | rfl | exact Subsingleton.elim (α := Fin 1) _ _⟩
  all_goals (have hp := p.isLt; have hq := q.isLt; have hrl := r.isLt; have hzl := z.isLt)
  all_goals (have a1 : (ix4 (0 : Fin 1) d r z 1).val = d.val := rfl; have a2 : (ix4 (0 : Fin 1) d r z 2).val = r.val := rfl; have a3 : (ix4 (0 : Fin 1) d r z 3).val = z.val := rfl)
  all_goals (have b2 : (ix4 (0 : Fin 1) (0 : Fin 1) p q 2).val = p.val := rfl; have b3 : (ix4 (0 : Fin 1) (0 : Fin 1) p q 3).val = q.val := rfl)
  -- far below the diagonal
  case piece0 | piece1 | piece2 | piece3 | piece4 | piece5 | piece6 | piece7 | piece8 | piece9 | piece10 | piece11 | piece13 | piece14 | piece15 | piece18 | piece19 | piece23 =>
    refine Eq.trans ?_ (tileZ (sd X ⟨t.val, lt_of_lt_of_eq t.isLt N_0⟩) ⊥ 0 kz (d.val * 512 + r.val) z.val (by omega))
    open_payloads
    pointwise
  -- above the diagonal
  case piece20 | piece24 | piece25 | piece28 | piece29 | piece30 =>
    refine Eq.trans ?_ (tileU (sd X ⟨t.val, lt_of_lt_of_eq t.isLt N_0⟩) ⊥ (d.val * 512 + r.val) z.val (by omega))
    open_payloads
    pointwise
    rfl
  -- below the diagonal
  case piece12 | piece17 | piece22 | piece27 =>
    refine Eq.trans ?_ (tileS (sd X ⟨t.val, lt_of_lt_of_eq t.isLt N_0⟩) ⊥ 0 kz _ (d.val * 512 + r.val) z.val z.isLt (by omega) (kB d r z _ rfl))
    clear a1 a2 a3
    obtain ⟨d, hd⟩ := d
    obtain ⟨r, hr⟩ := r
    obtain ⟨z, hz⟩ := z
    obtain rfl : d = _ := h1
    obtain rfl : r = _ := h2
    obtain rfl : z = _ := h3
    open_payloads
    pointwise
    simp only [off1, off2, off3, off4, off5, off6, off7, off8, off9, off10, off11, off12, off13, off14, off15, off16, off17, off18, off19, off20, off21, off22, off23, off24, off25, off26, off27, off28, off29, off30, off31, off32]
    rfl
  -- on the diagonal
  case piece16 | piece21 | piece26 | piece31 =>
    refine Eq.trans ?_ (tileD (sd X ⟨t.val, lt_of_lt_of_eq t.isLt N_0⟩) ⊥ 0 kz _ (d.val * 512 + r.val) z.val z.isLt (kB d r z _ rfl))
    clear a1 a2 a3
    obtain ⟨d, hd⟩ := d
    obtain ⟨r, hr⟩ := r
    obtain ⟨z, hz⟩ := z
    obtain rfl : d = _ := h1
    obtain rfl : r = _ := h2
    obtain rfl : z = _ := h3
    open_payloads
    pointwise
    simp only [off1, off2, off3, off4, off5, off6, off7, off8, off9, off10, off11, off12, off13, off14, off15, off16, off17, off18, off19, off20, off21, off22, off23, off24, off25, off26, off27, off28, off29, off30, off31, off32]
    rfl

end Cert.BiasTilesIdeal.Value

end
-- ==== Proof.BiasTilesArray.lean ====
/- The array the call `BiasTiles` ends with is its reference's. -/
module

public import proofs.«01_k».proof.Proof.BiasTilesValue
public import proofs.«01_k».proof.Proof.Gen.Pre_finite_last
public import Idealize.ShloMosaic.Lib.ReduceAll
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.BiasTilesIdeal.Value

open Cert.BiasTilesIdeal Cert.BiasTilesIdeal.Gen Cert.BiasLog

variable (m : (ℓ : Loc nD τ sig) → Buf (Elt Ideal) ℓ)

/-- The block each window holds at a grid point. -/
theorem idx_at : ∀ t : Fin cfg0.N, win0_0.index t = ![0, 0] ∧ win0_1.index t = ![0, 0, 0] ∧ win0_2.index t = ![t.val, 0, 0, 0] :=
  (by decide +kernel : ∀ t : Fin grid0.N, _)

/-- The block of the bias table is the table. -/
theorem in0 (c : Dev nD) (t : Fin cfg0.N) (b : Fin 32) (h : Fin 8) : iblk m c 0 t (ix2 b h) = m ((c : Thread nD τ).loc main_arg0) (ix2 b h) := by
  refine Eq.trans (b := V m c main_arg0 ((win0_0.blk t).view.emb (ix2 b h))) rfl ?_
  have e : (win0_0.blk t).view.emb (ix2 b h) = ix2 b h := by
    blk_ext [idx_at t]
  rw [e]
  rfl

/-- The positions in the line that the entries of the words are taken from. -/
def POS : IVec S2x512x512 32 := addi Cert.BiasTilesRefIdeal.Value.REL (broadcastInDim S2x512x512 ![] bcast_S_S2x512x512 (constantI S_ 32 511#32))

/-- The positions, a negative one counted from the line's end. -/
def PIX : IVec S2x512x512 32 := select (cmpi .slt POS (broadcastInDim S2x512x512 ![] bcast_S_S2x512x512 (constantI S_ 32 0#32))) (addi POS (broadcastInDim S2x512x512 ![] bcast_S_S2x512x512 (constantI S_ 32 1535#32))) POS

/-- The words the call is given. -/
theorem V_c (c : Dev nD) : V m c main_v21 = Host.gather gather_S1535_S2x512x512x1_S2x512x512_n_0_n_n_0_3_1 (fun i => lit0 (S1535.rowMajor i)) (broadcastInDim S2x512x512x1 ![0, 1, 2] bcast_S2x512x512_S2x512x512x1_0_1_2 PIX) := by
  unfold V
  generalize hl : (fun i : S1535.Idx => lit0 (S1535.rowMajor i)) = l
  simp only [List.flatten_cons, List.flatten_nil, List.append_nil, List.cons_append, List.nil_append]
  after_reads_simp
  rw [← hl]
  rfl

/-- An entry of a line taken by its number. -/
theorem gather_at (x : IVec S1535 32) (idx : IVec S2x512x512x1 32) (d : Fin 2) (r c : Fin 512) :
    Host.gather gather_S1535_S2x512x512x1_S2x512x512_n_0_n_n_0_3_1 x idx (ix3 d r c) = x (ix1 ⟨min (idx (ix4 d r c (0 : Fin 1))).toInt.toNat 1534, by omega⟩) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S1535_S2x512x512x1_S2x512x512_n_0_n_n_0_3_1.startIndexMap from List.mem_singleton.mpr rfl)]
    have hsi : gather_S1535_S2x512x512x1_S2x512x512_n_0_n_n_0_3_1.siIdx (ix3 d r c) ⟨List.idxOf (0 : Fin 1) gather_S1535_S2x512x512x1_S2x512x512_n_0_n_n_0_3_1.startIndexMap,
        List.idxOf_lt_length_iff.2 (List.mem_singleton.mpr rfl)⟩ = ix4 d r c (0 : Fin 1) := by
      funext b; refine Fin.ext ?_
      match b with
      | ⟨0, _⟩ => rfl
      | ⟨1, _⟩ => rfl
      | ⟨2, _⟩ => rfl
      | ⟨3, _⟩ => rfl
    rw [hsi]
    rfl

/-- A word below two thousand is its own signed reading. -/
theorem toInt_nat (n : ℕ) (hn : n < 2000) : (BitVec.ofNat 32 n).toInt = n := by
  rw [BitVec.toInt_eq_toNat_cond, BitVec.toNat_ofNat]
  split <;> omega

/-- A position in the line. -/
theorem POS_at (d : Fin 2) (r z : Fin 512) : POS (ix3 d r z) = BitVec.ofNat 32 (d.val * 512 + r.val + 511 - z.val) := by
  have h1 := d.isLt
  have h2 := r.isLt
  have h3 := z.isLt
  pointwise [POS]
  rw [Cert.BiasTilesRefIdeal.Value.REL_at]
  unfold IntOp.addi IntOp.subi
  apply BitVec.eq_of_toNat_eq
  rw [BitVec.toNat_add, BitVec.toNat_sub, BitVec.toNat_ofNat, BitVec.toNat_ofNat, BitVec.toNat_ofNat, BitVec.toNat_ofNat]
  omega

/-- No position in the line is negative. -/
theorem PIX_at (d : Fin 2) (r z : Fin 512) : PIX (ix3 d r z) = BitVec.ofNat 32 (d.val * 512 + r.val + 511 - z.val) := by
  have h1 := d.isLt
  have h2 := r.isLt
  have h3 := z.isLt
  have hp := POS_at d r z
  pointwise [PIX]
  rw [hp]
  have hN : d.val * 512 + r.val + 511 - z.val < 2000 := by omega
  generalize d.val * 512 + r.val + 511 - z.val = n at hN ⊢
  unfold Scalar.select IntOp.cmpi
  have hs : (BitVec.ofNat 32 n).slt 0#32 = false := by
    rw [BitVec.slt, toInt_nat _ hN, decide_eq_false_iff_not]
    show ¬ (_ < (0 : ℤ))
    omega
  rw [if_neg (by simp only [hs]; decide)]

/-- Where the block of the words lies. -/
theorem emb1 (t : Fin cfg0.N) (d : Fin 2) (r z : Fin 512) : (win0_1.blk t).view.emb (ix3 d r z) = ix3 d r z := by
  blk_ext [idx_at t]

/-- A word of the line at a coordinate. -/
theorem line_ix (k : Fin 1535) (n : ℕ) (h : k.val = n) : lit0 (S1535.rowMajor (ix1 k)) = LT n := by
  have hj : (S1535.rowMajor (ix1 k)).val = n := by
    rw [Shape.rowMajor_val_one]
    exact h
  exact Eq.trans (b := LT (S1535.rowMajor (ix1 k)).val) (lit0_at (S1535.rowMajor (ix1 k))) (congrArg LT hj)

/-- The block's entry is the words' entry. -/
theorem in1_a (c : Dev nD) (t : Fin cfg0.N) (d : Fin 2) (r z : Fin 512) : iblk m c 1 t (ix3 d r z) = V m c main_v21 (ix3 d r z) := by
  refine Eq.trans (b := V m c main_v21 ((win0_1.blk t).view.emb (ix3 d r z))) rfl ?_
  rewrite [emb1]
  rfl

/-- The position an entry of the words is taken from. -/
theorem ix_at (d : Fin 2) (r z : Fin 512) : min ((broadcastInDim S2x512x512x1 ![0, 1, 2] bcast_S2x512x512_S2x512x512x1_0_1_2 PIX) (ix4 d r z (0 : Fin 1))).toInt.toNat 1534 = d.val * 512 + r.val + 511 - z.val := by
  have h1 := d.isLt
  have h2 := r.isLt
  have h3 := z.isLt
  have hi : (broadcastInDim S2x512x512x1 ![0, 1, 2] bcast_S2x512x512_S2x512x512x1_0_1_2 PIX) (ix4 d r z (0 : Fin 1)) = BitVec.ofNat 32 (d.val * 512 + r.val + 511 - z.val) := by
    rw [← PIX_at]
    pointwise
  rw [hi, toInt_nat _ (by omega)]
  omega

/-- An entry of the words. -/
theorem in1_b (c : Dev nD) (d : Fin 2) (r z : Fin 512) : V m c main_v21 (ix3 d r z) = LT (d.val * 512 + r.val + 511 - z.val) := by
  refine (congrFun (V_c m c) (ix3 d r z)).trans ?_
  refine (gather_at _ _ d r z).trans ?_
  exact line_ix _ _ (ix_at d r z)

/-- The block of the words is the table of buckets. -/
theorem in1 (c : Dev nD) (t : Fin cfg0.N) (d : Fin 2) (r z : Fin 512) (n : ℕ) (hn : (d.val * 512 + r.val) * 512 + z.val = n) : iblk m c 1 t (ix3 d r z) = BitVec.ofNat 32 (tb n) := by
  have h1 := d.isLt
  have h2 := r.isLt
  rewrite [in1_a, in1_b, LT_at _ _ (by omega) z.isLt, hn]
  rfl

/-- Where the result's block lies. -/
theorem emb2 (t : Fin cfg0.N) (d : Fin 2) (r z : Fin 512) : (win0_2.blk t).view.emb (ix4 (0 : Fin 1) d r z) = ix4 (⟨t.val, lt_of_lt_of_eq t.isLt N_0⟩ : Fin 8) d r z := by
  blk_ext [idx_at t]

/-- The scaled difference read from a block of the bias table. -/
theorem sd_in (c : Dev nD) (t : Fin cfg0.N) (h : Fin 8) (b : Fin 32) : sd (iblk m c 0 t) h b = sd (m ((c : Thread nD τ).loc main_arg0)) h b := by
  unfold sd
  rw [in0, in0]

/-- What a grid point stores is the reference's entry at the array index the block index sits at. -/
theorem block_at (c : Dev nD) (hf : ∀ h : Fin 8, sd (m ((c : Thread nD τ).loc main_arg0)) h 31 = 0) (t : Fin cfg0.N) (y) : outsAt0 m c t y
    = Cert.BiasTilesRefIdeal.Value.REF (m ((c : Thread nD τ).loc main_arg0)) (((cfg0.win 2).blk t).view.emb y) := by
  obtain ⟨d, r, z, rfl⟩ : ∃ (d : Fin 2) (r z : Fin 512), y = ix4 (0 : Fin 1) d r z := ⟨y 1, y 2, y 3, by funext i; fin_cases i <;> first | rfl | exact Subsingleton.elim (α := Fin 1) _ _⟩
  refine (stored_at m c t (in1 m c t) ((sd_in m c t _ _).trans (hf _)) d r z).trans ?_
  refine Eq.trans ?_ (congrArg (Cert.BiasTilesRefIdeal.Value.REF (m ((c : Thread nD τ).loc main_arg0))) (emb2 t d r z)).symm
  rw [Cert.BiasTilesRefIdeal.Value.REF_at, sd_in]
  rfl

/-- The result array after the run. -/
theorem final_array (c : Dev nD) (hf : ∀ h : Fin 8, sd (m ((c : Thread nD τ).loc main_arg0)) h 31 = 0) : (dats m 0 c).arrAt 2 (cfgs 0).N
    = Cert.BiasTilesRefIdeal.Value.REF (m ((c : Thread nD τ).loc main_arg0)) := by
  refine (dats m 0 c).arrAt_eq_of_covers 2 _ (by decide +kernel) fun t _ y => ?_
  blk_simp
  rw [after0_2]
  exact block_at m c hf t y

/-- A number whose absolute value is below infinity is neither infinity. -/
theorem finite_of_abs (x : EReal) (h : (FloatOps.cmpf .olt (FloatOps.absf x : Ideal .f32) (FloatOps.ofBits .f32 0x7F800000#32 : Ideal .f32)) = 1#1) : x ≠ ⊤ ∧ x ≠ ⊥ := by
  have e : (FloatOps.ofBits .f32 0x7F800000#32 : Ideal .f32) = (⊤ : EReal) := by
    show Ideal.ofBits FTy.f32 0x7F800000#32 = ⊤
    simp [Ideal.ofBits, Ideal.ieee]
  rw [e] at h
  constructor
  · rintro rfl
    revert h
    simp [Ideal.cmpf_def, Ideal.absf_def, Ideal.cmp]
  · rintro rfl
    revert h
    simp [Ideal.cmpf_def, Ideal.absf_def, Ideal.cmp]

/-- A bias table whose last bucket is finite: the last bucket's scaled difference with itself is zero. -/
theorem last_zero (X : FVec Ideal S32x8 .f32) (hX : Cert.Pre_finite_last.fn (F := Ideal) X = fun _ => 1#1) (h : Fin 8) : sd X h 31 = 0 := by
  have e := Host.reduce_andi_all _ _ _ _ _ (congrFun hX (fun i => i.elim0)) (ix1 h)
  have e' : (FloatOps.cmpf .olt (FloatOps.absf (X (ix2 (31 : Fin 32) h)) : Ideal .f32) (FloatOps.ofBits .f32 0x7F800000#32 : Ideal .f32)) = 1#1 := by
    refine Eq.trans ?_ e
    pointwise
  obtain ⟨h1, h2⟩ := finite_of_abs _ e'
  unfold sd
  rw [EReal.sub_self h1 h2, zero_mul]

end Cert.BiasTilesIdeal.Value

end
-- ==== Proof.BiasTilesClaims.lean ====
/- The claims about the call `BiasTiles`: its reference ends without fault, and over the extended reals the kernel computes what the reference computes, of a table whose last bucket is finite. -/
module

public import proofs.«01_k».proof.Defs
public import proofs.«01_k».proof.Proof.Gen.BiasTiles.Frame
public import proofs.«01_k».proof.Proof.BiasTilesArray
public import proofs.«01_k».proof.Proof.Gen.BiasTilesRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference of `BiasTiles` ends without fault, its argument unchanged. -/
theorem quiescent_BiasTilesRefIdeal : quiescent_BiasTilesRefIdeal := fun m ρ _ =>
  (θ_run Cert.BiasTilesRefIdeal.defs _ _).mono (fun r h => ⟨fun c => (h c).2, sem_eq_zero_of_no_sems (by decide) r.2⟩)
    (Cert.BiasTilesRefIdeal.Value.run (F := Ideal) m ρ)

/-- The call `BiasTiles` and its reference end with the same array. -/
theorem algebraic_BiasTilesIdeal_BiasTilesRefIdeal : algebraic_BiasTilesIdeal_BiasTilesRefIdeal_pre_finite_last := by
  intro m ρ m' ρ' hpre hagree
  refine ⟨fun c => Cert.BiasTilesRefIdeal.Value.REF (m (c.tc.loc Cert.BiasTilesIdeal.main_arg0)),
    (θ_run Cert.BiasTilesIdeal.defs _ _).mono (fun r h c => ⟨(h c).1.trans (Cert.BiasTilesIdeal.Value.final_array m c (Cert.BiasTilesIdeal.Value.last_zero _ (hpre c))), (h c).2⟩)
      (Cert.BiasTilesIdeal.Value.run_blocks (F := Ideal) m ρ), ?_⟩
  refine (θ_run Cert.BiasTilesRefIdeal.defs _ _).mono (fun r h c => ⟨(h c).1.trans ?_, (h c).2⟩)
    (Cert.BiasTilesRefIdeal.Value.run (F := Ideal) m' ρ')
  have h0 := hagree c
  refine (Cert.BiasTilesRefIdeal.Value.res_eq m' c).trans ?_
  rw [h0]

end Cert.Proof

end
-- ==== Proof.lean ====
module

public import proofs.«01_k».proof.Defs
public import proofs.«01_k».proof.Proof.GlaClaims
public import proofs.«01_k».proof.Proof.MlpClaims
public import proofs.«01_k».proof.Proof.ProjLnClaims
public import proofs.«01_k».proof.Proof.ProjClaims
public import proofs.«01_k».proof.Proof.QkvClaims
public import proofs.«01_k».proof.Proof.RwProjClaims
public import proofs.«01_k».proof.Proof.GateProjClaims
public import proofs.«01_k».proof.Proof.BiasTilesClaims
public import proofs.«01_k».proof.Proof.Gen.Pre_finite_last

@[expose] public section

noncomputable section

namespace Cert.Proof

open Idealize.ShloMosaic Idealize.SL.Sem

/-- All the claims. -/
theorem claim : Cert.Claim :=
  ⟨Cert.Gla.Gen.facts,
    Cert.GlaIdeal.Gen.facts,
    Cert.GlaRefIdeal.Gen.facts,
    Cert.Mlp.Gen.facts,
    Cert.MlpIdeal.Gen.facts,
    Cert.MlpRefIdeal.Gen.facts,
    Cert.ProjLn.Gen.facts,
    Cert.ProjLnIdeal.Gen.facts,
    Cert.ProjLnRefIdeal.Gen.facts,
    Cert.Proj.Gen.facts,
    Cert.ProjIdeal.Gen.facts,
    Cert.ProjRefIdeal.Gen.facts,
    Cert.Qkv.Gen.facts,
    Cert.QkvIdeal.Gen.facts,
    Cert.QkvRefIdeal.Gen.facts,
    Cert.RwProj.Gen.facts,
    Cert.RwProjIdeal.Gen.facts,
    Cert.RwProjRefIdeal.Gen.facts,
    Cert.GateProj.Gen.facts,
    Cert.GateProjIdeal.Gen.facts,
    Cert.GateProjRefIdeal.Gen.facts,
    Cert.BiasTiles.Gen.facts,
    Cert.BiasTilesIdeal.Gen.facts,
    Cert.BiasTilesRefIdeal.Gen.facts,
    Cert.Pre_finite_last.Gen.facts,
    fun m ρ _ => Cert.Gla.Gen.frame m ρ,
    fun m ρ _ => Cert.GlaIdeal.Gen.frame m ρ,
    quiescent_GlaRefIdeal,
    fun m ρ _ => Cert.Mlp.Gen.frame m ρ,
    fun m ρ _ => Cert.MlpIdeal.Gen.frame m ρ,
    quiescent_MlpRefIdeal,
    fun m ρ _ => Cert.ProjLn.Gen.frame m ρ,
    fun m ρ _ => Cert.ProjLnIdeal.Gen.frame m ρ,
    quiescent_ProjLnRefIdeal,
    fun m ρ _ => Cert.Proj.Gen.frame m ρ,
    fun m ρ _ => Cert.ProjIdeal.Gen.frame m ρ,
    quiescent_ProjRefIdeal,
    fun m ρ _ => Cert.Qkv.Gen.frame m ρ,
    fun m ρ _ => Cert.QkvIdeal.Gen.frame m ρ,
    quiescent_QkvRefIdeal,
    fun m ρ _ => Cert.RwProj.Gen.frame m ρ,
    fun m ρ _ => Cert.RwProjIdeal.Gen.frame m ρ,
    quiescent_RwProjRefIdeal,
    fun m ρ _ => Cert.GateProj.Gen.frame m ρ,
    fun m ρ _ => Cert.GateProjIdeal.Gen.frame m ρ,
    quiescent_GateProjRefIdeal,
    fun m ρ _ => Cert.BiasTiles.Gen.frame m ρ,
    fun m ρ _ => Cert.BiasTilesIdeal.Gen.frame m ρ,
    fun m ρ _ => Cert.BiasTilesIdeal.Gen.frame m ρ,
    quiescent_BiasTilesRefIdeal,
    fun m ρ _ => quiescent_BiasTilesRefIdeal m ρ trivial,
    (trivial : preserves_Gla_GlaIdeal),
    algebraic_GlaIdeal_GlaRefIdeal,
    (trivial : preserves_Mlp_MlpIdeal),
    algebraic_MlpIdeal_MlpRefIdeal,
    (trivial : preserves_ProjLn_ProjLnIdeal),
    algebraic_ProjLnIdeal_ProjLnRefIdeal,
    (trivial : preserves_Proj_ProjIdeal),
    algebraic_ProjIdeal_ProjRefIdeal,
    (trivial : preserves_Qkv_QkvIdeal),
    algebraic_QkvIdeal_QkvRefIdeal,
    (trivial : preserves_RwProj_RwProjIdeal),
    algebraic_RwProjIdeal_RwProjRefIdeal,
    (trivial : preserves_GateProj_GateProjIdeal),
    algebraic_GateProjIdeal_GateProjRefIdeal,
    (IdealRules.named_const.statement Cert.BiasTilesIdeal.κ "mask" .f32 0xF149F2CA#32 ⊥ rfl : preserves_BiasTiles_BiasTilesIdeal),
    algebraic_BiasTilesIdeal_BiasTilesRefIdeal⟩

end Cert.Proof

end
